-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attention_inputs [hPre_attention_inputs : Cert.Pre_attention_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_attention_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attention_inputs [hPre_attention_inputs : Cert.Pre_attention_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attention_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 [hPre_expert_tables : Cert.Pre_expert_tables.Facts] (m : (ℓ : Loc Cert.Kernel2.nD Cert.Kernel2.τ Cert.Kernel2.sig) → Buf (Elt Bits) ℓ) : Prop :=
  ∀ c : Dev Cert.Kernel2.nD,
    (Cert.Pre_expert_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_expert_tables : Cert.Pre_expert_tables.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_expert_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_expert_tables [hPre_expert_tables : Cert.Pre_expert_tables.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_expert_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_projection [hPre_finite_projection : Cert.Pre_finite_projection.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_projection.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_projection [hPre_finite_projection : Cert.Pre_finite_projection.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_projection.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_attention_inputs [hKernelIdeal : Cert.KernelIdeal.Facts] [hPre_attention_inputs : Cert.Pre_attention_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attention_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_attention_inputs [hReferenceIdeal : Cert.ReferenceIdeal.Facts] [hPre_attention_inputs : Cert.Pre_attention_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attention_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] [hPre_expert_tables : Cert.Pre_expert_tables.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_expert_tables : Cert.Pre_expert_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_expert_tables [hReference2Ideal : Cert.Reference2Ideal.Facts] [hPre_expert_tables : Cert.Pre_expert_tables.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_expert_tables m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite_projection [hKernel5Ideal : Cert.Kernel5Ideal.Facts] [hPre_finite_projection : Cert.Pre_finite_projection.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_projection m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite_projection [hReference5Ideal : Cert.Reference5Ideal.Facts] [hPre_finite_projection : Cert.Pre_finite_projection.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_projection m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal_pre_attention_inputs [hKernelIdeal : Cert.KernelIdeal.Facts] [hReferenceIdeal : Cert.ReferenceIdeal.Facts] [hPre_attention_inputs : Cert.Pre_attention_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attention_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] [hPre_expert_tables : Cert.Pre_expert_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_v47) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite_projection [hKernel5Ideal : Cert.Kernel5Ideal.Facts] [hReference5Ideal : Cert.Reference5Ideal.Facts] [hPre_finite_projection : Cert.Pre_finite_projection.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_projection m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v56_0)) (v1 : (c : Dev Cert.Kernel5Ideal.nD) → Buf (Elt Ideal) ((c.tc : Thread Cert.Kernel5Ideal.nD Cert.Kernel5Ideal.τ).loc Cert.Kernel5Ideal.main_v56_1)) (v2 : (c : Dev Cert.Kernel5Ideal.nD) → Buf (Elt Ideal) ((c.tc : Thread Cert.Kernel5Ideal.nD Cert.Kernel5Ideal.τ).loc Cert.Kernel5Ideal.main_v56_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v56_0) = v0 c
          ∧ r.2.mem ((c.tc : Thread Cert.Kernel5Ideal.nD Cert.Kernel5Ideal.τ).loc Cert.Kernel5Ideal.main_v56_1) = v1 c
          ∧ r.2.mem ((c.tc : Thread Cert.Kernel5Ideal.nD Cert.Kernel5Ideal.τ).loc Cert.Kernel5Ideal.main_v56_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v127) = v0 c
          ∧ r.2.mem ((c.tc : Thread Cert.Reference5Ideal.nD Cert.Reference5Ideal.τ).loc Cert.Reference5Ideal.main_v128) = v1 c
          ∧ r.2.mem ((c.tc : Thread Cert.Reference5Ideal.nD Cert.Reference5Ideal.τ).loc Cert.Reference5Ideal.main_v129) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v31)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v31) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v54) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v72)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v72) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v91) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_attention_inputs : Cert.Pre_attention_inputs.Facts) (hPre_expert_tables : Cert.Pre_expert_tables.Facts) (hPre_finite_projection : Cert.Pre_finite_projection.Facts),
    quiescent_Kernel (hKernel := hKernel)
    ∧ quiescent_KernelIdeal (hKernelIdeal := hKernelIdeal)
    ∧ quiescent_KernelIdeal_pre_attention_inputs (hKernelIdeal := hKernelIdeal) (hPre_attention_inputs := hPre_attention_inputs)
    ∧ quiescent_ReferenceIdeal (hReferenceIdeal := hReferenceIdeal)
    ∧ quiescent_ReferenceIdeal_pre_attention_inputs (hReferenceIdeal := hReferenceIdeal) (hPre_attention_inputs := hPre_attention_inputs)
    ∧ quiescent_Kernel2 (hKernel2 := hKernel2) (hPre_expert_tables := hPre_expert_tables)
    ∧ quiescent_Kernel2Ideal (hKernel2Ideal := hKernel2Ideal) (hPre_expert_tables := hPre_expert_tables)
    ∧ quiescent_Reference2Ideal (hReference2Ideal := hReference2Ideal)
    ∧ quiescent_Reference2Ideal_pre_expert_tables (hReference2Ideal := hReference2Ideal) (hPre_expert_tables := hPre_expert_tables)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_projection (hKernel5Ideal := hKernel5Ideal) (hPre_finite_projection := hPre_finite_projection)
    ∧ quiescent_Reference5Ideal (hReference5Ideal := hReference5Ideal)
    ∧ quiescent_Reference5Ideal_pre_finite_projection (hReference5Ideal := hReference5Ideal) (hPre_finite_projection := hPre_finite_projection)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_attention_inputs (hKernelIdeal := hKernelIdeal) (hReferenceIdeal := hReferenceIdeal) (hPre_attention_inputs := hPre_attention_inputs)
    ∧ preserves_Kernel2_Kernel2Ideal
    ∧ algebraic_Kernel2Ideal_Reference2Ideal (hKernel2Ideal := hKernel2Ideal) (hReference2Ideal := hReference2Ideal) (hPre_expert_tables := hPre_expert_tables)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_projection (hKernel5Ideal := hKernel5Ideal) (hReference5Ideal := hReference5Ideal) (hPre_finite_projection := hPre_finite_projection)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_attention_inputs.lean ====
abbrev S2x4096x3072 : Shape := ⟨3, ![2, 4096, 3072]⟩
abbrev S2x4x144x4096 : Shape := ⟨4, ![2, 4, 144, 4096]⟩
abbrev S2x4096x2560 : Shape := ⟨3, ![2, 4096, 2560]⟩
abbrev S_ : Shape := ⟨0, ![]⟩
abbrev S2x4x1x4096 : Shape := ⟨4, ![2, 4, 1, 4096]⟩
abbrev S2x4x4096 : Shape := ⟨3, ![2, 4, 4096]⟩

class Facts : Prop where
  slices_S2x4096x3072_S2x4096x2560_0_0_0 : S2x4096x3072.Slices ![0, 0, 0] S2x4096x2560
  bcast_S_S2x4096x2560 : S_.BroadcastsInDim S2x4096x2560 (![] : Fin 0 → Fin S2x4096x2560.rank)
  reducesTo_S2x4096x2560_S_d0_1_2 : S2x4096x2560.ReducesTo [0, 1, 2] S_
  h_S_ : 0 < S_.numel
  slices_S2x4x144x4096_S2x4x1x4096_0_0_128_0 : S2x4x144x4096.Slices ![0, 0, 128, 0] S2x4x1x4096
  shapeCasts_S2x4x1x4096_S2x4x4096 : S2x4x1x4096.ShapeCasts S2x4x4096
  bcast_S_S2x4x4096 : S_.BroadcastsInDim S2x4x4096 (![] : Fin 0 → Fin S2x4x4096.rank)
  reducesTo_S2x4x4096_S_d0_1_2 : S2x4x4096.ReducesTo [0, 1, 2] S_

variable [Facts]

def fn {F : FTy → Type} [FloatOps F] (main_arg0 : FVec F S2x4096x3072 .bf16) (main_arg1 : FVec F S2x4x144x4096 .bf16) : IVec S_ 1 :=
  let main_v0 : FVec F S2x4096x2560 .bf16 := (extractStridedSlice S2x4096x2560 ![0, 0, 0] · slices_S2x4096x3072_S2x4096x2560_0_0_0) main_arg0
  let main_v1 : FVec F S2x4096x2560 .bf16 := Host.absf main_v0
  let main_cst : FVec F S_ .bf16 := constant S_ .bf16 0x7F80#16
  let main_v2 : FVec F S2x4096x2560 .bf16 := broadcastInDim S2x4096x2560 ![] bcast_S_S2x4096x2560 main_cst
  let main_v3 : IVec S2x4096x2560 1 := cmpf .olt main_v1 main_v2
  let main_c : IVec S_ 1 := constantI S_ 1 1#1
  let main_v4 : IVec S_ 1 := (fun x v => Host.reduce IntOp.andi x v reducesTo_S2x4096x2560_S_d0_1_2 h_S_) main_v3 main_c
  let main_v5 : FVec F S2x4x1x4096 .bf16 := (extractStridedSlice S2x4x1x4096 ![0, 0, 128, 0] · slices_S2x4x144x4096_S2x4x1x4096_0_0_128_0) main_arg1
  let main_v6 : FVec F S2x4x4096 .bf16 := shapeCast S2x4x4096 main_v5 shapeCasts_S2x4x1x4096_S2x4x4096
  let main_cst_0 : FVec F S_ .bf16 := constant S_ .bf16 0x3F80#16
  let main_v7 : FVec F S2x4x4096 .bf16 := broadcastInDim S2x4x4096 ![] bcast_S_S2x4x4096 main_cst_0
  let main_v8 : IVec S2x4x4096 1 := cmpf .oeq main_v6 main_v7
  let main_c_1 : IVec S_ 1 := constantI S_ 1 1#1
  let main_v9 : IVec S_ 1 := (fun x v => Host.reduce IntOp.andi x v reducesTo_S2x4x4096_S_d0_1_2 h_S_) main_v8 main_c_1
  let main_v10 : IVec S_ 1 := andi main_v4 main_v9
  main_v10
-- ==== Pre_expert_tables.lean ====
abbrev S192 : Shape := ⟨1, ![192]⟩
abbrev S1 : Shape := ⟨1, ![1]⟩
abbrev S98304x1024 : Shape := ⟨2, ![98304, 1024]⟩
abbrev S2x32x2048x512 : Shape := ⟨4, ![2, 32, 2048, 512]⟩
abbrev S2x32x512x2048 : Shape := ⟨4, ![2, 32, 512, 2048]⟩
abbrev S_ : Shape := ⟨0, ![]⟩

class Facts : Prop where
  bcast_S_S192 : S_.BroadcastsInDim S192 (![] : Fin 0 → Fin S192.rank)
  reducesTo_S192_S_d0 : S192.ReducesTo [0] S_
  h_S_ : 0 < S_.numel
  bcast_S_S1 : S_.BroadcastsInDim S1 (![] : Fin 0 → Fin S1.rank)
  reducesTo_S1_S_d0 : S1.ReducesTo [0] S_
  bcast_S1_S192_0 : S1.BroadcastsInDim S192 (![0] : Fin 1 → Fin S192.rank)

variable [Facts]

def fn_part1 {F : FTy → Type} [FloatOps F] (main_arg1 : IVec S192 32) (main_arg2 : IVec S1 32) (main_v0 : IVec S192 32) (main_v14 : IVec S_ 1) (main_v15 : IVec S192 32) : IVec S_ 1 :=
  let main_v16 : IVec S192 1 := cmpi .eq main_arg1 main_v15
  let main_v17 : IVec S192 32 := broadcastInDim S192 ![0] bcast_S1_S192_0 main_arg2
  let main_v18 : IVec S192 1 := cmpi .slt main_v0 main_v17
  let main_v19 : IVec S192 1 := ori main_v16 main_v18
  let main_c_7 : IVec S_ 1 := constantI S_ 1 1#1
  let main_v20 : IVec S_ 1 := (fun x v => Host.reduce IntOp.andi x v reducesTo_S192_S_d0 h_S_) main_v19 main_c_7
  let main_v21 : IVec S_ 1 := andi main_v14 main_v20
  main_v21

def fn {F : FTy → Type} [FloatOps F] (main_arg0 : IVec S192 32) (main_arg1 : IVec S192 32) (main_arg2 : IVec S1 32) (main_arg3 : IVec S98304x1024 32) (main_arg4 : FVec F S2x32x2048x512 .f32) (main_arg5 : FVec F S2x32x2048x512 .f32) (main_arg6 : FVec F S2x32x512x2048 .f32) : IVec S_ 1 :=
  let main_v0 : IVec S192 32 := iotaInDim S192 32 0
  let main_c : IVec S_ 32 := constantI S_ 32 0#32
  let main_v1 : IVec S192 32 := broadcastInDim S192 ![] bcast_S_S192 main_c
  let main_v2 : IVec S192 1 := cmpi .sge main_arg0 main_v1
  let main_c_0 : IVec S_ 32 := constantI S_ 32 32#32
  let main_v3 : IVec S192 32 := broadcastInDim S192 ![] bcast_S_S192 main_c_0
  let main_v4 : IVec S192 1 := cmpi .slt main_arg0 main_v3
  let main_v5 : IVec S192 1 := andi main_v2 main_v4
  let main_c_1 : IVec S_ 1 := constantI S_ 1 1#1
  let main_v6 : IVec S_ 1 := (fun x v => Host.reduce IntOp.andi x v reducesTo_S192_S_d0 h_S_) main_v5 main_c_1
  let main_c_2 : IVec S_ 32 := constantI S_ 32 0#32
  let main_v7 : IVec S192 32 := broadcastInDim S192 ![] bcast_S_S192 main_c_2
  let main_v8 : IVec S192 1 := cmpi .sge main_arg1 main_v7
  let main_c_3 : IVec S_ 1 := constantI S_ 1 1#1
  let main_v9 : IVec S_ 1 := (fun x v => Host.reduce IntOp.andi x v reducesTo_S192_S_d0 h_S_) main_v8 main_c_3
  let main_v10 : IVec S_ 1 := andi main_v6 main_v9
  let main_c_4 : IVec S_ 32 := constantI S_ 32 1#32
  let main_v11 : IVec S1 32 := broadcastInDim S1 ![] bcast_S_S1 main_c_4
  let main_v12 : IVec S1 1 := cmpi .sge main_arg2 main_v11
  let main_c_5 : IVec S_ 1 := constantI S_ 1 1#1
  let main_v13 : IVec S_ 1 := (fun x v => Host.reduce IntOp.andi x v reducesTo_S1_S_d0 h_S_) main_v12 main_c_5
  let main_v14 : IVec S_ 1 := andi main_v10 main_v13
  let main_c_6 : IVec S_ 32 := constantI S_ 32 0#32
  let main_v15 : IVec S192 32 := broadcastInDim S192 ![] bcast_S_S192 main_c_6
  fn_part1 (F := F) main_arg1 main_arg2 main_v0 main_v14 main_v15
-- ==== Pre_finite_projection.lean ====
abbrev S8192x2048 : Shape := ⟨2, ![8192, 2048]⟩
abbrev S1x2048 : Shape := ⟨2, ![1, 2048]⟩
abbrev S2048x3072 : Shape := ⟨2, ![2048, 3072]⟩
abbrev S128 : Shape := ⟨1, ![128]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S2048x3072 : S_.BroadcastsInDim S2048x3072 (![] : Fin 0 → Fin S2048x3072.rank)
  reducesTo_S2048x3072_S_d0_1 : S2048x3072.ReducesTo [0, 1] S_

variable [Facts]

def fn {F : FTy → Type} [FloatOps F] (main_arg0 : FVec F S8192x2048 .f32) (main_arg1 : FVec F S1x2048 .f32) (main_arg2 : FVec F S2048x3072 .bf16) (main_arg3 : FVec F S128 .f32) (main_arg4 : FVec F S128 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S2048x3072 .bf16 := Host.absf main_arg2
  let main_cst_2 : FVec F S_ .bf16 := constant S_ .bf16 0x7F80#16
  let main_v10 : FVec F S2048x3072 .bf16 := broadcastInDim S2048x3072 ![] bcast_S_S2048x3072 main_cst_2
  let main_v11 : IVec S2048x3072 1 := cmpf .olt main_v9 main_v10
  let main_c_3 : IVec S_ 1 := constantI S_ 1 1#1
  let main_v12 : IVec S_ 1 := (fun x v => Host.reduce IntOp.andi x v reducesTo_S2048x3072_S_d0_1 h_S_) main_v11 main_c_3
  let main_v13 : IVec S_ 1 := andi main_v8 main_v12
  main_v13
-- ==== Kernel.lean ====
abbrev S2x4096x3072 : Shape := ⟨3, ![2, 4096, 3072]⟩
abbrev S2x4x144x4096 : Shape := ⟨4, ![2, 4, 144, 4096]⟩
abbrev S2x4096x2048 : Shape := ⟨3, ![2, 4096, 2048]⟩
abbrev S1x512x512 : Shape := ⟨3, ![1, 512, 512]⟩
abbrev S1x4096x128 : Shape := ⟨3, ![1, 4096, 128]⟩
abbrev S1x1x144x4096 : Shape := ⟨4, ![1, 1, 144, 4096]⟩
abbrev S128x2048 : Shape := ⟨2, ![128, 2048]⟩
abbrev S144x2048 : Shape := ⟨2, ![144, 2048]⟩
abbrev S1x512x128 : Shape := ⟨3, ![1, 512, 128]⟩
abbrev S512x128 : Shape := ⟨2, ![512, 128]⟩
abbrev S128x512 : Shape := ⟨2, ![128, 512]⟩
abbrev S512x2048 : Shape := ⟨2, ![512, 2048]⟩
abbrev S1x1x144x512 : Shape := ⟨4, ![1, 1, 144, 512]⟩
abbrev S144x512 : Shape := ⟨2, ![144, 512]⟩
abbrev S1x2048 : Shape := ⟨2, ![1, 2048]⟩

abbrev nBuf : Space → Nat
  | .hbm => 3
  | .vmem => 10
  | .smem => 0
  | _ => 0

abbrev bufTy : (tb : Table) → Fin (tcTables nBuf tb) → BufTy
  | .hbm, ⟨0, _⟩ => ⟨S2x4096x3072, .bf16⟩
  | .hbm, ⟨1, _⟩ => ⟨S2x4x144x4096, .bf16⟩
  | .hbm, ⟨2, _⟩ => ⟨S2x4096x2048, .bf16⟩
  | .local _ .vmem, ⟨0, _⟩ => ⟨S1x512x512, .bf16⟩
  | .local _ .vmem, ⟨1, _⟩ => ⟨S1x512x512, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x1x144x4096, .bf16⟩
  | .local _ .vmem, ⟨5, _⟩ => ⟨S1x1x144x4096, .bf16⟩
  | .local _ .vmem, ⟨6, _⟩ => ⟨S1x512x512, .bf16⟩
  | .local _ .vmem, ⟨7, _⟩ => ⟨S1x512x512, .bf16⟩
  | .local _ .vmem, ⟨8, _⟩ => ⟨S128x2048, .bf16⟩
  | .local _ .vmem, ⟨9, _⟩ => ⟨S144x2048, .f32⟩
  | _, _ => ⟨S2x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def k0_mult1 : BitVec 32 :=
  let c0_i32 : BitVec 32 := 0#32
  let c512_i32 : BitVec 32 := 512#32
  let v36 : BitVec 32 := Scalar.muli c0_i32 c512_i32
  v36
def k0_off1 (c0_i32 : BitVec 32) : Fin 3 → Nat :=
  let c0_15 : Index := 0#32
  let c512_i32 : BitVec 32 := 512#32
  let v36 : BitVec 32 := Scalar.muli c0_i32 c512_i32
  let v37 : BitVec 32 := v36
  let v38 : Index := Scalar.indexCast v37
  let c0_16 : Index := 0#32
  ![0, v38.toNat, 0]
def k0_off2 (c0_i32 : BitVec 32) : Fin 4 → Nat :=
  let c0_22 : Index := 0#32
  let c0_23 : Index := 0#32
  let c0_24 : Index := 0#32
  let c512_i32 : BitVec 32 := 512#32
  let v36 : BitVec 32 := Scalar.muli c0_i32 c512_i32
  let v37 : BitVec 32 := v36
  let v44 : Index := Scalar.indexCast v37
  ![0, 0, 0, v44.toNat]
def k0_mult2 : BitVec 32 :=
  let c1_i32 : BitVec 32 := 1#32
  let c512_i32_28 : BitVec 32 := 512#32
  let v54 : BitVec 32 := Scalar.muli c1_i32 c512_i32_28
  v54
def k0_mult3 : BitVec 32 :=
  let c2_i32 : BitVec 32 := 2#32
  let c512_i32_42 : BitVec 32 := 512#32
  let v72 : BitVec 32 := Scalar.muli c2_i32 c512_i32_42
  v72
def k0_mult4 : BitVec 32 :=
  let c3_i32 : BitVec 32 := 3#32
  let c512_i32_56 : BitVec 32 := 512#32
  let v90 : BitVec 32 := Scalar.muli c3_i32 c512_i32_56
  v90
def k0_mult5 : BitVec 32 :=
  let c4_i32 : BitVec 32 := 4#32
  let c512_i32_70 : BitVec 32 := 512#32
  let v108 : BitVec 32 := Scalar.muli c4_i32 c512_i32_70
  v108
def k0_mult6 : BitVec 32 :=
  let c5_i32 : BitVec 32 := 5#32
  let c512_i32_84 : BitVec 32 := 512#32
  let v126 : BitVec 32 := Scalar.muli c5_i32 c512_i32_84
  v126
def k0_mult7 : BitVec 32 :=
  let c6_i32 : BitVec 32 := 6#32
  let c512_i32_98 : BitVec 32 := 512#32
  let v144 : BitVec 32 := Scalar.muli c6_i32 c512_i32_98
  v144
def k0_mult8 : BitVec 32 :=
  let c7_i32 : BitVec 32 := 7#32
  let c512_i32_112 : BitVec 32 := 512#32
  let v162 : BitVec 32 := Scalar.muli c7_i32 c512_i32_112
  v162
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x144x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x4096x3072 : Shape := ⟨3, ![2, 4096, 3072]⟩
abbrev S2x4x144x4096 : Shape := ⟨4, ![2, 4, 144, 4096]⟩
abbrev S2x4096x2048 : Shape := ⟨3, ![2, 4096, 2048]⟩
abbrev S2x4096x4x4x128 : Shape := ⟨5, ![2, 4096, 4, 4, 128]⟩
abbrev S2x4096x512 : Shape := ⟨3, ![2, 4096, 512]⟩
abbrev S2x4096x4x128 : Shape := ⟨4, ![2, 4096, 4, 128]⟩
abbrev S2x4x128x4096 : Shape := ⟨4, ![2, 4, 128, 4096]⟩
abbrev S2x4x4096x4096x4 : Shape := ⟨5, ![2, 4, 4096, 4096, 4]⟩
abbrev S2x4x4x4096x4096 : Shape := ⟨5, ![2, 4, 4, 4096, 4096]⟩
abbrev S_ : Shape := ⟨0, ![]⟩
abbrev S2x4x4x4096 : Shape := ⟨4, ![2, 4, 4, 4096]⟩
abbrev S2x4x4x4096x1 : Shape := ⟨5, ![2, 4, 4, 4096, 1]⟩
abbrev S2x4x128x4x4096 : Shape := ⟨5, ![2, 4, 128, 4, 4096]⟩

abbrev nBuf : Space → Nat
  | .hbm => 33
  | .vmem => 0
  | .smem => 0
  | _ => 0

abbrev bufTy : (tb : Table) → Fin (tcTables nBuf tb) → BufTy
  | .hbm, ⟨0, _⟩ => ⟨S2x4096x3072, .bf16⟩
  | .hbm, ⟨1, _⟩ => ⟨S2x4x144x4096, .bf16⟩
  | .hbm, ⟨2, _⟩ => ⟨S2x4096x3072, .f32⟩
  | .hbm, ⟨3, _⟩ => ⟨S2x4096x2048, .f32⟩
  | .hbm, ⟨4, _⟩ => ⟨S2x4096x4x4x128, .f32⟩
  | .hbm, ⟨5, _⟩ => ⟨S2x4096x512, .f32⟩
  | .hbm, ⟨6, _⟩ => ⟨S2x4096x4x128, .f32⟩
  | .hbm, ⟨7, _⟩ => ⟨S2x4x128x4096, .bf16⟩
  | .hbm, ⟨8, _⟩ => ⟨S2x4x128x4096, .f32⟩
  | .hbm, ⟨9, _⟩ => ⟨S2x4x4096x4096x4, .f32⟩
  | .hbm, ⟨10, _⟩ => ⟨S2x4x4x4096x4096, .f32⟩
  | .hbm, ⟨11, _⟩ => ⟨S_, .f32⟩
  | .hbm, ⟨12, _⟩ => ⟨S_, .f32⟩
  | .hbm, ⟨13, _⟩ => ⟨S2x4x4x4096x4096, .f32⟩
  | .hbm, ⟨14, _⟩ => ⟨S2x4x4x4096x4096, .f32⟩
  | .hbm, ⟨15, _⟩ => ⟨S_, .f32⟩
  | .hbm, ⟨16, _⟩ => ⟨S2x4x4x4096, .f32⟩
  | .hbm, ⟨17, _⟩ => ⟨S_, .f32⟩
  | .hbm, ⟨18, _⟩ => ⟨S2x4x4x4096, .f32⟩
  | .hbm, ⟨19, _⟩ => ⟨S2x4x4x4096, .f32⟩
  | .hbm, ⟨20, _⟩ => ⟨S2x4x4x4096x1, .f32⟩
  | .hbm, ⟨21, _⟩ => ⟨S2x4x4x4096x4096, .f32⟩
  | .hbm, ⟨22, _⟩ => ⟨S2x4x4x4096x4096, .f32⟩
  | .hbm, ⟨23, _⟩ => ⟨S2x4x4x4096x4096, .f32⟩
  | .hbm, ⟨24, _⟩ => ⟨S_, .f32⟩
  | .hbm, ⟨25, _⟩ => ⟨S2x4x4x4096, .f32⟩
  | .hbm, ⟨26, _⟩ => ⟨S2x4x4x4096x1, .f32⟩
  | .hbm, ⟨27, _⟩ => ⟨S2x4x4x4096x4096, .f32⟩
  | .hbm, ⟨28, _⟩ => ⟨S2x4x4x4096x4096, .f32⟩
  | .hbm, ⟨29, _⟩ => ⟨S2x4x128x4x4096, .f32⟩
  | .hbm, ⟨30, _⟩ => ⟨S2x4096x4x4x128, .f32⟩
  | .hbm, ⟨31, _⟩ => ⟨S2x4096x2048, .f32⟩
  | .hbm, ⟨32, _⟩ => ⟨S2x4096x2048, .bf16⟩
  | _, _ => ⟨S2x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel2.lean ====
abbrev S192 : Shape := ⟨1, ![192]⟩
abbrev S1 : Shape := ⟨1, ![1]⟩
abbrev S98304x1024 : Shape := ⟨2, ![98304, 1024]⟩
abbrev S2x32x2048x512 : Shape := ⟨4, ![2, 32, 2048, 512]⟩
abbrev S2x32x512x2048 : Shape := ⟨4, ![2, 32, 512, 2048]⟩
abbrev S98304x2048 : Shape := ⟨2, ![98304, 2048]⟩
abbrev S512x1024 : Shape := ⟨2, ![512, 1024]⟩
abbrev S1x1x2048x512 : Shape := ⟨4, ![1, 1, 2048, 512]⟩
abbrev S1x1x512x2048 : Shape := ⟨4, ![1, 1, 512, 2048]⟩
abbrev S512x2048 : Shape := ⟨2, ![512, 2048]⟩
abbrev S1x1x1024x512 : Shape := ⟨4, ![1, 1, 1024, 512]⟩
abbrev S1024x512 : Shape := ⟨2, ![1024, 512]⟩
abbrev S512x512 : Shape := ⟨2, ![512, 512]⟩

abbrev nBuf : Space → Nat
  | .hbm => 5
  | .vmem => 10
  | .smem => 3
  | _ => 0

abbrev bufTy : (tb : Table) → Fin (tcTables nBuf tb) → BufTy
  | .hbm, ⟨0, _⟩ => ⟨S98304x1024, .i32⟩
  | .hbm, ⟨1, _⟩ => ⟨S2x32x2048x512, .f32⟩
  | .hbm, ⟨2, _⟩ => ⟨S2x32x2048x512, .f32⟩
  | .hbm, ⟨3, _⟩ => ⟨S2x32x512x2048, .f32⟩
  | .hbm, ⟨4, _⟩ => ⟨S98304x2048, .f32⟩
  | .local _ .vmem, ⟨0, _⟩ => ⟨S512x1024, .i32⟩
  | .local _ .vmem, ⟨1, _⟩ => ⟨S512x1024, .i32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S512x2048, .f32⟩
  | .local _ .vmem, ⟨9, _⟩ => ⟨S512x2048, .f32⟩
  | .local _ .smem, ⟨0, _⟩ => ⟨S192, .i32⟩
  | .local _ .smem, ⟨1, _⟩ => ⟨S192, .i32⟩
  | .local _ .smem, ⟨2, _⟩ => ⟨S1, .i32⟩
  | _, _ => ⟨S98304x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![192], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .sgt v1 c0_i32_1
  let v6 : BitVec 32 := Scalar.extui v5
  let c0_i32_2 : BitVec 32 := 0#32
  let v7 : BitVec 1 := Scalar.cmpi .ne v6 c0_i32_2
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S192.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S192.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S192.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S192 : Shape := ⟨1, ![192]⟩
abbrev S1 : Shape := ⟨1, ![1]⟩
abbrev S98304x1024 : Shape := ⟨2, ![98304, 1024]⟩
abbrev S2x32x2048x512 : Shape := ⟨4, ![2, 32, 2048, 512]⟩
abbrev S2x32x512x2048 : Shape := ⟨4, ![2, 32, 512, 2048]⟩
abbrev S_ : Shape := ⟨0, ![]⟩
abbrev S98304x2048 : Shape := ⟨2, ![98304, 2048]⟩
abbrev S192x512 : Shape := ⟨2, ![192, 512]⟩
abbrev S98304 : Shape := ⟨1, ![98304]⟩
abbrev S98304x1 : Shape := ⟨2, ![98304, 1]⟩
abbrev S32 : Shape := ⟨1, ![32]⟩
abbrev S1x32 : Shape := ⟨2, ![1, 32]⟩
abbrev S98304x32 : Shape := ⟨2, ![98304, 32]⟩
abbrev S1x32x2048x512 : Shape := ⟨4, ![1, 32, 2048, 512]⟩
abbrev S32x2048x512 : Shape := ⟨3, ![32, 2048, 512]⟩
abbrev S32x512x98304 : Shape := ⟨3, ![32, 512, 98304]⟩
abbrev S32x98304x512 : Shape := ⟨3, ![32, 98304, 512]⟩
abbrev S1x32x512x2048 : Shape := ⟨4, ![1, 32, 512, 2048]⟩
abbrev S32x512x2048 : Shape := ⟨3, ![32, 512, 2048]⟩
abbrev S32x98304x2048 : Shape := ⟨3, ![32, 98304, 2048]⟩
abbrev S32x98304 : Shape := ⟨2, ![32, 98304]⟩
abbrev S32x98304x1 : Shape := ⟨3, ![32, 98304, 1]⟩

abbrev nBuf : Space → Nat
  | .hbm => 64
  | .vmem => 0
  | .smem => 0
  | _ => 0

abbrev bufTy : (tb : Table) → Fin (tcTables nBuf tb) → BufTy
  | .hbm, ⟨0, _⟩ => ⟨S192, .i32⟩
  | .hbm, ⟨1, _⟩ => ⟨S192, .i32⟩
  | .hbm, ⟨2, _⟩ => ⟨S1, .i32⟩
  | .hbm, ⟨3, _⟩ => ⟨S98304x1024, .i32⟩
  | .hbm, ⟨4, _⟩ => ⟨S2x32x2048x512, .f32⟩
  | .hbm, ⟨5, _⟩ => ⟨S2x32x2048x512, .f32⟩
  | .hbm, ⟨6, _⟩ => ⟨S2x32x512x2048, .f32⟩
  | .hbm, ⟨7, _⟩ => ⟨S_, .i32⟩
  | .hbm, ⟨8, _⟩ => ⟨S98304x1024, .i32⟩
  | .hbm, ⟨9, _⟩ => ⟨S98304x1024, .i32⟩
  | .hbm, ⟨10, _⟩ => ⟨S98304x1024, .f32⟩
  | .hbm, ⟨11, _⟩ => ⟨S_, .i32⟩
  | .hbm, ⟨12, _⟩ => ⟨S98304x1024, .i32⟩
  | .hbm, ⟨13, _⟩ => ⟨S98304x1024, .i32⟩
  | .hbm, ⟨14, _⟩ => ⟨S98304x1024, .f32⟩
  | .hbm, ⟨15, _⟩ => ⟨S98304x2048, .f32⟩
  | .hbm, ⟨16, _⟩ => ⟨S192x512, .i32⟩
  | .hbm, ⟨17, _⟩ => ⟨S98304, .i32⟩
  | .hbm, ⟨18, _⟩ => ⟨S98304x1, .i32⟩
  | .hbm, ⟨19, _⟩ => ⟨S32, .i32⟩
  | .hbm, ⟨20, _⟩ => ⟨S1x32, .i32⟩
  | .hbm, ⟨21, _⟩ => ⟨S98304x32, .i32⟩
  | .hbm, ⟨22, _⟩ => ⟨S98304x32, .i32⟩
  | .hbm, ⟨23, _⟩ => ⟨S98304x32, .i1⟩
  | .hbm, ⟨24, _⟩ => ⟨S192x512, .i32⟩
  | .hbm, ⟨25, _⟩ => ⟨S98304, .i32⟩
  | .hbm, ⟨26, _⟩ => ⟨S_, .i32⟩
  | .hbm, ⟨27, _⟩ => ⟨S98304, .i32⟩
  | .hbm, ⟨28, _⟩ => ⟨S98304, .i1⟩
  | .hbm, ⟨29, _⟩ => ⟨S98304x1, .i1⟩
  | .hbm, ⟨30, _⟩ => ⟨S98304x32, .i1⟩
  | .hbm, ⟨31, _⟩ => ⟨S98304x32, .i1⟩
  | .hbm, ⟨32, _⟩ => ⟨S_, .f32⟩
  | .hbm, ⟨33, _⟩ => ⟨S_, .f32⟩
  | .hbm, ⟨34, _⟩ => ⟨S98304x32, .f32⟩
  | .hbm, ⟨35, _⟩ => ⟨S98304x32, .f32⟩
  | .hbm, ⟨36, _⟩ => ⟨S98304x32, .f32⟩
  | .hbm, ⟨37, _⟩ => ⟨S1x32x2048x512, .f32⟩
  | .hbm, ⟨38, _⟩ => ⟨S32x2048x512, .f32⟩
  | .hbm, ⟨39, _⟩ => ⟨S32x512x98304, .f32⟩
  | .hbm, ⟨40, _⟩ => ⟨S32x98304x512, .f32⟩
  | .hbm, ⟨41, _⟩ => ⟨S32x98304x512, .f32⟩
  | .hbm, ⟨42, _⟩ => ⟨S32x98304x512, .f32⟩
  | .hbm, ⟨43, _⟩ => ⟨S_, .f32⟩
  | .hbm, ⟨44, _⟩ => ⟨S32x98304x512, .f32⟩
  | .hbm, ⟨45, _⟩ => ⟨S32x98304x512, .f32⟩
  | .hbm, ⟨46, _⟩ => ⟨S_, .f32⟩
  | .hbm, ⟨47, _⟩ => ⟨S32x98304x512, .f32⟩
  | .hbm, ⟨48, _⟩ => ⟨S32x98304x512, .f32⟩
  | .hbm, ⟨49, _⟩ => ⟨S32x98304x512, .f32⟩
  | .hbm, ⟨50, _⟩ => ⟨S1x32x2048x512, .f32⟩
  | .hbm, ⟨51, _⟩ => ⟨S32x2048x512, .f32⟩
  | .hbm, ⟨52, _⟩ => ⟨S32x512x98304, .f32⟩
  | .hbm, ⟨53, _⟩ => ⟨S32x98304x512, .f32⟩
  | .hbm, ⟨54, _⟩ => ⟨S32x98304x512, .f32⟩
  | .hbm, ⟨55, _⟩ => ⟨S1x32x512x2048, .f32⟩
  | .hbm, ⟨56, _⟩ => ⟨S32x512x2048, .f32⟩
  | .hbm, ⟨57, _⟩ => ⟨S32x98304x2048, .f32⟩
  | .hbm, ⟨58, _⟩ => ⟨S32x98304, .f32⟩
  | .hbm, ⟨59, _⟩ => ⟨S32x98304x1, .f32⟩
  | .hbm, ⟨60, _⟩ => ⟨S32x98304x2048, .f32⟩
  | .hbm, ⟨61, _⟩ => ⟨S32x98304x2048, .f32⟩
  | .hbm, ⟨62, _⟩ => ⟨S_, .f32⟩
  | .hbm, ⟨63, _⟩ => ⟨S98304x2048, .f32⟩
  | _, _ => ⟨S192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_3 : Ref sig .tc := ⟨.hbm, 62, rfl⟩
abbrev main_v40 : Ref sig .tc := ⟨.hbm, 63, rfl⟩

abbrev nD : Nat := 1
abbrev τ : Topo := Topo.v7x

variable {F : FTy → Type} [FloatOps F]
-- ==== Kernel3.lean ====
abbrev S8192x2048 : Shape := ⟨2, ![8192, 2048]⟩
abbrev S1x2048 : Shape := ⟨2, ![1, 2048]⟩
abbrev S2048x6144 : Shape := ⟨2, ![2048, 6144]⟩
abbrev S3x6144 : Shape := ⟨2, ![3, 6144]⟩
abbrev S1x6144 : Shape := ⟨2, ![1, 6144]⟩
abbrev S512x2048 : Shape := ⟨2, ![512, 2048]⟩
abbrev S16x2048 : Shape := ⟨2, ![16, 2048]⟩
abbrev S2048x512 : Shape := ⟨2, ![2048, 512]⟩
abbrev S3x512 : Shape := ⟨2, ![3, 512]⟩
abbrev S1x512 : Shape := ⟨2, ![1, 512]⟩
abbrev S512x512 : Shape := ⟨2, ![512, 512]⟩
abbrev S544x2048 : Shape := ⟨2, ![544, 2048]⟩
abbrev S512 : Shape := ⟨1, ![512]⟩
abbrev S512x1 : Shape := ⟨2, ![512, 1]⟩
abbrev S16 : Shape := ⟨1, ![16]⟩
abbrev S16x1 : Shape := ⟨2, ![16, 1]⟩
abbrev S544x512 : Shape := ⟨2, ![544, 512]⟩

abbrev nBuf : Space → Nat
  | .hbm => 7
  | .vmem => 30
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x6144, .bf16⟩
  | .hbm, ⟨3, _⟩ => ⟨S3x6144, .f32⟩
  | .hbm, ⟨4, _⟩ => ⟨S1x6144, .f32⟩
  | .hbm, ⟨5, _⟩ => ⟨S8192x2048, .f32⟩
  | .hbm, ⟨6, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S1x2048, .f32⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S3x512, .f32⟩
  | .local _ .vmem, ⟨14, _⟩ => ⟨S3x512, .f32⟩
  | .local _ .vmem, ⟨15, _⟩ => ⟨S3x512, .f32⟩
  | .local _ .vmem, ⟨16, _⟩ => ⟨S3x512, .f32⟩
  | .local _ .vmem, ⟨17, _⟩ => ⟨S3x512, .f32⟩
  | .local _ .vmem, ⟨18, _⟩ => ⟨S3x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S544x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S3x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S3x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S8192x2048 : Shape := ⟨2, ![8192, 2048]⟩
abbrev S1x2048 : Shape := ⟨2, ![1, 2048]⟩
abbrev S2048x6144 : Shape := ⟨2, ![2048, 6144]⟩
abbrev S3x6144 : Shape := ⟨2, ![3, 6144]⟩
abbrev S1x6144 : Shape := ⟨2, ![1, 6144]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S2048 : Shape := ⟨1, ![2048]⟩
abbrev S1x1x2048 : Shape := ⟨3, ![1, 1, 2048]⟩
abbrev S2x4096x6144 : Shape := ⟨3, ![2, 4096, 6144]⟩
abbrev S2x4098x6144 : Shape := ⟨3, ![2, 4098, 6144]⟩
abbrev S6144 : Shape := ⟨1, ![6144]⟩
abbrev S1x1x6144 : Shape := ⟨3, ![1, 1, 6144]⟩

abbrev nBuf : Space → Nat
  | .hbm => 58
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x6144, .bf16⟩
  | .hbm, ⟨3, _⟩ => ⟨S3x6144, .f32⟩
  | .hbm, ⟨4, _⟩ => ⟨S1x6144, .f32⟩
  | .hbm, ⟨5, _⟩ => ⟨S2x4096x2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S2048x6144, .f32⟩
  | .hbm, ⟨24, _⟩ => ⟨S2x4096x6144, .f32⟩
  | .hbm, ⟨25, _⟩ => ⟨S_, .i32⟩
  | .hbm, ⟨26, _⟩ => ⟨S_, .f32⟩
  | .hbm, ⟨27, _⟩ => ⟨S2x4098x6144, .f32⟩
  | .hbm, ⟨28, _⟩ => ⟨S2x4096x6144, .f32⟩
  | .hbm, ⟨29, _⟩ => ⟨S1x6144, .f32⟩
  | .hbm, ⟨30, _⟩ => ⟨S6144, .f32⟩
  | .hbm, ⟨31, _⟩ => ⟨S1x1x6144, .f32⟩
  | .hbm, ⟨32, _⟩ => ⟨S2x4096x6144, .f32⟩
  | .hbm, ⟨33, _⟩ => ⟨S2x4096x6144, .f32⟩
  | .hbm, ⟨34, _⟩ => ⟨S2x4096x6144, .f32⟩
  | .hbm, ⟨35, _⟩ => ⟨S1x6144, .f32⟩
  | .hbm, ⟨36, _⟩ => ⟨S6144, .f32⟩
  | .hbm, ⟨37, _⟩ => ⟨S1x1x6144, .f32⟩
  | .hbm, ⟨38, _⟩ => ⟨S2x4096x6144, .f32⟩
  | .hbm, ⟨39, _⟩ => ⟨S2x4096x6144, .f32⟩
  | .hbm, ⟨40, _⟩ => ⟨S2x4096x6144, .f32⟩
  | .hbm, ⟨41, _⟩ => ⟨S2x4096x6144, .f32⟩
  | .hbm, ⟨42, _⟩ => ⟨S1x6144, .f32⟩
  | .hbm, ⟨43, _⟩ => ⟨S6144, .f32⟩
  | .hbm, ⟨44, _⟩ => ⟨S1x1x6144, .f32⟩
  | .hbm, ⟨45, _⟩ => ⟨S2x4096x6144, .f32⟩
  | .hbm, ⟨46, _⟩ => ⟨S2x4096x6144, .f32⟩
  | .hbm, ⟨47, _⟩ => ⟨S2x4096x6144, .f32⟩
  | .hbm, ⟨48, _⟩ => ⟨S6144, .f32⟩
  | .hbm, ⟨49, _⟩ => ⟨S1x1x6144, .f32⟩
  | .hbm, ⟨50, _⟩ => ⟨S2x4096x6144, .f32⟩
  | .hbm, ⟨51, _⟩ => ⟨S2x4096x6144, .f32⟩
  | .hbm, ⟨52, _⟩ => ⟨S2x4096x2048, .f32⟩
  | .hbm, ⟨53, _⟩ => ⟨S2x4096x2048, .f32⟩
  | .hbm, ⟨54, _⟩ => ⟨S2x4096x2048, .f32⟩
  | .hbm, ⟨55, _⟩ => ⟨S8192x2048, .f32⟩
  | .hbm, ⟨56, _⟩ => ⟨S2x4096x2048, .f32⟩
  | .hbm, ⟨57, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== Kernel4.lean ====
abbrev S8192x2048 : Shape := ⟨2, ![8192, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8192x2048 : Shape := ⟨2, ![8192, 2048]⟩
abbrev S1x2048 : Shape := ⟨2, ![1, 2048]⟩
abbrev S2048x3072 : Shape := ⟨2, ![2048, 3072]⟩
abbrev S128 : Shape := ⟨1, ![128]⟩
abbrev S2048x2560 : Shape := ⟨2, ![2048, 2560]⟩
abbrev S2048x20x64x2 : Shape := ⟨4, ![2048, 20, 64, 2]⟩
abbrev S2048x20x2x64 : Shape := ⟨4, ![2048, 20, 2, 64]⟩
abbrev S2048x512 : Shape := ⟨2, ![2048, 512]⟩
abbrev S1x64x2 : Shape := ⟨3, ![1, 64, 2]⟩
abbrev S1x2x64 : Shape := ⟨3, ![1, 2, 64]⟩
abbrev S_ : Shape := ⟨0, ![]⟩
abbrev S1x1x128 : Shape := ⟨3, ![1, 1, 128]⟩
abbrev S1x1x1x1x1x128 : Shape := ⟨6, ![1, 1, 1, 1, 1, 128]⟩
abbrev S4x1x1x1x1x128 : Shape := ⟨6, ![4, 1, 1, 1, 1, 128]⟩
abbrev S4x1x128 : Shape := ⟨3, ![4, 1, 128]⟩
abbrev S6x1x128 : Shape := ⟨3, ![6, 1, 128]⟩
abbrev S64 : Shape := ⟨1, ![64]⟩
abbrev S64x64 : Shape := ⟨2, ![64, 64]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S8192x3072 : Shape := ⟨2, ![8192, 3072]⟩
abbrev S8192x1024 : Shape := ⟨2, ![8192, 1024]⟩
abbrev S2x4x144x4096 : Shape := ⟨4, ![2, 4, 144, 4096]⟩
abbrev S512x2048 : Shape := ⟨2, ![512, 2048]⟩
abbrev S512x128 : Shape := ⟨2, ![512, 128]⟩
abbrev S512x512 : Shape := ⟨2, ![512, 512]⟩
abbrev S512x1024 : Shape := ⟨2, ![512, 1024]⟩
abbrev S1x4x144x512 : Shape := ⟨4, ![1, 4, 144, 512]⟩
abbrev S512 : Shape := ⟨1, ![512]⟩
abbrev S512x1 : Shape := ⟨2, ![512, 1]⟩
abbrev S1x128 : Shape := ⟨2, ![1, 128]⟩
abbrev S128x128 : Shape := ⟨2, ![128, 128]⟩
abbrev S16x512 : Shape := ⟨2, ![16, 512]⟩
abbrev S128x512 : Shape := ⟨2, ![128, 512]⟩
abbrev S1x1x128x512 : Shape := ⟨4, ![1, 1, 128, 512]⟩
abbrev S1x1x16x512 : Shape := ⟨4, ![1, 1, 16, 512]⟩

abbrev nBuf : Space → Nat
  | .hbm => 71
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x3072, .bf16⟩
  | .hbm, ⟨3, _⟩ => ⟨S128, .f32⟩
  | .hbm, ⟨4, _⟩ => ⟨S128, .f32⟩
  | .hbm, ⟨5, _⟩ => ⟨S2048x2560, .bf16⟩
  | .hbm, ⟨6, _⟩ => ⟨S2048x20x64x2, .bf16⟩
  | .hbm, ⟨7, _⟩ => ⟨S2048x20x2x64, .bf16⟩
  | .hbm, ⟨8, _⟩ => ⟨S2048x2560, .bf16⟩
  | .hbm, ⟨9, _⟩ => ⟨S2048x512, .bf16⟩
  | .hbm, ⟨10, _⟩ => ⟨S2048x3072, .bf16⟩
  | .hbm, ⟨11, _⟩ => ⟨S1x64x2, .f32⟩
  | .hbm, ⟨12, _⟩ => ⟨S1x2x64, .f32⟩
  | .hbm, ⟨13, _⟩ => ⟨S128, .f32⟩
  | .hbm, ⟨14, _⟩ => ⟨S1x64x2, .f32⟩
  | .hbm, ⟨15, _⟩ => ⟨S1x2x64, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S1x1x128, .f32⟩
  | .hbm, ⟨21, _⟩ => ⟨S1x1x1x1x1x128, .f32⟩
  | .hbm, ⟨22, _⟩ => ⟨S4x1x1x1x1x128, .f32⟩
  | .hbm, ⟨23, _⟩ => ⟨S4x1x128, .f32⟩
  | .hbm, ⟨24, _⟩ => ⟨S1x1x128, .f32⟩
  | .hbm, ⟨25, _⟩ => ⟨S_, .f32⟩
  | .hbm, ⟨26, _⟩ => ⟨S1x1x128, .f32⟩
  | .hbm, ⟨27, _⟩ => ⟨S6x1x128, .f32⟩
  | .hbm, ⟨28, _⟩ => ⟨S64, .f32⟩
  | .hbm, ⟨29, _⟩ => ⟨S64, .f32⟩
  | .hbm, ⟨30, _⟩ => ⟨S64x64, .f32⟩
  | .hbm, ⟨31, _⟩ => ⟨S64x64, .f32⟩
  | .hbm, ⟨32, _⟩ => ⟨S4096, .f32⟩
  | .hbm, ⟨33, _⟩ => ⟨S4096, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S4096x1, .f32⟩
  | .hbm, ⟨51, _⟩ => ⟨S1x32, .f32⟩
  | .hbm, ⟨52, _⟩ => ⟨S4096x32, .f32⟩
  | .hbm, ⟨53, _⟩ => ⟨S4096x32, .f32⟩
  | .hbm, ⟨54, _⟩ => ⟨S4096x32, .f32⟩
  | .hbm, ⟨55, _⟩ => ⟨S4096x1, .f32⟩
  | .hbm, ⟨56, _⟩ => ⟨S1x32, .f32⟩
  | .hbm, ⟨57, _⟩ => ⟨S4096x32, .f32⟩
  | .hbm, ⟨58, _⟩ => ⟨S4096x32, .f32⟩
  | .hbm, ⟨59, _⟩ => ⟨S4096x32, .f32⟩
  | .hbm, ⟨60, _⟩ => ⟨S4096x64, .f32⟩
  | .hbm, ⟨61, _⟩ => ⟨S4096x64, .f32⟩
  | .hbm, ⟨62, _⟩ => ⟨S4096x64, .f32⟩
  | .hbm, ⟨63, _⟩ => ⟨S4096x128, .f32⟩
  | .hbm, ⟨64, _⟩ => ⟨S4096x64, .f32⟩
  | .hbm, ⟨65, _⟩ => ⟨S4096x64, .f32⟩
  | .hbm, ⟨66, _⟩ => ⟨S4096x64, .f32⟩
  | .hbm, ⟨67, _⟩ => ⟨S4096x128, .f32⟩
  | .hbm, ⟨68, _⟩ => ⟨S8192x3072, .bf16⟩
  | .hbm, ⟨69, _⟩ => ⟨S8192x1024, .bf16⟩
  | .hbm, ⟨70, _⟩ => ⟨S2x4x144x4096, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1x1x128, .f32⟩
  | .local _ .vmem, ⟨6, _⟩ => ⟨S1x1x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x512, .bf16⟩
  | .local _ .vmem, ⟨12, _⟩ => ⟨S512x512, .bf16⟩
  | .local _ .vmem, ⟨13, _⟩ => ⟨S512x1024, .bf16⟩
  | .local _ .vmem, ⟨14, _⟩ => ⟨S512x1024, .bf16⟩
  | .local _ .vmem, ⟨15, _⟩ => ⟨S1x4x144x512, .bf16⟩
  | .local _ .vmem, ⟨16, _⟩ => ⟨S1x4x144x512, .bf16⟩
  | .local _ .vmem, ⟨17, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56_0 : Ref sig .tc := ⟨.hbm, 68, rfl⟩
abbrev main_v56_1 : Ref sig .tc := ⟨.hbm, 69, rfl⟩
abbrev main_v56_2 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 6], ![false, false]⟩

def k0_cond2 (i : grid0.Coords) : BitVec 1 :=
  let arg1 : BitVec 32 := BitVec.ofNat 32 (i 1).val
  let c5_i32 : BitVec 32 := 5#32
  let v7 : BitVec 1 := Scalar.cmpi .slt arg1 c5_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c5_i32_5 : BitVec 32 := 5#32
  let v10 : BitVec 1 := Scalar.cmpi .sge arg1 c5_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4x144x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference5Ideal.lean ====
abbrev S8192x2048 : Shape := ⟨2, ![8192, 2048]⟩
abbrev S1x2048 : Shape := ⟨2, ![1, 2048]⟩
abbrev S2048x3072 : Shape := ⟨2, ![2048, 3072]⟩
abbrev S128 : Shape := ⟨1, ![128]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S2048 : Shape := ⟨1, ![2048]⟩
abbrev S1x1x2048 : Shape := ⟨3, ![1, 1, 2048]⟩
abbrev S2x4096x3072 : Shape := ⟨3, ![2, 4096, 3072]⟩
abbrev S2x4096x16x128 : Shape := ⟨4, ![2, 4096, 16, 128]⟩
abbrev S2x4096x512 : Shape := ⟨3, ![2, 4096, 512]⟩
abbrev S2x4096x4x128 : Shape := ⟨4, ![2, 4096, 4, 128]⟩
abbrev S2x4096x16 : Shape := ⟨3, ![2, 4096, 16]⟩
abbrev S2x4096x16x1 : Shape := ⟨4, ![2, 4096, 16, 1]⟩
abbrev S1x1x1x128 : Shape := ⟨4, ![1, 1, 1, 128]⟩
abbrev S2x4096x4 : Shape := ⟨3, ![2, 4096, 4]⟩
abbrev S2x4096x4x1 : Shape := ⟨4, ![2, 4096, 4, 1]⟩
abbrev S64 : Shape := ⟨1, ![64]⟩
abbrev S64x64 : Shape := ⟨2, ![64, 64]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x1x64 : Shape := ⟨3, ![4096, 1, 64]⟩
abbrev S2x4096x16x64 : Shape := ⟨4, ![2, 4096, 16, 64]⟩
abbrev S1x4096x1x64 : Shape := ⟨4, ![1, 4096, 1, 64]⟩
abbrev S2x4096x4x64 : Shape := ⟨4, ![2, 4096, 4, 64]⟩
abbrev S8192x512 : Shape := ⟨2, ![8192, 512]⟩
abbrev S8192x3072 : Shape := ⟨2, ![8192, 3072]⟩
abbrev S2x4096x4x256 : Shape := ⟨4, ![2, 4096, 4, 256]⟩
abbrev S8192x1024 : Shape := ⟨2, ![8192, 1024]⟩
abbrev S2x4x128x4096 : Shape := ⟨4, ![2, 4, 128, 4096]⟩
abbrev S2x4x16x4096 : Shape := ⟨4, ![2, 4, 16, 4096]⟩
abbrev S2x4x144x4096 : Shape := ⟨4, ![2, 4, 144, 4096]⟩

abbrev nBuf : Space → Nat
  | .hbm => 152
  | .vmem => 0
  | .smem => 0
  | _ => 0

abbrev hbmTy0_0 (i : Nat) : BufTy := match i % 128 with
  | 0 => ⟨S8192x2048, .f32⟩
  | 1 => ⟨S1x2048, .f32⟩
  | 2 => ⟨S2048x3072, .bf16⟩
  | 3 => ⟨S128, .f32⟩
  | 4 => ⟨S128, .f32⟩
  | 5 => ⟨S2x4096x2048, .f32⟩
  | 6 => ⟨S2x4096x2048, .f32⟩
  | 7 => ⟨S_, .f32⟩
  | 8 => ⟨S2x4096, .f32⟩
  | 9 => ⟨S2x4096x1, .f32⟩
  | 10 => ⟨S_, .f32⟩
  | 11 => ⟨S2x4096x1, .f32⟩
  | 12 => ⟨S2x4096x1, .f32⟩
  | 13 => ⟨S_, .f32⟩
  | 14 => ⟨S2x4096x1, .f32⟩
  | 15 => ⟨S2x4096x1, .f32⟩
  | 16 => ⟨S2x4096x1, .f32⟩
  | 17 => ⟨S2x4096x2048, .f32⟩
  | 18 => ⟨S2x4096x2048, .f32⟩
  | 19 => ⟨S2048, .f32⟩
  | 20 => ⟨S1x1x2048, .f32⟩
  | 21 => ⟨S2x4096x2048, .f32⟩
  | 22 => ⟨S2x4096x2048, .f32⟩
  | 23 => ⟨S2048x3072, .f32⟩
  | 24 => ⟨S2x4096x3072, .f32⟩
  | 25 => ⟨S2x4096x2048, .f32⟩
  | 26 => ⟨S2x4096x16x128, .f32⟩
  | 27 => ⟨S2x4096x512, .f32⟩
  | 28 => ⟨S2x4096x4x128, .f32⟩
  | 29 => ⟨S2x4096x512, .f32⟩
  | 30 => ⟨S2x4096x4x128, .f32⟩
  | 31 => ⟨S2x4096x16x128, .f32⟩
  | 32 => ⟨S_, .f32⟩
  | 33 => ⟨S2x4096x16, .f32⟩
  | 34 => ⟨S2x4096x16x1, .f32⟩
  | 35 => ⟨S_, .f32⟩
  | 36 => ⟨S2x4096x16x1, .f32⟩
  | 37 => ⟨S2x4096x16x1, .f32⟩
  | 38 => ⟨S_, .f32⟩
  | 39 => ⟨S2x4096x16x1, .f32⟩
  | 40 => ⟨S2x4096x16x1, .f32⟩
  | 41 => ⟨S2x4096x16x1, .f32⟩
  | 42 => ⟨S2x4096x16x128, .f32⟩
  | 43 => ⟨S2x4096x16x128, .f32⟩
  | 44 => ⟨S1x1x1x128, .f32⟩
  | 45 => ⟨S2x4096x16x128, .f32⟩
  | 46 => ⟨S2x4096x16x128, .f32⟩
  | 47 => ⟨S2x4096x4x128, .f32⟩
  | 48 => ⟨S_, .f32⟩
  | 49 => ⟨S2x4096x4, .f32⟩
  | 50 => ⟨S2x4096x4x1, .f32⟩
  | 51 => ⟨S_, .f32⟩
  | 52 => ⟨S2x4096x4x1, .f32⟩
  | 53 => ⟨S2x4096x4x1, .f32⟩
  | 54 => ⟨S_, .f32⟩
  | 55 => ⟨S2x4096x4x1, .f32⟩
  | 56 => ⟨S2x4096x4x1, .f32⟩
  | 57 => ⟨S2x4096x4x1, .f32⟩
  | 58 => ⟨S2x4096x4x128, .f32⟩
  | 59 => ⟨S2x4096x4x128, .f32⟩
  | 60 => ⟨S1x1x1x128, .f32⟩
  | 61 => ⟨S2x4096x4x128, .f32⟩
  | 62 => ⟨S2x4096x4x128, .f32⟩
  | 63 => ⟨S64, .f32⟩
  | 64 => ⟨S64, .f32⟩
  | 65 => ⟨S64x64, .f32⟩
  | 66 => ⟨S64x64, .f32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S_, .f32⟩
  | 75 => ⟨S32, .f32⟩
  | 76 => ⟨S32, .f32⟩
  | 77 => ⟨S_, .f32⟩
  | 78 => ⟨S32, .f32⟩
  | 79 => ⟨S32, .f32⟩
  | 80 => ⟨S_, .f32⟩
  | 81 => ⟨S32, .f32⟩
  | 82 => ⟨S32, .f32⟩
  | 83 => ⟨S4096, .f32⟩
  | 84 => ⟨S4096x1, .f32⟩
  | 85 => ⟨S1x32, .f32⟩
  | 86 => ⟨S4096x32, .f32⟩
  | 87 => ⟨S4096x32, .f32⟩
  | 88 => ⟨S4096x32, .f32⟩
  | 89 => ⟨S4096, .f32⟩
  | 90 => ⟨S4096x1, .f32⟩
  | 91 => ⟨S1x32, .f32⟩
  | 92 => ⟨S4096x32, .f32⟩
  | 93 => ⟨S4096x32, .f32⟩
  | 94 => ⟨S4096x32, .f32⟩
  | 95 => ⟨S4096x64, .f32⟩
  | 96 => ⟨S4096x64, .f32⟩
  | 97 => ⟨S4096x1x64, .f32⟩
  | 98 => ⟨S4096x64, .f32⟩
  | 99 => ⟨S4096x1x64, .f32⟩
  | 100 => ⟨S_, .f32⟩
  | 101 => ⟨S2x4096x16x128, .f32⟩
  | 102 => ⟨S2x4096x16x128, .f32⟩
  | 103 => ⟨S2x4096x16x64, .f32⟩
  | 104 => ⟨S2x4096x16x64, .f32⟩
  | 105 => ⟨S1x4096x1x64, .f32⟩
  | 106 => ⟨S2x4096x16x64, .f32⟩
  | 107 => ⟨S2x4096x16x64, .f32⟩
  | 108 => ⟨S1x4096x1x64, .f32⟩
  | 109 => ⟨S2x4096x16x64, .f32⟩
  | 110 => ⟨S2x4096x16x64, .f32⟩
  | 111 => ⟨S2x4096x16x64, .f32⟩
  | 112 => ⟨S1x4096x1x64, .f32⟩
  | 113 => ⟨S2x4096x16x64, .f32⟩
  | 114 => ⟨S2x4096x16x64, .f32⟩
  | 115 => ⟨S1x4096x1x64, .f32⟩
  | 116 => ⟨S2x4096x16x64, .f32⟩
  | 117 => ⟨S2x4096x16x64, .f32⟩
  | 118 => ⟨S2x4096x16x64, .f32⟩
  | 119 => ⟨S2x4096x16x128, .f32⟩
  | 120 => ⟨S8192x2048, .f32⟩
  | 121 => ⟨S2x4096x4x64, .f32⟩
  | 122 => ⟨S2x4096x4x64, .f32⟩
  | 123 => ⟨S1x4096x1x64, .f32⟩
  | 124 => ⟨S2x4096x4x64, .f32⟩
  | 125 => ⟨S2x4096x4x64, .f32⟩
  | 126 => ⟨S1x4096x1x64, .f32⟩
  | 127 => ⟨S2x4096x4x64, .f32⟩
  | _ => ⟨S8192x2048, .f32⟩

abbrev hbmTy0_1 (i : Nat) : BufTy := match i % 128 with
  | 0 => ⟨S2x4096x4x64, .f32⟩
  | 1 => ⟨S2x4096x4x64, .f32⟩
  | 2 => ⟨S1x4096x1x64, .f32⟩
  | 3 => ⟨S2x4096x4x64, .f32⟩
  | 4 => ⟨S2x4096x4x64, .f32⟩
  | 5 => ⟨S1x4096x1x64, .f32⟩
  | 6 => ⟨S2x4096x4x64, .f32⟩
  | 7 => ⟨S2x4096x4x64, .f32⟩
  | 8 => ⟨S2x4096x4x64, .f32⟩
  | 9 => ⟨S2x4096x4x128, .f32⟩
  | 10 => ⟨S8192x512, .f32⟩
  | 11 => ⟨S8192x512, .f32⟩
  | 12 => ⟨S8192x3072, .f32⟩
  | 13 => ⟨S_, .f32⟩
  | 14 => ⟨S2x4096x4x128, .f32⟩
  | 15 => ⟨S2x4096x4x256, .f32⟩
  | 16 => ⟨S8192x1024, .f32⟩
  | 17 => ⟨S2x4x128x4096, .f32⟩
  | 18 => ⟨S_, .f32⟩
  | 19 => ⟨S2x4x16x4096, .f32⟩
  | 20 => ⟨S2x4x144x4096, .f32⟩
  | 21 => ⟨S8192x3072, .bf16⟩
  | 22 => ⟨S8192x1024, .bf16⟩
  | 23 => ⟨S2x4x144x4096, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_cst_10 : Ref sig .tc := ⟨.hbm, 74, rfl⟩
abbrev main_v58 : Ref sig .tc := ⟨.hbm, 75, rfl⟩
abbrev main_v59 : Ref sig .tc := ⟨.hbm, 76, rfl⟩
abbrev main_cst_11 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_13 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_cst_14 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_cst_15 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩

abbrev nD : Nat := 1
abbrev τ : Topo := Topo.v7x

variable {F : FTy → Type} [FloatOps F]
-- ==== Kernel6.lean ====
abbrev S33x64 : Shape := ⟨2, ![33, 64]⟩
abbrev S64 : Shape := ⟨1, ![64]⟩
abbrev S2x64x64 : Shape := ⟨3, ![2, 64, 64]⟩
abbrev S2x64 : Shape := ⟨2, ![2, 64]⟩
abbrev S_ : Shape := ⟨0, ![]⟩
abbrev S4095 : Shape := ⟨1, ![4095]⟩
abbrev S1 : Shape := ⟨1, ![1]⟩
abbrev S4096 : Shape := ⟨1, ![4096]⟩
abbrev S4096x1 : Shape := ⟨2, ![4096, 1]⟩
abbrev S15 : Shape := ⟨1, ![15]⟩
abbrev S16 : Shape := ⟨1, ![16]⟩
abbrev S1x16 : Shape := ⟨2, ![1, 16]⟩
abbrev S4096x16 : Shape := ⟨2, ![4096, 16]⟩
abbrev S4096x33 : Shape := ⟨2, ![4096, 33]⟩
abbrev S32x128x33 : Shape := ⟨3, ![32, 128, 33]⟩
abbrev S128x32x33 : Shape := ⟨3, ![128, 32, 33]⟩
abbrev S32x128x1 : Shape := ⟨3, ![32, 128, 1]⟩
abbrev S128x32x1 : Shape := ⟨3, ![128, 32, 1]⟩
abbrev S4096x128 : Shape := ⟨2, ![4096, 128]⟩
abbrev S128x64 : Shape := ⟨2, ![128, 64]⟩
abbrev S1x64 : Shape := ⟨2, ![1, 64]⟩
abbrev S2x1x64 : Shape := ⟨3, ![2, 1, 64]⟩
abbrev S4096x64 : Shape := ⟨2, ![4096, 64]⟩
abbrev S512x128 : Shape := ⟨2, ![512, 128]⟩
abbrev S512x64 : Shape := ⟨2, ![512, 64]⟩
abbrev S1x64x64 : Shape := ⟨3, ![1, 64, 64]⟩
abbrev S64x64 : Shape := ⟨2, ![64, 64]⟩
abbrev S1x1x64 : Shape := ⟨3, ![1, 1, 64]⟩
abbrev S2047 : Shape := ⟨1, ![2047]⟩
abbrev S2048 : Shape := ⟨1, ![2048]⟩
abbrev S1x2048 : Shape := ⟨2, ![1, 2048]⟩
abbrev S1x4096 : Shape := ⟨2, ![1, 4096]⟩

abbrev nBuf : Space → Nat
  | .hbm => 113
  | .vmem => 9
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S2x64x64, .f32⟩
  | .hbm, ⟨3, _⟩ => ⟨S2x64, .f32⟩
  | .hbm, ⟨4, _⟩ => ⟨S64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4095, .f32⟩
  | .hbm, ⟨13, _⟩ => ⟨S_, .f32⟩
  | .hbm, ⟨14, _⟩ => ⟨S4095, .f32⟩
  | .hbm, ⟨15, _⟩ => ⟨S4095, .f32⟩
  | .hbm, ⟨16, _⟩ => ⟨S1, .f32⟩
  | .hbm, ⟨17, _⟩ => ⟨S_, .f32⟩
  | .hbm, ⟨18, _⟩ => ⟨S4095, .f32⟩
  | .hbm, ⟨19, _⟩ => ⟨S4095, .f32⟩
  | .hbm, ⟨20, _⟩ => ⟨S4095, .f32⟩
  | .hbm, ⟨21, _⟩ => ⟨S4095, .f32⟩
  | .hbm, ⟨22, _⟩ => ⟨S1, .f32⟩
  | .hbm, ⟨23, _⟩ => ⟨S4095, .f32⟩
  | .hbm, ⟨24, _⟩ => ⟨S4095, .f32⟩
  | .hbm, ⟨25, _⟩ => ⟨S4095, .f32⟩
  | .hbm, ⟨26, _⟩ => ⟨S1, .f32⟩
  | .hbm, ⟨27, _⟩ => ⟨S4096, .f32⟩
  | .hbm, ⟨28, _⟩ => ⟨S4096x1, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S_, .i32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S15, .f32⟩
  | .hbm, ⟨45, _⟩ => ⟨S_, .f32⟩
  | .hbm, ⟨46, _⟩ => ⟨S15, .f32⟩
  | .hbm, ⟨47, _⟩ => ⟨S15, .f32⟩
  | .hbm, ⟨48, _⟩ => ⟨S1, .f32⟩
  | .hbm, ⟨49, _⟩ => ⟨S_, .f32⟩
  | .hbm, ⟨50, _⟩ => ⟨S15, .f32⟩
  | .hbm, ⟨51, _⟩ => ⟨S15, .f32⟩
  | .hbm, ⟨52, _⟩ => ⟨S15, .f32⟩
  | .hbm, ⟨53, _⟩ => ⟨S15, .f32⟩
  | .hbm, ⟨54, _⟩ => ⟨S1, .f32⟩
  | .hbm, ⟨55, _⟩ => ⟨S15, .f32⟩
  | .hbm, ⟨56, _⟩ => ⟨S15, .f32⟩
  | .hbm, ⟨57, _⟩ => ⟨S15, .f32⟩
  | .hbm, ⟨58, _⟩ => ⟨S1, .f32⟩
  | .hbm, ⟨59, _⟩ => ⟨S16, .f32⟩
  | .hbm, ⟨60, _⟩ => ⟨S1x16, .f32⟩
  | .hbm, ⟨61, _⟩ => ⟨S4096x16, .f32⟩
  | .hbm, ⟨62, _⟩ => ⟨S4096x16, .f32⟩
  | .hbm, ⟨63, _⟩ => ⟨S4096x16, .f32⟩
  | .hbm, ⟨64, _⟩ => ⟨S4096x16, .f32⟩
  | .hbm, ⟨65, _⟩ => ⟨S4096x16, .f32⟩
  | .hbm, ⟨66, _⟩ => ⟨S4096x16, .f32⟩
  | .hbm, ⟨67, _⟩ => ⟨S4096x16, .f32⟩
  | .hbm, ⟨68, _⟩ => ⟨S4096x16, .f32⟩
  | .hbm, ⟨69, _⟩ => ⟨S4096x16, .f32⟩
  | .hbm, ⟨70, _⟩ => ⟨S4096x33, .f32⟩
  | .hbm, ⟨71, _⟩ => ⟨S32x128x33, .f32⟩
  | .hbm, ⟨72, _⟩ => ⟨S128x32x33, .f32⟩
  | .hbm, ⟨73, _⟩ => ⟨S4096x33, .f32⟩
  | .hbm, ⟨74, _⟩ => ⟨S32x128x1, .f32⟩
  | .hbm, ⟨75, _⟩ => ⟨S128x32x1, .f32⟩
  | .hbm, ⟨76, _⟩ => ⟨S4096x1, .f32⟩
  | .hbm, ⟨77, _⟩ => ⟨S_, .i32⟩
  | .hbm, ⟨78, _⟩ => ⟨S_, .f32⟩
  | .hbm, ⟨79, _⟩ => ⟨S4096x128, .f32⟩
  | .hbm, ⟨80, _⟩ => ⟨S_, .i32⟩
  | .hbm, ⟨81, _⟩ => ⟨S_, .f32⟩
  | .hbm, ⟨82, _⟩ => ⟨S128x64, .f32⟩
  | .hbm, ⟨83, _⟩ => ⟨S1x64, .f32⟩
  | .hbm, ⟨84, _⟩ => ⟨S2x1x64, .f32⟩
  | .hbm, ⟨85, _⟩ => ⟨S1x64, .f32⟩
  | .hbm, ⟨86, _⟩ => ⟨S4096x64, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S2047, .f32⟩
  | .hbm, ⟨95, _⟩ => ⟨S_, .f32⟩
  | .hbm, ⟨96, _⟩ => ⟨S2047, .f32⟩
  | .hbm, ⟨97, _⟩ => ⟨S2047, .f32⟩
  | .hbm, ⟨98, _⟩ => ⟨S1, .f32⟩
  | .hbm, ⟨99, _⟩ => ⟨S_, .f32⟩
  | .hbm, ⟨100, _⟩ => ⟨S2047, .f32⟩
  | .hbm, ⟨101, _⟩ => ⟨S2047, .f32⟩
  | .hbm, ⟨102, _⟩ => ⟨S2047, .f32⟩
  | .hbm, ⟨103, _⟩ => ⟨S2047, .f32⟩
  | .hbm, ⟨104, _⟩ => ⟨S1, .f32⟩
  | .hbm, ⟨105, _⟩ => ⟨S2047, .f32⟩
  | .hbm, ⟨106, _⟩ => ⟨S2047, .f32⟩
  | .hbm, ⟨107, _⟩ => ⟨S2047, .f32⟩
  | .hbm, ⟨108, _⟩ => ⟨S1, .f32⟩
  | .hbm, ⟨109, _⟩ => ⟨S2048, .f32⟩
  | .hbm, ⟨110, _⟩ => ⟨S2048, .f32⟩
  | .hbm, ⟨111, _⟩ => ⟨S1x2048, .f32⟩
  | .hbm, ⟨112, _⟩ => ⟨S1x4096, .f32⟩
  | .local _ .vmem, ⟨0, _⟩ => ⟨S512x128, .f32⟩
  | .local _ .vmem, ⟨1, _⟩ => ⟨S512x128, .f32⟩
  | .local _ .vmem, ⟨2, _⟩ => ⟨S128x64, .f32⟩
  | .local _ .vmem, ⟨3, _⟩ => ⟨S1x64, .f32⟩
  | .local _ .vmem, ⟨4, _⟩ => ⟨S2x64x64, .f32⟩
  | .local _ .vmem, ⟨5, _⟩ => ⟨S2x1x64, .f32⟩
  | .local _ .vmem, ⟨6, _⟩ => ⟨S1x64, .f32⟩
  | .local _ .vmem, ⟨7, _⟩ => ⟨S512x64, .f32⟩
  | .local _ .vmem, ⟨8, _⟩ => ⟨S512x64, .f32⟩
  | _, _ => ⟨S33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_cst : Ref sig .tc := ⟨.hbm, 10, rfl⟩
abbrev main_call0_v3 : Ref sig .tc := ⟨.hbm, 11, rfl⟩
abbrev main_call0_v4 : Ref sig .tc := ⟨.hbm, 12, rfl⟩
abbrev main_call0_cst_0 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_cst_1 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst_1 : Ref sig .tc := ⟨.hbm, 31, rfl⟩
abbrev main_v4 : Ref sig .tc := ⟨.hbm, 32, rfl⟩
abbrev main_v5 : Ref sig .tc := ⟨.hbm, 33, rfl⟩
abbrev main_cst_2 : Ref sig .tc := ⟨.hbm, 34, rfl⟩
abbrev main_v6 : Ref sig .tc := ⟨.hbm, 35, rfl⟩
abbrev main_v7 : Ref sig .tc := ⟨.hbm, 36, rfl⟩
abbrev main_cst_3 : Ref sig .tc := ⟨.hbm, 37, rfl⟩
abbrev main_c : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_cst : Ref sig .tc := ⟨.hbm, 42, rfl⟩
abbrev main_call1_v3 : Ref sig .tc := ⟨.hbm, 43, rfl⟩
abbrev main_call1_v4 : Ref sig .tc := ⟨.hbm, 44, rfl⟩
abbrev main_call1_cst_0 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_cst_1 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_v15 : Ref sig .tc := ⟨.hbm, 57, rfl⟩
abbrev main_call1_v16 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_c_4 : Ref sig .tc := ⟨.hbm, 77, rfl⟩
abbrev main_call2_v0 : Ref sig .tc := ⟨.hbm, 78, rfl⟩
abbrev main_v26 : Ref sig .tc := ⟨.hbm, 79, rfl⟩
abbrev main_c_5 : Ref sig .tc := ⟨.hbm, 80, rfl⟩
abbrev main_call3_v0 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_cst_6 : Ref sig .tc := ⟨.hbm, 87, rfl⟩
abbrev main_cst_7 : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_call4_cst : Ref sig .tc := ⟨.hbm, 92, rfl⟩
abbrev main_call4_v3 : Ref sig .tc := ⟨.hbm, 93, rfl⟩
abbrev main_call4_v4 : Ref sig .tc := ⟨.hbm, 94, rfl⟩
abbrev main_call4_cst_0 : Ref sig .tc := ⟨.hbm, 95, rfl⟩
abbrev main_call4_v5 : Ref sig .tc := ⟨.hbm, 96, rfl⟩
abbrev main_call4_v6 : Ref sig .tc := ⟨.hbm, 97, rfl⟩
abbrev main_call4_v7 : Ref sig .tc := ⟨.hbm, 98, rfl⟩
abbrev main_call4_cst_1 : Ref sig .tc := ⟨.hbm, 99, rfl⟩
abbrev main_call4_v8 : Ref sig .tc := ⟨.hbm, 100, rfl⟩
abbrev main_call4_v9 : Ref sig .tc := ⟨.hbm, 101, rfl⟩
abbrev main_call4_v10 : Ref sig .tc := ⟨.hbm, 102, rfl⟩
abbrev main_call4_v11 : Ref sig .tc := ⟨.hbm, 103, rfl⟩
abbrev main_call4_v12 : Ref sig .tc := ⟨.hbm, 104, rfl⟩
abbrev main_call4_v13 : Ref sig .tc := ⟨.hbm, 105, rfl⟩
abbrev main_call4_v14 : Ref sig .tc := ⟨.hbm, 106, rfl⟩
abbrev main_call4_v15 : Ref sig .tc := ⟨.hbm, 107, rfl⟩
abbrev main_call4_v16 : Ref sig .tc := ⟨.hbm, 108, rfl⟩
abbrev main_v32 : Ref sig .tc := ⟨.hbm, 109, rfl⟩
abbrev main_v33 : Ref sig .tc := ⟨.hbm, 110, rfl⟩
abbrev main_v34 : Ref sig .tc := ⟨.hbm, 111, rfl⟩
abbrev main_v35 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S33x64 : Shape := ⟨2, ![33, 64]⟩
abbrev S64 : Shape := ⟨1, ![64]⟩
abbrev S2x64x64 : Shape := ⟨3, ![2, 64, 64]⟩
abbrev S2x64 : Shape := ⟨2, ![2, 64]⟩
abbrev S_ : Shape := ⟨0, ![]⟩
abbrev S4095 : Shape := ⟨1, ![4095]⟩
abbrev S1 : Shape := ⟨1, ![1]⟩
abbrev S4096 : Shape := ⟨1, ![4096]⟩
abbrev S4096x1 : Shape := ⟨2, ![4096, 1]⟩
abbrev S15 : Shape := ⟨1, ![15]⟩
abbrev S16 : Shape := ⟨1, ![16]⟩
abbrev S1x16 : Shape := ⟨2, ![1, 16]⟩
abbrev S4096x16 : Shape := ⟨2, ![4096, 16]⟩
abbrev S4096x33 : Shape := ⟨2, ![4096, 33]⟩
abbrev S4096x64 : Shape := ⟨2, ![4096, 64]⟩
abbrev S1x64 : Shape := ⟨2, ![1, 64]⟩
abbrev S1x64x64 : Shape := ⟨3, ![1, 64, 64]⟩
abbrev S64x64 : Shape := ⟨2, ![64, 64]⟩
abbrev S32x128x64 : Shape := ⟨3, ![32, 128, 64]⟩
abbrev S128x32x64 : Shape := ⟨3, ![128, 32, 64]⟩

abbrev nBuf : Space → Nat
  | .hbm => 106
  | .vmem => 0
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S2x64x64, .f32⟩
  | .hbm, ⟨3, _⟩ => ⟨S2x64, .f32⟩
  | .hbm, ⟨4, _⟩ => ⟨S64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4095, .f32⟩
  | .hbm, ⟨13, _⟩ => ⟨S_, .f32⟩
  | .hbm, ⟨14, _⟩ => ⟨S4095, .f32⟩
  | .hbm, ⟨15, _⟩ => ⟨S4095, .f32⟩
  | .hbm, ⟨16, _⟩ => ⟨S1, .f32⟩
  | .hbm, ⟨17, _⟩ => ⟨S_, .f32⟩
  | .hbm, ⟨18, _⟩ => ⟨S4095, .f32⟩
  | .hbm, ⟨19, _⟩ => ⟨S4095, .f32⟩
  | .hbm, ⟨20, _⟩ => ⟨S4095, .f32⟩
  | .hbm, ⟨21, _⟩ => ⟨S4095, .f32⟩
  | .hbm, ⟨22, _⟩ => ⟨S1, .f32⟩
  | .hbm, ⟨23, _⟩ => ⟨S4095, .f32⟩
  | .hbm, ⟨24, _⟩ => ⟨S4095, .f32⟩
  | .hbm, ⟨25, _⟩ => ⟨S4095, .f32⟩
  | .hbm, ⟨26, _⟩ => ⟨S1, .f32⟩
  | .hbm, ⟨27, _⟩ => ⟨S4096, .f32⟩
  | .hbm, ⟨28, _⟩ => ⟨S4096x1, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S_, .i32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S15, .f32⟩
  | .hbm, ⟨45, _⟩ => ⟨S_, .f32⟩
  | .hbm, ⟨46, _⟩ => ⟨S15, .f32⟩
  | .hbm, ⟨47, _⟩ => ⟨S15, .f32⟩
  | .hbm, ⟨48, _⟩ => ⟨S1, .f32⟩
  | .hbm, ⟨49, _⟩ => ⟨S_, .f32⟩
  | .hbm, ⟨50, _⟩ => ⟨S15, .f32⟩
  | .hbm, ⟨51, _⟩ => ⟨S15, .f32⟩
  | .hbm, ⟨52, _⟩ => ⟨S15, .f32⟩
  | .hbm, ⟨53, _⟩ => ⟨S15, .f32⟩
  | .hbm, ⟨54, _⟩ => ⟨S1, .f32⟩
  | .hbm, ⟨55, _⟩ => ⟨S15, .f32⟩
  | .hbm, ⟨56, _⟩ => ⟨S15, .f32⟩
  | .hbm, ⟨57, _⟩ => ⟨S15, .f32⟩
  | .hbm, ⟨58, _⟩ => ⟨S1, .f32⟩
  | .hbm, ⟨59, _⟩ => ⟨S16, .f32⟩
  | .hbm, ⟨60, _⟩ => ⟨S1x16, .f32⟩
  | .hbm, ⟨61, _⟩ => ⟨S4096x16, .f32⟩
  | .hbm, ⟨62, _⟩ => ⟨S4096x16, .f32⟩
  | .hbm, ⟨63, _⟩ => ⟨S4096x16, .f32⟩
  | .hbm, ⟨64, _⟩ => ⟨S4096x16, .f32⟩
  | .hbm, ⟨65, _⟩ => ⟨S4096x16, .f32⟩
  | .hbm, ⟨66, _⟩ => ⟨S4096x16, .f32⟩
  | .hbm, ⟨67, _⟩ => ⟨S4096x16, .f32⟩
  | .hbm, ⟨68, _⟩ => ⟨S4096x16, .f32⟩
  | .hbm, ⟨69, _⟩ => ⟨S4096x16, .f32⟩
  | .hbm, ⟨70, _⟩ => ⟨S4096x33, .f32⟩
  | .hbm, ⟨71, _⟩ => ⟨S4096x64, .f32⟩
  | .hbm, ⟨72, _⟩ => ⟨S1x64, .f32⟩
  | .hbm, ⟨73, _⟩ => ⟨S4096x64, .f32⟩
  | .hbm, ⟨74, _⟩ => ⟨S4096x64, .f32⟩
  | .hbm, ⟨75, _⟩ => ⟨S1x64, .f32⟩
  | .hbm, ⟨76, _⟩ => ⟨S4096x64, .f32⟩
  | .hbm, ⟨77, _⟩ => ⟨S4096x64, .f32⟩
  | .hbm, ⟨78, _⟩ => ⟨S4096x64, .f32⟩
  | .hbm, ⟨79, _⟩ => ⟨S1x64x64, .f32⟩
  | .hbm, ⟨80, _⟩ => ⟨S64x64, .f32⟩
  | .hbm, ⟨81, _⟩ => ⟨S4096x64, .f32⟩
  | .hbm, ⟨82, _⟩ => ⟨S1x64, .f32⟩
  | .hbm, ⟨83, _⟩ => ⟨S64, .f32⟩
  | .hbm, ⟨84, _⟩ => ⟨S1x64, .f32⟩
  | .hbm, ⟨85, _⟩ => ⟨S4096x64, .f32⟩
  | .hbm, ⟨86, _⟩ => ⟨S4096x64, .f32⟩
  | .hbm, ⟨87, _⟩ => ⟨S1x64, .f32⟩
  | .hbm, ⟨88, _⟩ => ⟨S4096x64, .f32⟩
  | .hbm, ⟨89, _⟩ => ⟨S4096x64, .f32⟩
  | .hbm, ⟨90, _⟩ => ⟨S4096x64, .f32⟩
  | .hbm, ⟨91, _⟩ => ⟨S1x64x64, .f32⟩
  | .hbm, ⟨92, _⟩ => ⟨S64x64, .f32⟩
  | .hbm, ⟨93, _⟩ => ⟨S4096x64, .f32⟩
  | .hbm, ⟨94, _⟩ => ⟨S1x64, .f32⟩
  | .hbm, ⟨95, _⟩ => ⟨S64, .f32⟩
  | .hbm, ⟨96, _⟩ => ⟨S1x64, .f32⟩
  | .hbm, ⟨97, _⟩ => ⟨S4096x64, .f32⟩
  | .hbm, ⟨98, _⟩ => ⟨S4096x64, .f32⟩
  | .hbm, ⟨99, _⟩ => ⟨S1x64, .f32⟩
  | .hbm, ⟨100, _⟩ => ⟨S4096x64, .f32⟩
  | .hbm, ⟨101, _⟩ => ⟨S4096x64, .f32⟩
  | .hbm, ⟨102, _⟩ => ⟨S4096x64, .f32⟩
  | .hbm, ⟨103, _⟩ => ⟨S32x128x64, .f32⟩
  | .hbm, ⟨104, _⟩ => ⟨S128x32x64, .f32⟩
  | .hbm, ⟨105, _⟩ => ⟨S4096x64, .f32⟩
  | _, _ => ⟨S33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_cst : Ref sig .tc := ⟨.hbm, 10, rfl⟩
abbrev main_call0_v3 : Ref sig .tc := ⟨.hbm, 11, rfl⟩
abbrev main_call0_v4 : Ref sig .tc := ⟨.hbm, 12, rfl⟩
abbrev main_call0_cst_0 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_cst_1 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst_1 : Ref sig .tc := ⟨.hbm, 31, rfl⟩
abbrev main_v4 : Ref sig .tc := ⟨.hbm, 32, rfl⟩
abbrev main_v5 : Ref sig .tc := ⟨.hbm, 33, rfl⟩
abbrev main_cst_2 : Ref sig .tc := ⟨.hbm, 34, rfl⟩
abbrev main_v6 : Ref sig .tc := ⟨.hbm, 35, rfl⟩
abbrev main_v7 : Ref sig .tc := ⟨.hbm, 36, rfl⟩
abbrev main_cst_3 : Ref sig .tc := ⟨.hbm, 37, rfl⟩
abbrev main_c : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_cst : Ref sig .tc := ⟨.hbm, 42, rfl⟩
abbrev main_call1_v3 : Ref sig .tc := ⟨.hbm, 43, rfl⟩
abbrev main_call1_v4 : Ref sig .tc := ⟨.hbm, 44, rfl⟩
abbrev main_call1_cst_0 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_cst_1 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_v15 : Ref sig .tc := ⟨.hbm, 57, rfl⟩
abbrev main_call1_v16 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩

abbrev nD : Nat := 1
abbrev τ : Topo := Topo.v7x

variable {F : FTy → Type} [FloatOps F]
-- ==== Kernel7.lean ====
abbrev S64x128x2048 : Shape := ⟨3, ![64, 128, 2048]⟩
abbrev S64x128x4096 : Shape := ⟨3, ![64, 128, 4096]⟩
abbrev S1x2048 : Shape := ⟨2, ![1, 2048]⟩
abbrev S64 : Shape := ⟨1, ![64]⟩
abbrev S64x1 : Shape := ⟨2, ![64, 1]⟩
abbrev S32 : Shape := ⟨1, ![32]⟩
abbrev S1x32 : Shape := ⟨2, ![1, 32]⟩
abbrev S64x32 : Shape := ⟨2, ![64, 32]⟩
abbrev S_ : Shape := ⟨0, ![]⟩
abbrev S1x64 : Shape := ⟨2, ![1, 64]⟩
abbrev S128 : Shape := ⟨1, ![128]⟩
abbrev S128x1 : Shape := ⟨2, ![128, 1]⟩
abbrev S128x64 : Shape := ⟨2, ![128, 64]⟩
abbrev S1x64x32 : Shape := ⟨3, ![1, 64, 32]⟩
abbrev S128x64x1 : Shape := ⟨3, ![128, 64, 1]⟩
abbrev S128x64x32 : Shape := ⟨3, ![128, 64, 32]⟩
abbrev S128x64x64 : Shape := ⟨3, ![128, 64, 64]⟩
abbrev S128x128x64 : Shape := ⟨3, ![128, 128, 64]⟩
abbrev S128x64x128 : Shape := ⟨3, ![128, 64, 128]⟩
abbrev S128x128x32 : Shape := ⟨3, ![128, 128, 32]⟩
abbrev S1x128 : Shape := ⟨2, ![1, 128]⟩
abbrev S128x128 : Shape := ⟨2, ![128, 128]⟩
abbrev S128x256 : Shape := ⟨2, ![128, 256]⟩
abbrev S256x256 : Shape := ⟨2, ![256, 256]⟩
abbrev S64x256x2048 : Shape := ⟨3, ![64, 256, 2048]⟩
abbrev S1x128x2048 : Shape := ⟨3, ![1, 128, 2048]⟩
abbrev S1x256x2048 : Shape := ⟨3, ![1, 256, 2048]⟩
abbrev S128x2048 : Shape := ⟨2, ![128, 2048]⟩
abbrev S256x2048 : Shape := ⟨2, ![256, 2048]⟩

abbrev nBuf : Space → Nat
  | .hbm => 142
  | .vmem => 11
  | .smem => 0
  | _ => 0

abbrev hbmTy0_0 (i : Nat) : BufTy := match i % 128 with
  | 0 => ⟨S64x128x2048, .i32⟩
  | 1 => ⟨S64x128x4096, .i32⟩
  | 2 => ⟨S1x2048, .f32⟩
  | 3 => ⟨S64, .i32⟩
  | 4 => ⟨S64x1, .i32⟩
  | 5 => ⟨S32, .i32⟩
  | 6 => ⟨S1x32, .i32⟩
  | 7 => ⟨S64x32, .i32⟩
  | 8 => ⟨S64x32, .i32⟩
  | 9 => ⟨S64x32, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S64x32, .i32⟩
  | 17 => ⟨S64x32, .i32⟩
  | 18 => ⟨S_, .i32⟩
  | 19 => ⟨S64x32, .i32⟩
  | 20 => ⟨S64x32, .i1⟩
  | 21 => ⟨S_, .i32⟩
  | 22 => ⟨S64x32, .i32⟩
  | 23 => ⟨S64x32, .i1⟩
  | 24 => ⟨S_, .i32⟩
  | 25 => ⟨S_, .i1⟩
  | 26 => ⟨S64x32, .i1⟩
  | 27 => ⟨S64x32, .i1⟩
  | 28 => ⟨S64x32, .i1⟩
  | 29 => ⟨S64x32, .i32⟩
  | 30 => ⟨S64x32, .i32⟩
  | 31 => ⟨S64x32, .i32⟩
  | 32 => ⟨S64x32, .f32⟩
  | 33 => ⟨S_, .f32⟩
  | 34 => ⟨S64x32, .f32⟩
  | 35 => ⟨S64x32, .f32⟩
  | 36 => ⟨S1x64, .i32⟩
  | 37 => ⟨S128, .i32⟩
  | 38 => ⟨S128x1, .i32⟩
  | 39 => ⟨S128x64, .i32⟩
  | 40 => ⟨S128x64, .i32⟩
  | 41 => ⟨S128x64, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S128x64, .i32⟩
  | 49 => ⟨S128x64, .i32⟩
  | 50 => ⟨S_, .i32⟩
  | 51 => ⟨S128x64, .i32⟩
  | 52 => ⟨S128x64, .i1⟩
  | 53 => ⟨S_, .i32⟩
  | 54 => ⟨S128x64, .i32⟩
  | 55 => ⟨S128x64, .i1⟩
  | 56 => ⟨S_, .i32⟩
  | 57 => ⟨S_, .i1⟩
  | 58 => ⟨S128x64, .i1⟩
  | 59 => ⟨S128x64, .i1⟩
  | 60 => ⟨S128x64, .i1⟩
  | 61 => ⟨S128x64, .i32⟩
  | 62 => ⟨S128x64, .i32⟩
  | 63 => ⟨S128x64, .i32⟩
  | 64 => ⟨S128x64, .f32⟩
  | 65 => ⟨S_, .f32⟩
  | 66 => ⟨S128x64, .f32⟩
  | 67 => ⟨S128x64, .f32⟩
  | 68 => ⟨S64x32, .f32⟩
  | 69 => ⟨S1x64x32, .f32⟩
  | 70 => ⟨S64x32, .f32⟩
  | 71 => ⟨S1x64x32, .f32⟩
  | 72 => ⟨S128x64, .f32⟩
  | 73 => ⟨S128x64x1, .f32⟩
  | 74 => ⟨S128x64, .f32⟩
  | 75 => ⟨S128x64x1, .f32⟩
  | 76 => ⟨S128x64x32, .f32⟩
  | 77 => ⟨S128x64x32, .f32⟩
  | 78 => ⟨S128x64x32, .f32⟩
  | 79 => ⟨S128x64x32, .f32⟩
  | 80 => ⟨S128x64x32, .f32⟩
  | 81 => ⟨S128x64x32, .f32⟩
  | 82 => ⟨S128x64x32, .f32⟩
  | 83 => ⟨S128x64x32, .f32⟩
  | 84 => ⟨S128x64x32, .f32⟩
  | 85 => ⟨S128x64x32, .f32⟩
  | 86 => ⟨S128x64x32, .f32⟩
  | 87 => ⟨S128x64x32, .f32⟩
  | 88 => ⟨S128x64x32, .f32⟩
  | 89 => ⟨S128x64x32, .f32⟩
  | 90 => ⟨S128x64x64, .f32⟩
  | 91 => ⟨S128x64x32, .f32⟩
  | 92 => ⟨S128x64x64, .f32⟩
  | 93 => ⟨S128x128x64, .f32⟩
  | 94 => ⟨S128x64x128, .f32⟩
  | 95 => ⟨S128x64x32, .f32⟩
  | 96 => ⟨S128x128x32, .f32⟩
  | 97 => ⟨S128, .i32⟩
  | 98 => ⟨S128x1, .i32⟩
  | 99 => ⟨S1x128, .i32⟩
  | 100 => ⟨S128x128, .i32⟩
  | 101 => ⟨S128x128, .i32⟩
  | 102 => ⟨S128x128, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S128x128, .i32⟩
  | 110 => ⟨S128x128, .i32⟩
  | 111 => ⟨S_, .i32⟩
  | 112 => ⟨S128x128, .i32⟩
  | 113 => ⟨S128x128, .i1⟩
  | 114 => ⟨S_, .i32⟩
  | 115 => ⟨S128x128, .i32⟩
  | 116 => ⟨S128x128, .i1⟩
  | 117 => ⟨S_, .i32⟩
  | 118 => ⟨S_, .i1⟩
  | 119 => ⟨S128x128, .i1⟩
  | 120 => ⟨S128x128, .i1⟩
  | 121 => ⟨S128x128, .i1⟩
  | 122 => ⟨S128x128, .i32⟩
  | 123 => ⟨S128x128, .i32⟩
  | 124 => ⟨S128x128, .i32⟩
  | 125 => ⟨S128x128, .f32⟩
  | 126 => ⟨S_, .f32⟩
  | 127 => ⟨S128x128, .f32⟩
  | _ => ⟨S64x128x2048, .i32⟩

abbrev hbmTy0_1 (i : Nat) : BufTy := match i % 128 with
  | 0 => ⟨S128x128, .f32⟩
  | 1 => ⟨S128x128, .f32⟩
  | 2 => ⟨S128x128, .f32⟩
  | 3 => ⟨S128x256, .f32⟩
  | 4 => ⟨S128x128, .f32⟩
  | 5 => ⟨S128x256, .f32⟩
  | 6 => ⟨S256x256, .f32⟩
  | 7 => ⟨S256x256, .f32⟩
  | 8 => ⟨S128x128x64, .bf16⟩
  | 9 => ⟨S128x64x128, .bf16⟩
  | 10 => ⟨S128x128x32, .bf16⟩
  | 11 => ⟨S256x256, .bf16⟩
  | 12 => ⟨S256x256, .bf16⟩
  | 13 => ⟨S64x256x2048, .bf16⟩
  | _ => ⟨S64x128x2048, .i32⟩

abbrev hbmTy (i : Nat) : BufTy := match i / 128 with
  | 0 => hbmTy0_0 i
  | 1 => hbmTy0_1 i
  | _ => ⟨S64x128x2048, .i32⟩

abbrev bufTy : (tb : Table) → Fin (tcTables nBuf tb) → BufTy
  | .hbm, ⟨i, _⟩ => hbmTy i
  | .local _ .vmem, ⟨0, _⟩ => ⟨S1x128x2048, .i32⟩
  | .local _ .vmem, ⟨1, _⟩ => ⟨S1x128x2048, .i32⟩
  | .local _ .vmem, ⟨2, _⟩ => ⟨S1x128x2048, .i32⟩
  | .local _ .vmem, ⟨3, _⟩ => ⟨S1x128x2048, .i32⟩
  | .local _ .vmem, ⟨4, _⟩ => ⟨S1x128x2048, .i32⟩
  | .local _ .vmem, ⟨5, _⟩ => ⟨S1x128x2048, .i32⟩
  | .local _ .vmem, ⟨6, _⟩ => ⟨S1x2048, .f32⟩
  | .local _ .vmem, ⟨7, _⟩ => ⟨S256x256, .bf16⟩
  | .local _ .vmem, ⟨8, _⟩ => ⟨S256x256, .bf16⟩
  | .local _ .vmem, ⟨9, _⟩ => ⟨S1x256x2048, .bf16⟩
  | .local _ .vmem, ⟨10, _⟩ => ⟨S1x256x2048, .bf16⟩
  | _, _ => ⟨S64x128x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v7 : Ref sig .tc := ⟨.hbm, 31, rfl⟩
abbrev main_v8 : Ref sig .tc := ⟨.hbm, 32, rfl⟩
abbrev main_cst : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_0 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_v5 : Ref sig .tc := ⟨.hbm, 51, rfl⟩
abbrev main_call1_v6 : Ref sig .tc := ⟨.hbm, 52, rfl⟩
abbrev main_call1_c_2 : Ref sig .tc := ⟨.hbm, 53, rfl⟩
abbrev main_call1_v7 : Ref sig .tc := ⟨.hbm, 54, rfl⟩
abbrev main_call1_v8 : Ref sig .tc := ⟨.hbm, 55, rfl⟩
abbrev main_call1_c_3 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_v17 : Ref sig .tc := ⟨.hbm, 63, rfl⟩
abbrev main_v18 : Ref sig .tc := ⟨.hbm, 64, rfl⟩
abbrev main_cst_1 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_c_2 : Ref sig .tc := ⟨.hbm, 103, rfl⟩
abbrev main_call2_v0 : Ref sig .tc := ⟨.hbm, 104, rfl⟩
abbrev main_call2_c : Ref sig .tc := ⟨.hbm, 105, rfl⟩
abbrev main_call2_v1 : Ref sig .tc := ⟨.hbm, 106, rfl⟩
abbrev main_call2_c_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_c_1 : Ref sig .tc := ⟨.hbm, 111, rfl⟩
abbrev main_call2_v5 : Ref sig .tc := ⟨.hbm, 112, rfl⟩
abbrev main_call2_v6 : Ref sig .tc := ⟨.hbm, 113, rfl⟩
abbrev main_call2_c_2 : Ref sig .tc := ⟨.hbm, 114, rfl⟩
abbrev main_call2_v7 : Ref sig .tc := ⟨.hbm, 115, rfl⟩
abbrev main_call2_v8 : Ref sig .tc := ⟨.hbm, 116, rfl⟩
abbrev main_call2_c_3 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_v12 : Ref sig .tc := ⟨.hbm, 121, rfl⟩
abbrev main_call2_v13 : Ref sig .tc := ⟨.hbm, 122, rfl⟩
abbrev main_call2_v14 : Ref sig .tc := ⟨.hbm, 123, rfl⟩
abbrev main_v56 : Ref sig .tc := ⟨.hbm, 124, rfl⟩
abbrev main_v57 : Ref sig .tc := ⟨.hbm, 125, rfl⟩
abbrev main_cst_3 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![64, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S64x128x2048 : Shape := ⟨3, ![64, 128, 2048]⟩
abbrev S64x128x4096 : Shape := ⟨3, ![64, 128, 4096]⟩
abbrev S1x2048 : Shape := ⟨2, ![1, 2048]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S64x2048x128 : Shape := ⟨3, ![64, 2048, 128]⟩
abbrev S1x1x2048 : Shape := ⟨3, ![1, 1, 2048]⟩
abbrev S64x256x2048 : Shape := ⟨3, ![64, 256, 2048]⟩

abbrev nBuf : Space → Nat
  | .hbm => 123
  | .vmem => 0
  | .smem => 0
  | _ => 0

abbrev bufTy : (tb : Table) → Fin (tcTables nBuf tb) → BufTy
  | .hbm, ⟨0, _⟩ => ⟨S64x128x2048, .i32⟩
  | .hbm, ⟨1, _⟩ => ⟨S64x128x4096, .i32⟩
  | .hbm, ⟨2, _⟩ => ⟨S1x2048, .f32⟩
  | .hbm, ⟨3, _⟩ => ⟨S128, .i32⟩
  | .hbm, ⟨4, _⟩ => ⟨S128x1, .i32⟩
  | .hbm, ⟨5, _⟩ => ⟨S1x128, .i32⟩
  | .hbm, ⟨6, _⟩ => ⟨S128x128, .i32⟩
  | .hbm, ⟨7, _⟩ => ⟨S128x128, .i32⟩
  | .hbm, ⟨8, _⟩ => ⟨S128x128, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i1⟩
  | .hbm, ⟨20, _⟩ => ⟨S_, .i32⟩
  | .hbm, ⟨21, _⟩ => ⟨S128x128, .i32⟩
  | .hbm, ⟨22, _⟩ => ⟨S128x128, .i1⟩
  | .hbm, ⟨23, _⟩ => ⟨S_, .i32⟩
  | .hbm, ⟨24, _⟩ => ⟨S_, .i1⟩
  | .hbm, ⟨25, _⟩ => ⟨S128x128, .i1⟩
  | .hbm, ⟨26, _⟩ => ⟨S128x128, .i1⟩
  | .hbm, ⟨27, _⟩ => ⟨S128x128, .i1⟩
  | .hbm, ⟨28, _⟩ => ⟨S128x128, .i32⟩
  | .hbm, ⟨29, _⟩ => ⟨S128x128, .i32⟩
  | .hbm, ⟨30, _⟩ => ⟨S128x128, .i32⟩
  | .hbm, ⟨31, _⟩ => ⟨S128x128, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S_, .i32⟩
  | .hbm, ⟨38, _⟩ => ⟨S64x128x2048, .i32⟩
  | .hbm, ⟨39, _⟩ => ⟨S64x128x2048, .i32⟩
  | .hbm, ⟨40, _⟩ => ⟨S64x128x2048, .f32⟩
  | .hbm, ⟨41, _⟩ => ⟨S_, .i32⟩
  | .hbm, ⟨42, _⟩ => ⟨S64x128x2048, .i32⟩
  | .hbm, ⟨43, _⟩ => ⟨S64x128x2048, .i32⟩
  | .hbm, ⟨44, _⟩ => ⟨S64x128x2048, .f32⟩
  | .hbm, ⟨45, _⟩ => ⟨S64x2048x128, .f32⟩
  | .hbm, ⟨46, _⟩ => ⟨S64x128x2048, .f32⟩
  | .hbm, ⟨47, _⟩ => ⟨S64x2048x128, .f32⟩
  | .hbm, ⟨48, _⟩ => ⟨S64x128x2048, .f32⟩
  | .hbm, ⟨49, _⟩ => ⟨S64x128x2048, .f32⟩
  | .hbm, ⟨50, _⟩ => ⟨S128x128, .f32⟩
  | .hbm, ⟨51, _⟩ => ⟨S64x2048x128, .f32⟩
  | .hbm, ⟨52, _⟩ => ⟨S64x128x2048, .f32⟩
  | .hbm, ⟨53, _⟩ => ⟨S64x2048x128, .f32⟩
  | .hbm, ⟨54, _⟩ => ⟨S64x128x2048, .f32⟩
  | .hbm, ⟨55, _⟩ => ⟨S64x128x2048, .f32⟩
  | .hbm, ⟨56, _⟩ => ⟨S64x128x2048, .i32⟩
  | .hbm, ⟨57, _⟩ => ⟨S_, .i32⟩
  | .hbm, ⟨58, _⟩ => ⟨S64x128x2048, .i32⟩
  | .hbm, ⟨59, _⟩ => ⟨S64x128x2048, .i32⟩
  | .hbm, ⟨60, _⟩ => ⟨S64x128x2048, .f32⟩
  | .hbm, ⟨61, _⟩ => ⟨S_, .i32⟩
  | .hbm, ⟨62, _⟩ => ⟨S64x128x2048, .i32⟩
  | .hbm, ⟨63, _⟩ => ⟨S64x128x2048, .i32⟩
  | .hbm, ⟨64, _⟩ => ⟨S64x128x2048, .f32⟩
  | .hbm, ⟨65, _⟩ => ⟨S64x2048x128, .f32⟩
  | .hbm, ⟨66, _⟩ => ⟨S64x128x2048, .f32⟩
  | .hbm, ⟨67, _⟩ => ⟨S64x2048x128, .f32⟩
  | .hbm, ⟨68, _⟩ => ⟨S64x128x2048, .f32⟩
  | .hbm, ⟨69, _⟩ => ⟨S64x128x2048, .f32⟩
  | .hbm, ⟨70, _⟩ => ⟨S128x128, .f32⟩
  | .hbm, ⟨71, _⟩ => ⟨S64x2048x128, .f32⟩
  | .hbm, ⟨72, _⟩ => ⟨S64x128x2048, .f32⟩
  | .hbm, ⟨73, _⟩ => ⟨S64x2048x128, .f32⟩
  | .hbm, ⟨74, _⟩ => ⟨S64x128x2048, .f32⟩
  | .hbm, ⟨75, _⟩ => ⟨S64x128x2048, .f32⟩
  | .hbm, ⟨76, _⟩ => ⟨S64x128x2048, .i32⟩
  | .hbm, ⟨77, _⟩ => ⟨S_, .i32⟩
  | .hbm, ⟨78, _⟩ => ⟨S64x128x2048, .i32⟩
  | .hbm, ⟨79, _⟩ => ⟨S64x128x2048, .i32⟩
  | .hbm, ⟨80, _⟩ => ⟨S64x128x2048, .f32⟩
  | .hbm, ⟨81, _⟩ => ⟨S_, .i32⟩
  | .hbm, ⟨82, _⟩ => ⟨S64x128x2048, .i32⟩
  | .hbm, ⟨83, _⟩ => ⟨S64x128x2048, .i32⟩
  | .hbm, ⟨84, _⟩ => ⟨S64x128x2048, .f32⟩
  | .hbm, ⟨85, _⟩ => ⟨S64x2048x128, .f32⟩
  | .hbm, ⟨86, _⟩ => ⟨S64x128x2048, .f32⟩
  | .hbm, ⟨87, _⟩ => ⟨S64x2048x128, .f32⟩
  | .hbm, ⟨88, _⟩ => ⟨S64x128x2048, .f32⟩
  | .hbm, ⟨89, _⟩ => ⟨S64x128x2048, .f32⟩
  | .hbm, ⟨90, _⟩ => ⟨S128x128, .f32⟩
  | .hbm, ⟨91, _⟩ => ⟨S64x2048x128, .f32⟩
  | .hbm, ⟨92, _⟩ => ⟨S64x128x2048, .f32⟩
  | .hbm, ⟨93, _⟩ => ⟨S64x2048x128, .f32⟩
  | .hbm, ⟨94, _⟩ => ⟨S64x128x2048, .f32⟩
  | .hbm, ⟨95, _⟩ => ⟨S64x128x2048, .f32⟩
  | .hbm, ⟨96, _⟩ => ⟨S64x128x2048, .f32⟩
  | .hbm, ⟨97, _⟩ => ⟨S1x1x2048, .f32⟩
  | .hbm, ⟨98, _⟩ => ⟨S64x128x2048, .f32⟩
  | .hbm, ⟨99, _⟩ => ⟨S64x128x2048, .f32⟩
  | .hbm, ⟨100, _⟩ => ⟨S64x128x2048, .f32⟩
  | .hbm, ⟨101, _⟩ => ⟨S1x1x2048, .f32⟩
  | .hbm, ⟨102, _⟩ => ⟨S64x128x2048, .f32⟩
  | .hbm, ⟨103, _⟩ => ⟨S64x128x2048, .f32⟩
  | .hbm, ⟨104, _⟩ => ⟨S64x128x2048, .f32⟩
  | .hbm, ⟨105, _⟩ => ⟨S64x128x2048, .f32⟩
  | .hbm, ⟨106, _⟩ => ⟨S64x128x2048, .f32⟩
  | .hbm, ⟨107, _⟩ => ⟨S64x128x2048, .f32⟩
  | .hbm, ⟨108, _⟩ => ⟨S64x128x2048, .f32⟩
  | .hbm, ⟨109, _⟩ => ⟨S64x128x2048, .f32⟩
  | .hbm, ⟨110, _⟩ => ⟨S64x2048x128, .f32⟩
  | .hbm, ⟨111, _⟩ => ⟨S64x128x2048, .f32⟩
  | .hbm, ⟨112, _⟩ => ⟨S128x128, .f32⟩
  | .hbm, ⟨113, _⟩ => ⟨S64x2048x128, .f32⟩
  | .hbm, ⟨114, _⟩ => ⟨S64x128x2048, .f32⟩
  | .hbm, ⟨115, _⟩ => ⟨S64x128x2048, .f32⟩
  | .hbm, ⟨116, _⟩ => ⟨S64x2048x128, .f32⟩
  | .hbm, ⟨117, _⟩ => ⟨S64x128x2048, .f32⟩
  | .hbm, ⟨118, _⟩ => ⟨S64x2048x128, .f32⟩
  | .hbm, ⟨119, _⟩ => ⟨S64x128x2048, .f32⟩
  | .hbm, ⟨120, _⟩ => ⟨S64x128x2048, .f32⟩
  | .hbm, ⟨121, _⟩ => ⟨S64x256x2048, .f32⟩
  | .hbm, ⟨122, _⟩ => ⟨S64x256x2048, .bf16⟩
  | _, _ => ⟨S64x128x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c_0 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_c_1 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_2 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_3 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_4 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_5 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩

abbrev nD : Nat := 1
abbrev τ : Topo := Topo.v7x

variable {F : FTy → Type} [FloatOps F]
-- ==== Proof.FlashBlock.lean ====
/- What one grid point of the attention call leaves in its block of the result: the queries' transposes read back from the first scratch, the eight
   key blocks' steps of the accumulator as one sum over the 4096 keys, and the final quotients at an index. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384
noncomputable section

open Idealize.ShloMosaic Idealize.ShloMosaic.TcCoe Idealize.SL.Sem
open Idealize.ShloMosaic.Pipeline (Dat)

namespace Cert.KernelIdeal.RefValue

open Cert.KernelIdeal Cert.KernelIdeal.Gen Cert.KernelIdeal.Value

/-! ## One key block's step, from the arrays its payload reads -/

/-- The accumulator after one block of 512 keys: the block's values weighted by two to the scores. -/
def stepVal (K : Vec Ideal S1x512x128 .bf16) (Q : Vec Ideal S128x2048 .bf16) (A : Vec Ideal S144x2048 .f32) (V : Vec Ideal S1x1x144x512 .bf16) :
    Vec Ideal S144x2048 .f32 := fun j =>
  A j + ∑ k : Fin 512, V (ix4 (0 : Fin 1) (0 : Fin 1) (j 0) k) * Ideal.exp2 (∑ d : Fin 128, K (ix3 (0 : Fin 1) k d) * Q (ix2 d (j 1)))

section pays
variable (K : Vec Ideal S1x512x128 .bf16) (Q : Vec Ideal S128x2048 .bf16) (A : Vec Ideal S144x2048 .f32) (V : Vec Ideal S1x1x144x512 .bf16)

theorem pay9_eq : k0_pay9 K Q A V = stepVal K Q A V := by
  funext j; unfold k0_pay9 stepVal; pointwise; rfl
theorem pay11_eq : k0_pay11 (k0_pay10 K Q) A V = stepVal K Q A V := by
  funext j; unfold k0_pay11 k0_pay10 stepVal; pointwise; rfl
theorem pay12_eq : k0_pay12 K Q A V = stepVal K Q A V := by
  funext j; unfold k0_pay12 stepVal; pointwise; rfl
theorem pay14_eq : k0_pay14 (k0_pay13 K) Q A V = stepVal K Q A V := by
  funext j; unfold k0_pay14 k0_pay13 stepVal; pointwise; rfl
theorem pay15_eq : k0_pay15 K Q A V = stepVal K Q A V := by
  funext j; unfold k0_pay15 stepVal; pointwise; rfl
theorem pay16_eq : k0_pay16 K Q A V = stepVal K Q A V := by
  funext j; unfold k0_pay16 stepVal; pointwise; rfl
theorem pay18_eq : k0_pay18 (k0_pay17 K Q A V) = stepVal K Q A V := by
  funext j; unfold k0_pay18 k0_pay17 stepVal; pointwise; rfl
theorem pay19_eq : k0_pay19 K Q A V = stepVal K Q A V := by
  funext j; unfold k0_pay19 stepVal; pointwise; rfl

/-- The accumulator's first contents. -/
theorem pay8_eq : k0_pay8 (F := Ideal) (FloatOps.ofBits FTy.f32 0#32) = fun _ => 0 := by
  funext j; unfold k0_pay8; pointwise

/-- The quotients of one head's columns, which begin at column `o` of the accumulator. -/
def quot (A : Vec Ideal S144x2048 .f32) (o : ℕ) (ho : o + 512 ≤ 2048) : Vec Ideal S1x512x128 .bf16 := fun j =>
  Ideal.div (A (ix2 (⟨(j 2).val, lt_trans (j 2).isLt (by decide)⟩ : Fin 144) (⟨o + (j 1).val, lt_of_lt_of_le (Nat.add_lt_add_left (j 1).isLt o) ho⟩ : Fin 2048)))
    (A (ix2 (128 : Fin 144) (⟨o + (j 1).val, lt_of_lt_of_le (Nat.add_lt_add_left (j 1).isLt o) ho⟩ : Fin 2048)))

theorem pay21_eq : k0_pay21 A = quot A 0 (by decide) := by
  funext j; unfold k0_pay21 k0_pay20 quot; simp only [Nat.zero_add]; pointwise
theorem pay1_eq : k0_pay1 (k0_pay22 A) = quot A 512 (by decide) := by
  funext j; unfold k0_pay1 k0_pay22 k0_pay20 quot; pointwise
theorem pay2_eq : k0_pay2 (k0_pay20 A) = quot A 1024 (by decide) := by
  funext j; unfold k0_pay2 k0_pay20 quot; pointwise
theorem pay3_eq : k0_pay3 (k0_pay20 A) = quot A 1536 (by decide) := by
  funext j; unfold k0_pay3 k0_pay20 quot; pointwise

end pays

/-! ## The queries' transposes -/

/-- The queries of the four heads side by side, each head's 512 rows as columns. -/
def QT (x0 : Vec Ideal S1x512x512 .bf16) : Vec Ideal S128x2048 .bf16 := fun j =>
  x0 (ix3 (0 : Fin 1) (⟨(j 1).val % 512, Nat.mod_lt _ (by decide)⟩ : Fin 512)
    (⟨(j 1).val / 512 * 128 + (j 0).val, by
        have h0 : (j 0).val < 128 := (j 0).isLt
        have h1 : (j 1).val < 2048 := (j 1).isLt
        omega⟩ : Fin 512))

/-- One head's transpose, stored at columns `512 g` onwards, is those columns of `QT`. -/
theorem qt_piece (x0 : Vec Ideal S1x512x512 .bf16) (g : ℕ) (x : S128x512.Idx) (j : S128x2048.Idx) (inb)
    (h0 : (j 0).val = (x 0).val) (h1 : (j 1).val = 512 * g + (x 1).val) :
    (View.ld x0 (Rect.unit ![0, 0, 128 * g] ![1, 512, 128] inb) : Vec Ideal S1x512x128 .bf16) (ix3 (0 : Fin 1) (x 1) (x 0)) = QT x0 j := by
  have hx0 : (x 0).val < 128 := (x 0).isLt
  have hx1 : (x 1).val < 512 := (x 1).isLt
  refine View.ld_unit_apply_of x0 _ _ _ _ _ fun a => ?_
  match a with
  | ⟨0, _⟩ => simp
  | ⟨1, _⟩ => simp; omega
  | ⟨2, _⟩ => simp; omega

theorem qt_eq (arg7 : Memref sig .tc .vmem S128x2048 .bf16) (x0 : Vec Ideal S1x512x512 .bf16) :
    arg7.view.readCov
      [⟨Rect.unit ![0, 1536] ![128, 512] inb_S128x2048_S128x512_0_1536,
          k0_pay7 (View.ld x0 (Rect.unit ![0, 0, 384] ![1, 512, 128] inb_S1x512x512_S1x512x128_0_0_384))⟩,
        ⟨Rect.unit ![0, 1024] ![128, 512] inb_S128x2048_S128x512_0_1024,
          k0_pay6 (View.ld x0 (Rect.unit ![0, 0, 256] ![1, 512, 128] inb_S1x512x512_S1x512x128_0_0_256))⟩,
        ⟨Rect.unit ![0, 512] ![128, 512] inb_S128x2048_S128x512_0_512,
          k0_pay5 (View.ld x0 (Rect.unit ![0, 0, 128] ![1, 512, 128] inb_S1x512x512_S1x512x128_0_0_128))⟩,
        ⟨Rect.unit ![0, 0] ![128, 512] inb_S128x2048_S128x512_0_0,
          k0_pay4 (View.ld x0 (Rect.unit ![0, 0, 0] ![1, 512, 128] inb_S1x512x512_S1x512x128_0_0_0))⟩]
      (Rect.unit (s := S128x2048) ![0, 0] ![128, 2048] inb_S128x2048_S128x2048_0_0).toLoadRect = QT x0 := by
  rw [View.readCov_eq_canon']
  funext j
  have e : (Rect.unit (s := S128x2048) ![0, 0] ![128, 2048] inb_S128x2048_S128x2048_0_0).idx j = (j : S128x2048.Idx) := by
    funext a; apply Fin.ext
    rw [Rect.idx_unit_val]
    match a with
    | ⟨0, _⟩ => simp
    | ⟨1, _⟩ => simp
  show View.canon _ ((Rect.unit (s := S128x2048) ![0, 0] ![128, 2048] inb_S128x2048_S128x2048_0_0).idx j) = _
  rw [e]
  clear e
  change S128x2048.Idx at j
  canon_tiles x h
  · refine Eq.trans ?_ (qt_piece x0 3 x j inb_S1x512x512_S1x512x128_0_0_384 (by omega) (by omega))
    unfold k0_pay7; pointwise
  · refine Eq.trans ?_ (qt_piece x0 2 x j inb_S1x512x512_S1x512x128_0_0_256 (by omega) (by omega))
    unfold k0_pay6; pointwise
  · refine Eq.trans ?_ (qt_piece x0 1 x j inb_S1x512x512_S1x512x128_0_0_128 (by omega) (by omega))
    unfold k0_pay5; pointwise
  · refine Eq.trans ?_ (qt_piece x0 0 x j inb_S1x512x512_S1x512x128_0_0_0 (by omega) (by omega))
    unfold k0_pay4; pointwise

/-! ## The accumulator after the eight key blocks -/

/-- One key's term of the accumulator. -/
def term (x0 : Vec Ideal S1x512x512 .bf16) (x1 : Vec Ideal S1x4096x128 .bf16) (x2 : Vec Ideal S1x1x144x4096 .bf16) (e : Fin 144) (c : Fin 2048)
    (s : Fin 4096) : EReal :=
  x2 (ix4 (0 : Fin 1) (0 : Fin 1) e s) * Ideal.exp2 (∑ d : Fin 128, x1 (ix3 (0 : Fin 1) s d) * QT x0 (ix2 d c))

/-- The accumulator at the end: the sum over all keys. -/
def ACC (x0 : Vec Ideal S1x512x512 .bf16) (x1 : Vec Ideal S1x4096x128 .bf16) (x2 : Vec Ideal S1x1x144x4096 .bf16) : Vec Ideal S144x2048 .f32 :=
  fun j => ∑ s : Fin 4096, term x0 x1 x2 (j 0) (j 1) s

/-- The same term, at any number; zero past the last key. -/
def termN (x0 : Vec Ideal S1x512x512 .bf16) (x1 : Vec Ideal S1x4096x128 .bf16) (x2 : Vec Ideal S1x1x144x4096 .bf16) (e : Fin 144) (c : Fin 2048)
    (s : ℕ) : EReal := if h : s < 4096 then term x0 x1 x2 e c ⟨s, h⟩ else 0

/-- A block's step adds the terms of its keys. -/
theorem step_ld (x0 : Vec Ideal S1x512x512 .bf16) (x1 : Vec Ideal S1x4096x128 .bf16) (x2 : Vec Ideal S1x1x144x4096 .bf16) (A : Vec Ideal S144x2048 .f32)
    (b : ℕ) (hb : b < 8) (i1) (i2) (j : S144x2048.Idx) :
    stepVal (View.ld x1 (Rect.unit ![0, b * 512, 0] ![1, 512, 128] i1)) (QT x0) A (View.ld x2 (Rect.unit ![0, 0, 0, b * 512] ![1, 1, 144, 512] i2)) j
      = A j + ∑ k : Fin 512, termN x0 x1 x2 (j 0) (j 1) (b * 512 + k.val) := by
  unfold stepVal
  refine congrArg (A j + ·) (Finset.sum_congr rfl fun k _ => ?_)
  have hk : b * 512 + k.val < 4096 := by have := k.isLt; omega
  unfold termN term
  rw [dif_pos hk]
  congr 1
  · refine View.ld_unit_apply_of x2 _ _ _ _ _ fun a => ?_
    match a with
    | ⟨0, _⟩ => simp
    | ⟨1, _⟩ => simp
    | ⟨2, _⟩ => simp
    | ⟨3, _⟩ => simp
  · refine congrArg Ideal.exp2 (Finset.sum_congr rfl fun d _ => congrArg (· * _) ?_)
    refine View.ld_unit_apply_of x1 _ _ _ _ _ fun a => ?_
    match a with
    | ⟨0, _⟩ => simp
    | ⟨1, _⟩ => simp
    | ⟨2, _⟩ => simp

/-- The accumulator after the first `b` blocks. -/
def PART (x0 : Vec Ideal S1x512x512 .bf16) (x1 : Vec Ideal S1x4096x128 .bf16) (x2 : Vec Ideal S1x1x144x4096 .bf16) (b : ℕ) : Vec Ideal S144x2048 .f32 :=
  fun j => ∑ l ∈ Finset.range (b * 512), termN x0 x1 x2 (j 0) (j 1) l

/-- A block's step takes the accumulator after `b` blocks to the one after `b + 1`. -/
theorem step_part (x0 : Vec Ideal S1x512x512 .bf16) (x1 : Vec Ideal S1x4096x128 .bf16) (x2 : Vec Ideal S1x1x144x4096 .bf16) (A : Vec Ideal S144x2048 .f32)
    (b : ℕ) (hb : b < 8) (i1) (i2) (hA : A = PART x0 x1 x2 b) :
    stepVal (View.ld x1 (Rect.unit ![0, b * 512, 0] ![1, 512, 128] i1)) (QT x0) A (View.ld x2 (Rect.unit ![0, 0, 0, b * 512] ![1, 1, 144, 512] i2))
      = PART x0 x1 x2 (b + 1) := by
  subst hA
  funext j
  rw [step_ld x0 x1 x2 _ b hb]
  unfold PART
  rw [Nat.add_mul, Nat.one_mul, Finset.sum_range_add, Fin.sum_univ_eq_sum_range (fun k => termN x0 x1 x2 (j 0) (j 1) (b * 512 + k)) 512]

theorem part_zero (x0 : Vec Ideal S1x512x512 .bf16) (x1 : Vec Ideal S1x4096x128 .bf16) (x2 : Vec Ideal S1x1x144x4096 .bf16) :
    (fun _ => 0 : Vec Ideal S144x2048 .f32) = PART x0 x1 x2 0 := by
  funext j; unfold PART; simp

/-- After the eight blocks it is the sum over all keys. -/
theorem part_eight (x0 : Vec Ideal S1x512x512 .bf16) (x1 : Vec Ideal S1x4096x128 .bf16) (x2 : Vec Ideal S1x1x144x4096 .bf16) :
    PART x0 x1 x2 8 = ACC x0 x1 x2 := by
  funext j
  unfold PART ACC
  rw [show 8 * 512 = 4096 from rfl, ← Fin.sum_univ_eq_sum_range (termN x0 x1 x2 (j 0) (j 1)) 4096]
  refine Finset.sum_congr rfl fun s _ => ?_
  unfold termN
  rw [dif_pos s.isLt]

/-! ## The block the point writes -/

/-- One point's block of the result at row `r` and column `c`: head `c / 128` of the four, its column `c % 128`. -/
def OUT (x0 : Vec Ideal S1x512x512 .bf16) (x1 : Vec Ideal S1x4096x128 .bf16) (x2 : Vec Ideal S1x1x144x4096 .bf16) : Vec Ideal S1x512x512 .bf16 :=
  fun y => Ideal.div
    (∑ s : Fin 4096, x2 (ix4 (0 : Fin 1) (0 : Fin 1) (⟨(y 2).val % 128, lt_trans (Nat.mod_lt _ (by decide)) (by decide)⟩ : Fin 144) s)
      * Ideal.exp2 (∑ d : Fin 128, x1 (ix3 (0 : Fin 1) s d) * x0 (ix3 (0 : Fin 1) (y 1) (⟨(y 2).val / 128 * 128 + d.val, by
          have h2 : (y 2).val < 512 := (y 2).isLt
          have hd := d.isLt
          omega⟩ : Fin 512))))
    (∑ s : Fin 4096, x2 (ix4 (0 : Fin 1) (0 : Fin 1) (128 : Fin 144) s)
      * Ideal.exp2 (∑ d : Fin 128, x1 (ix3 (0 : Fin 1) s d) * x0 (ix3 (0 : Fin 1) (y 1) (⟨(y 2).val / 128 * 128 + d.val, by
          have h2 : (y 2).val < 512 := (y 2).isLt
          have hd := d.isLt
          omega⟩ : Fin 512))))

/-- A head's quotients are its columns of the block. -/
theorem quot_out (x0 : Vec Ideal S1x512x512 .bf16) (x1 : Vec Ideal S1x4096x128 .bf16) (x2 : Vec Ideal S1x1x144x4096 .bf16) (g : ℕ) (hg : 512 * g + 512 ≤ 2048)
    (x : S1x512x128.Idx) (y : S1x512x512.Idx) (h1 : (y 1).val = (x 1).val) (h2 : (y 2).val = 128 * g + (x 2).val) :
    quot (ACC x0 x1 x2) (512 * g) hg x = OUT x0 x1 x2 y := by
  have hx1 : (x 1).val < 512 := (x 1).isLt
  have hx2 : (x 2).val < 128 := (x 2).isLt
  have hq : ∀ (o : Fin 2048) (d : Fin 128) (hh), o.val = 512 * g + (x 1).val → QT x0 (ix2 d o) = x0 (ix3 (0 : Fin 1) (y 1) (⟨(y 2).val / 128 * 128 + d.val, hh⟩ : Fin 512)) := by
    intro o d hh ho
    have hd := d.isLt
    unfold QT
    refine congrArg x0 (funext fun a => Fin.ext ?_)
    match a with
    | ⟨0, _⟩ => rfl
    | ⟨1, _⟩ => show o.val % 512 = (y 1).val; omega
    | ⟨2, _⟩ => show o.val / 512 * 128 + d.val = (y 2).val / 128 * 128 + d.val; omega
  unfold quot ACC OUT term
  congr 1
  · refine Finset.sum_congr rfl fun s _ => ?_
    congr 1
    · refine congrArg x2 (funext fun a => Fin.ext ?_)
      match a with
      | ⟨0, _⟩ => rfl
      | ⟨1, _⟩ => rfl
      | ⟨2, _⟩ => show (x 2).val = (y 2).val % 128; omega
      | ⟨3, _⟩ => rfl
    · exact congrArg Ideal.exp2 (Finset.sum_congr rfl fun d _ => congrArg (x1 _ * ·) (hq _ d _ rfl))
  · refine Finset.sum_congr rfl fun s _ => ?_
    congr 1
    exact congrArg Ideal.exp2 (Finset.sum_congr rfl fun d _ => congrArg (x1 _ * ·) (hq _ d _ rfl))

/-- The four heads' quotients, stored side by side, are the block. -/
theorem canon_out (x0 : Vec Ideal S1x512x512 .bf16) (x1 : Vec Ideal S1x4096x128 .bf16) (x2 : Vec Ideal S1x1x144x4096 .bf16) (y : S1x512x512.Idx)
    (A : Vec Ideal S144x2048 .f32) (hA : A = ACC x0 x1 x2) :
    View.canon [⟨Rect.unit (s := S1x512x512) ![0, 0, 384] ![1, 512, 128] inb_S1x512x512_S1x512x128_0_0_384, k0_pay3 (k0_pay20 A)⟩,
      ⟨Rect.unit (s := S1x512x512) ![0, 0, 256] ![1, 512, 128] inb_S1x512x512_S1x512x128_0_0_256, k0_pay2 (k0_pay20 A)⟩,
      ⟨Rect.unit (s := S1x512x512) ![0, 0, 128] ![1, 512, 128] inb_S1x512x512_S1x512x128_0_0_128, k0_pay1 (k0_pay22 A)⟩,
      ⟨Rect.unit (s := S1x512x512) ![0, 0, 0] ![1, 512, 128] inb_S1x512x512_S1x512x128_0_0_0, k0_pay21 A⟩] y = OUT x0 x1 x2 y := by
  subst hA
  rw [pay21_eq, pay1_eq, pay2_eq, pay3_eq]
  canon_tiles x h
  · exact quot_out x0 x1 x2 3 (by decide) x y (by omega) (by omega)
  · exact quot_out x0 x1 x2 2 (by decide) x y (by omega) (by omega)
  · exact quot_out x0 x1 x2 1 (by decide) x y (by omega) (by omega)
  · exact quot_out x0 x1 x2 0 (by decide) x y (by omega) (by omega)

/-- What the point's run leaves in the result's staging buffer. -/
theorem out_read (c : Dev nD) (i : grid0.Coords) (arg3 : Memref sig .tc .vmem S1x512x512 .bf16) (harg3 : arg3.IsWhole) (arg4 : Memref sig .tc .vmem S1x4096x128 .bf16) (harg4 : arg4.IsWhole) (arg5 : Memref sig .tc .vmem S1x1x144x4096 .bf16) (harg5 : arg5.IsWhole) (arg6 : Memref sig .tc .vmem S1x512x512 .bf16) (harg6 : arg6.IsWhole) (arg7 : Memref sig .tc .vmem S128x2048 .bf16) (harg7 : arg7.IsWhole) (arg8 : Memref sig .tc .vmem S144x2048 .f32) (harg8 : arg8.IsWhole)
    (x0 : Vec Ideal S1x512x512 .bf16) (x1 : Vec Ideal S1x4096x128 .bf16) (x2 : Vec Ideal S1x1x144x4096 .bf16) (y : S1x512x512.Idx) :
    out0_A_3 c i arg3 harg3 arg4 harg4 arg5 harg5 arg6 harg6 arg7 harg7 arg8 harg8 x0 x1 x2 y = OUT x0 x1 x2 y := by
  frame_open
  simp (disch := decide) only [↓ View.readCov_skip, ↓ View.readCov_cons_toLoadRect, ↓ View.readCov_fill]
  frame_out
  rw [qt_eq, pay8_eq, pay9_eq, pay11_eq, pay12_eq, pay14_eq, pay15_eq, pay16_eq, pay18_eq, pay19_eq]
  refine canon_out x0 x1 x2 y _ (Eq.trans ?_ (part_eight x0 x1 x2))
  refine step_part x0 x1 x2 _ 7 (by decide) _ _ ?_
  refine step_part x0 x1 x2 _ 6 (by decide) _ _ ?_
  refine step_part x0 x1 x2 _ 5 (by decide) _ _ ?_
  refine step_part x0 x1 x2 _ 4 (by decide) _ _ ?_
  refine step_part x0 x1 x2 _ 3 (by decide) _ _ ?_
  refine step_part x0 x1 x2 _ 2 (by decide) _ _ ?_
  refine step_part x0 x1 x2 _ 1 (by decide) _ _ ?_
  refine step_part x0 x1 x2 _ 0 (by decide) _ _ ?_
  exact part_zero x0 x1 x2

end Cert.KernelIdeal.RefValue

end
-- ==== Proof.FlashScore.lean ====
/- The scores of the attention, from the queries and keys: what the kernel's blocks and the reference's arrays both come to. -/
module

public import Idealize.ShloMosaic.PureOps.Ideal
public import Idealize.ShloMosaic.Lib.Pointwise

@[expose] public section

noncomputable section

namespace Cert.Flash

open Idealize.ShloMosaic

/-- The product of key row `s` and query row `r`, of the head that column `col` belongs to. -/
def qk (x : Vec Ideal ⟨3, ![2, 4096, 3072]⟩ .bf16) (a : Fin 2) (r : Fin 4096) (col : Fin 2048) (s : Fin 4096) : EReal :=
  ∑ d : Fin 128, x (ix3 a s (⟨2048 + (col.val / 512 * 128 + d.val), by have := col.isLt; have := d.isLt; omega⟩ : Fin 3072))
    * x (ix3 a r (⟨col.val / 128 * 128 + d.val, by have := col.isLt; have := d.isLt; omega⟩ : Fin 3072))

end Cert.Flash

end
-- ==== Proof.FlashValue.lean ====
/- The attention call's result array at an index: each grid point's block, read from the argument arrays through the point's windows. -/
module

public import proofs.«01_k».proof.Proof.FlashBlock
public import proofs.«01_k».proof.Proof.FlashScore

@[expose] public section

set_option maxRecDepth 16384
noncomputable section

open Idealize.ShloMosaic Idealize.ShloMosaic.TcCoe Idealize.SL.Sem
open Idealize.ShloMosaic.Pipeline (Dat)

namespace Cert.KernelIdeal.RefValue

open Cert.KernelIdeal Cert.KernelIdeal.Gen Cert.KernelIdeal.Value Cert.Flash

variable (m : (ℓ : Loc nD τ sig) → Buf (Elt Ideal) ℓ) (ρ : Dev nD → PrngReg)

/-- The call's result from its two arguments, at sequence `a`, row `r` and column `col`. -/
def KAT (q : Vec Ideal S2x4096x3072 .bf16) (v : Vec Ideal S2x4x144x4096 .bf16) (a : Fin 2) (r : Fin 4096) (col : Fin 2048) : EReal :=
  Ideal.div
    (∑ s : Fin 4096, v (ix4 a (⟨col.val / 512, by have := col.isLt; omega⟩ : Fin 4) (⟨col.val % 128, lt_trans (Nat.mod_lt _ (by decide)) (by decide)⟩ : Fin 144) s)
      * Ideal.exp2 (qk q a r col s))
    (∑ s : Fin 4096, v (ix4 a (⟨col.val / 512, by have := col.isLt; omega⟩ : Fin 4) (128 : Fin 144) s) * Ideal.exp2 (qk q a r col s))

/-- The call's result from its two arguments. -/
def KVAL (q : Vec Ideal S2x4096x3072 .bf16) (v : Vec Ideal S2x4x144x4096 .bf16) : Vec Ideal S2x4096x2048 .bf16 := fun i =>
  KAT q v (i 0) (i 1) (i 2)

/-- One point's block is that result at the block's place, its input blocks being the arguments' blocks. -/
theorem out_kat (q : Vec Ideal S2x4096x3072 .bf16) (v : Vec Ideal S2x4x144x4096 .bf16) (c0 : ℕ) (hc0 : c0 < 2) (c1 : ℕ) (hc1 : c1 < 4) (c2 : ℕ) (hc2 : c2 < 8)
    (x0 : Vec Ideal S1x512x512 .bf16) (x1 : Vec Ideal S1x4096x128 .bf16) (x2 : Vec Ideal S1x1x144x4096 .bf16)
    (h0 : ∀ (r : Fin 512) (e : Fin 512), x0 (ix3 (0 : Fin 1) r e)
      = q (ix3 (⟨c0, hc0⟩ : Fin 2) (⟨c2 * 512 + r.val, by have := r.isLt; omega⟩ : Fin 4096) (⟨c1 * 512 + e.val, by have := e.isLt; omega⟩ : Fin 3072)))
    (h1 : ∀ (s : Fin 4096) (d : Fin 128), x1 (ix3 (0 : Fin 1) s d)
      = q (ix3 (⟨c0, hc0⟩ : Fin 2) s (⟨(16 + c1) * 128 + d.val, by have := d.isLt; omega⟩ : Fin 3072)))
    (h2 : ∀ (e : Fin 144) (s : Fin 4096), x2 (ix4 (0 : Fin 1) (0 : Fin 1) e s) = v (ix4 (⟨c0, hc0⟩ : Fin 2) (⟨c1, hc1⟩ : Fin 4) e s))
    (y : S1x512x512.Idx) (a : Fin 2) (r : Fin 4096) (col : Fin 2048) (ha : a.val = c0) (hr : r.val = c2 * 512 + (y 1).val) (hcol : col.val = c1 * 512 + (y 2).val) :
    OUT x0 x1 x2 y = KAT q v a r col := by
  have hy1 : (y 1).val < 512 := (y 1).isLt
  have hy2 : (y 2).val < 512 := (y 2).isLt
  have hqk : ∀ (s : Fin 4096) (hh : ∀ d : Fin 128, (y 2).val / 128 * 128 + d.val < 512),
      (∑ d : Fin 128, x1 (ix3 (0 : Fin 1) s d) * x0 (ix3 (0 : Fin 1) (y 1) (⟨(y 2).val / 128 * 128 + d.val, hh d⟩ : Fin 512))) = qk q a r col s := by
    intro s hh
    unfold qk
    refine Finset.sum_congr rfl fun d _ => ?_
    rw [h1]
    refine congrArg₂ (· * ·) (congrArg q ?_) ((h0 (y 1) _).trans (congrArg q ?_))
    · funext z; apply Fin.ext
      match z with
      | ⟨0, _⟩ => exact ha.symm
      | ⟨1, _⟩ => rfl
      | ⟨2, _⟩ => show (16 + c1) * 128 + d.val = 2048 + (col.val / 512 * 128 + d.val); omega
    · funext z; apply Fin.ext
      match z with
      | ⟨0, _⟩ => exact ha.symm
      | ⟨1, _⟩ => exact hr.symm
      | ⟨2, _⟩ => show c1 * 512 + ((y 2).val / 128 * 128 + d.val) = col.val / 128 * 128 + d.val; omega
  unfold OUT KAT
  refine congrArg₂ Ideal.div ?_ ?_
  · refine Finset.sum_congr rfl fun s _ => congrArg₂ (· * ·) ((h2 _ _).trans (congrArg v ?_)) (congrArg Ideal.exp2 (hqk s _))
    funext z; apply Fin.ext
    match z with
    | ⟨0, _⟩ => exact ha.symm
    | ⟨1, _⟩ => show c1 = col.val / 512; omega
    | ⟨2, _⟩ => show (y 2).val % 128 = col.val % 128; omega
    | ⟨3, _⟩ => rfl
  · refine Finset.sum_congr rfl fun s _ => congrArg₂ (· * ·) ((h2 _ _).trans (congrArg v ?_)) (congrArg Ideal.exp2 (hqk s _))
    funext z; apply Fin.ext
    match z with
    | ⟨0, _⟩ => exact ha.symm
    | ⟨1, _⟩ => show c1 = col.val / 512; omega
    | ⟨2, _⟩ => rfl
    | ⟨3, _⟩ => rfl

/-- The windows' block indices at every grid point. -/
theorem idx : ∀ t : Fin cfg0.N, win0_0.index t = ![(grid0.coords t 0).val, (grid0.coords t 2).val, (grid0.coords t 1).val]
    ∧ win0_1.index t = ![(grid0.coords t 0).val, 0, 16 + (grid0.coords t 1).val]
    ∧ win0_2.index t = ![(grid0.coords t 0).val, (grid0.coords t 1).val, 0, 0]
    ∧ win0_3.index t = ![(grid0.coords t 0).val, (grid0.coords t 2).val, (grid0.coords t 1).val] := by
  decide +kernel

theorem value (c : Dev nD) : (dats m 0 c).arrAt 3 cfg0.N
    = KVAL (m ((c : Thread nD τ).loc main_arg0)) (m ((c : Thread nD τ).loc main_arg1)) := by
  refine (dats m 0 c).arrAt_eq_of_covers 3 _ (by decide +kernel) fun t hf y => ?_
  have e0 := fun t => (idx t).1
  have e1 := fun t => (idx t).2.1
  have e2 := fun t => (idx t).2.2.1
  have e3 := fun t => (idx t).2.2.2
  blk_simp
  rw [after0_3]
  unfold outsAt0
  refine (out_read c _ _ _ _ _ _ _ _ _ _ _ _ _ _ _ _ y).trans ?_
  refine out_kat _ _ (grid0.coords t 0).val (grid0.coords t 0).isLt (grid0.coords t 1).val (grid0.coords t 1).isLt (grid0.coords t 2).val (grid0.coords t 2).isLt _ _ _ ?_ ?_ ?_ y _ _ _ ?_ ?_ ?_
  · intro r e; blk_ext [iblk, V, e0]
  · intro s d; blk_ext [iblk, V, e1]
  · intro e s; blk_ext [iblk, V, e2]
  · blk_simp [e3]
  · blk_simp [e3]
  · blk_simp [e3]

end Cert.KernelIdeal.RefValue

end
-- ==== Proof.Softmax.lean ====
/- The mathematics of the attention claim: a softmax of real scores times `log 2`, with any real shift, weighted by real values, is the quotient of the two
   sums of powers of two. -/
module

public import Idealize.ShloMosaic.PureOps.Ideal
public import Idealize.ShloMosaic.PureOps.Ideal.Laws

@[expose] public section

noncomputable section

namespace Cert.Softmax

open Idealize.ShloMosaic

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem two_rpow (x : ℝ) : Real.rpow 2 x = Real.exp (x * Real.log 2) := by
  show (2 : ℝ) ^ x = _
  rw [Real.rpow_def_of_pos (by norm_num), mul_comm]

/-- The division of two reals, the divisor not zero. -/
theorem div_coe_coe (x y : ℝ) (hy : y ≠ 0) : Ideal.div (x : EReal) (y : EReal) = ((x / y : ℝ) : EReal) := by
  rw [Ideal.div_coe hy, ← EReal.coe_mul, mul_one_div]

/-- A sum of extended reals times a real that is not negative is the sum of the products. -/
theorem sum_mul_real {ι : Type*} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- The quotient of the two sums of powers of two is the softmax of the scores times `log 2`, shifted by any real `M`, weighted by the values. -/
theorem softmax_eq {n : ℕ} (hn : 0 < n) (x : Fin n → ℝ) (v : Fin n → EReal) (M : ℝ) :
    Ideal.div (∑ s, v s * Ideal.exp2 (x s : EReal)) (∑ s, (1 : EReal) * Ideal.exp2 (x s : EReal))
      = ∑ s, v s * Ideal.div (Ideal.exp ((x s : EReal) * (Real.log 2 : EReal) - (M : EReal)))
          (∑ t, Ideal.exp ((x t : EReal) * (Real.log 2 : EReal) - (M : EReal))) := by
  have hne : (Finset.univ : Finset (Fin n)).Nonempty := ⟨⟨0, hn⟩, Finset.mem_univ _⟩
  have hZ : 0 < ∑ t : Fin n, Real.exp (x t * Real.log 2) := Finset.sum_pos (fun t _ => Real.exp_pos _) hne
  have hZM : 0 < ∑ t : Fin n, Real.exp (x t * Real.log 2 - M) := Finset.sum_pos (fun t _ => Real.exp_pos _) hne
  have eK : ∀ s, Ideal.exp2 (x s : EReal) = ((Real.exp (x s * Real.log 2) : ℝ) : EReal) := fun s => by rw [Ideal.exp2_coe, two_rpow]
  have eR : ∀ s, Ideal.exp ((x s : EReal) * (Real.log 2 : EReal) - (M : EReal)) = ((Real.exp (x s * Real.log 2 - M) : ℝ) : EReal) := fun s => by
    rw [← EReal.coe_mul, ← EReal.coe_sub, Ideal.exp_coe]
  simp only [eK, eR, one_mul]
  simp only [← coe_sum]
  rw [Ideal.div_coe hZ.ne', sum_mul_real _ _ _ (by positivity)]
  refine Finset.sum_congr rfl fun s _ => ?_
  rw [div_coe_coe _ _ hZM.ne', mul_assoc, ← EReal.coe_mul]
  refine congrArg (fun r : ℝ => v s * (r : EReal)) ?_
  have h2 : ∑ t : Fin n, Real.exp (x t * Real.log 2 - M) = (∑ t : Fin n, Real.exp (x t * Real.log 2)) / Real.exp M := by
    rw [Finset.sum_div]; exact Finset.sum_congr rfl fun t _ => Real.exp_sub _ _
  rw [h2, Real.exp_sub]
  field_simp

/-- The largest of a nonempty set of reals, from minus infinity, is real. -/
theorem fold_max_real {ι : Type*} (s : Finset ι) (f : ι → EReal) (i : ι) (hi : i ∈ s) (hf : ∀ j, ∃ r : ℝ, f j = r) :
    ∃ r : ℝ, s.fold max ⊥ f = r := by
  have h1 : s.fold max ⊥ f < ⊤ := by
    rw [Finset.fold_max_lt]
    refine ⟨bot_lt_top, fun j _ => ?_⟩
    obtain ⟨r, hr⟩ := hf j
    rw [hr]; exact EReal.coe_lt_top r
  have h2 : f i ≤ s.fold max ⊥ f := by
    rw [Finset.le_fold_max]; exact Or.inr ⟨i, hi, le_rfl⟩
  obtain ⟨r, hr⟩ := hf i
  have h3 : s.fold max ⊥ f ≠ ⊥ := by
    intro h; rw [h, hr] at h2; exact absurd (le_bot_iff.mp h2) (EReal.coe_ne_bot r)
  exact ⟨_, (EReal.coe_toReal h1.ne h3).symm⟩

theorem fold_op_real {ι : Type*} (op : EReal → EReal → EReal) [Std.Commutative op] [Std.Associative op] (hop : op = max) (s : Finset ι) (f : ι → EReal)
    (i : ι) (hi : i ∈ s) (hf : ∀ j, ∃ r : ℝ, f j = r) (b : EReal) (hb : b = ⊥) : ∃ r : ℝ, s.fold op b f = r := by
  subst hop hb
  exact fold_max_real s f i hi hf

theorem ofBits_two : Ideal.ofBits .f32 0x40000000#32 = ((2 : ℝ) : EReal) := by
  simp [Ideal.ofBits, Ideal.ieee]
  rw [← EReal.coe_mul]
  norm_num
theorem ofBits_ninf : Ideal.ofBits .f32 0xFF800000#32 = ⊥ := by
  simp [Ideal.ofBits, Ideal.ieee]
theorem ofBits_inf_bf16 : Ideal.ofBits .bf16 0x7F80#16 = ⊤ := by
  simp [Ideal.ofBits, Ideal.ieee]
theorem ofBits_one_bf16 : Ideal.ofBits .bf16 0x3F80#16 = 1 := by
  simp [Ideal.ofBits, Ideal.ieee]
  rw [← EReal.coe_mul]
  norm_num

theorem log_two : Ideal.log (Ideal.ofBits .f32 0x40000000#32) = ((Real.log 2 : ℝ) : EReal) := by
  rw [ofBits_two, Ideal.log_coe, if_neg (by norm_num)]

/-- Finite is real. -/
theorem real_of_abs_lt {x : EReal} (h : max x (-x) < ⊤) : ∃ r : ℝ, x = r := by
  have h1 : x ≠ ⊤ := fun e => by rw [e] at h; simp at h
  have h2 : x ≠ ⊥ := fun e => by rw [e] at h; simp at h
  exact ⟨x.toReal, (EReal.coe_toReal h1 h2).symm⟩

end Cert.Softmax

end
-- ==== Proof.FlashRef.lean ====
/- The reference's result at an index, in stages: the scores, their largest, the weights, the weighted values, and the reshaped result. -/
module

public import proofs.«01_k».proof.Defs
public import proofs.«01_k».proof.Proof.Gen.ReferenceIdeal.Run
public import Idealize.ShloMosaic.Lib.Pointwise
public import proofs.«01_k».proof.Proof.Softmax
public import proofs.«01_k».proof.Proof.FlashScore

@[expose] public section

set_option maxRecDepth 16384
noncomputable section

open Idealize.ShloMosaic Idealize.ShloMosaic.TcCoe Idealize.SL.Sem

namespace Cert.ReferenceIdeal.RefValue

open Cert.ReferenceIdeal Cert.ReferenceIdeal.Gen Cert.ReferenceIdeal.Value Cert.Flash
variable (m : (ℓ : Loc nD τ sig) → Buf (Elt Ideal) ℓ)

/-- The scores. -/
def SC (x : Vec Ideal S2x4096x3072 .bf16) : FVec Ideal S2x4x4x4096x4096 .f32 :=
  mulf (transpose S2x4x4x4096x4096 [0, 1, 4, 3, 2] (Host.dotGeneral dot_S2x4096x4x128_S2x4096x4x4x128_S2x4x4096x4096x4_3_4_1_13_02_02 none (shapeCast _ (extractStridedSlice S2x4096x512 ![0, 0, 2048] (extf .f32 x bitsLt_bf16_f32) slices_S2x4096x3072_S2x4096x512_0_0_2048) shapeCasts_S2x4096x512_S2x4096x4x128) (shapeCast _ (extractStridedSlice S2x4096x2048 ![0, 0, 0] (extf .f32 x bitsLt_bf16_f32) slices_S2x4096x3072_S2x4096x2048_0_0_0) shapeCasts_S2x4096x2048_S2x4096x4x4x128)) transposes_S2x4x4096x4096x4_S2x4x4x4096x4096_0_1_4_3_2) (broadcastInDim S2x4x4x4096x4096 ![] bcast_S_S2x4x4x4096x4096 (Host.log (constant S_ .f32 0x40000000#32)))

/-- The largest score of each row. -/
def MX (S : FVec Ideal S2x4x4x4096x4096 .f32) : FVec Ideal S2x4x4x4096 .f32 :=
  maximumf (broadcastInDim S2x4x4x4096 ![] bcast_S_S2x4x4x4096 (constant S_ .f32 0xFF800000#32)) (Host.reduce FloatOps.maximumf S (constant S_ .f32 0xFF800000#32) reducesTo_S2x4x4x4096x4096_S2x4x4x4096_d4 h_S_)

/-- A row's value over every key. -/
def UP (M : FVec Ideal S2x4x4x4096 .f32) : FVec Ideal S2x4x4x4096x4096 .f32 :=
  broadcastInDim S2x4x4x4096x4096 ![0, 1, 2, 3, 4] bcast_S2x4x4x4096x1_S2x4x4x4096x4096_0_1_2_3_4 (broadcastInDim S2x4x4x4096x1 ![0, 1, 2, 3] bcast_S2x4x4x4096_S2x4x4x4096x1_0_1_2_3 M)

/-- The exponentials of the shifted scores. -/
def EX (S : FVec Ideal S2x4x4x4096x4096 .f32) : FVec Ideal S2x4x4x4096x4096 .f32 := Host.exp (subf S (UP (MX S)))

/-- The sum of a row. -/
def SUM (S : FVec Ideal S2x4x4x4096x4096 .f32) : FVec Ideal S2x4x4x4096 .f32 :=
  Host.reduceAdd S (constant S_ .f32 0x00000000#32) reducesTo_S2x4x4x4096x4096_S2x4x4x4096_d4 h_S_

/-- The values weighted by `P`. -/
def PV (v : Vec Ideal S2x4x144x4096 .bf16) (P : FVec Ideal S2x4x4x4096x4096 .f32) : FVec Ideal S2x4x128x4x4096 .f32 :=
  Host.dotGeneral dot_S2x4x128x4096_S2x4x4x4096x4096_S2x4x128x4x4096_3_4_2_23_01_01 none (extf .f32 (extractStridedSlice S2x4x128x4096 ![0, 0, 0, 0] v slices_S2x4x144x4096_S2x4x128x4096_0_0_0_0) bitsLt_bf16_f32) P

/-- The result from the weighted values. -/
def FIN (D : FVec Ideal S2x4x128x4x4096 .f32) : FVec Ideal S2x4096x2048 .bf16 :=
  truncf .bf16 (shapeCast _ (transpose S2x4096x4x4x128 [0, 4, 1, 3, 2] D transposes_S2x4x128x4x4096_S2x4096x4x4x128_0_4_1_3_2) shapeCasts_S2x4096x4x4x128_S2x4096x2048) bitsLt_bf16_f32

theorem res_eq (c : Dev nD) : res_out0 m c = FIN (PV (m ((c.tc : Thread nD τ).loc main_arg1))
    (Host.divf (EX (SC (m ((c.tc : Thread nD τ).loc main_arg0)))) (UP (SUM (EX (SC (m ((c.tc : Thread nD τ).loc main_arg0)))))))) := rfl

theorem fin_apply (D : FVec Ideal S2x4x128x4x4096 .f32) (i : S2x4096x2048.Idx) :
    FIN D i = D (ix5 (i 0) (⟨(i 2).val / 512, by have h : (i 2).val < 2048 := (i 2).isLt; omega⟩ : Fin 4) (⟨(i 2).val % 128, Nat.mod_lt _ (by decide)⟩ : Fin 128)
      (⟨(i 2).val / 128 % 4, Nat.mod_lt _ (by decide)⟩ : Fin 4) (i 1)) := by
  unfold FIN
  pointwise

theorem pv_apply (v P) (a : Fin 2) (b : Fin 4) (d : Fin 128) (g : Fin 4) (r : Fin 4096) :
    PV v P (ix5 a b d g r) = ∑ s : Fin 4096, v (ix4 a b (⟨d.val, lt_trans d.isLt (by decide)⟩ : Fin 144) s) * P (ix5 a b g r s) := by
  unfold PV
  pointwise

theorem up_apply (M) (a : Fin 2) (b : Fin 4) (g : Fin 4) (r : Fin 4096) (s : Fin 4096) : UP M (ix5 a b g r s) = M (ix4 a b g r) := by
  unfold UP
  pointwise

theorem sum_apply (M) (a : Fin 2) (b : Fin 4) (g : Fin 4) (r : Fin 4096) : SUM M (ix4 a b g r) = ∑ s : Fin 4096, M (ix5 a b g r s) := by
  unfold SUM
  pointwise

theorem sc_apply (x) (a : Fin 2) (b : Fin 4) (g : Fin 4) (r s : Fin 4096) :
    SC x (ix5 a b g r s) = (∑ d : Fin 128, x (ix3 a s (⟨2048 + (b.val * 128 + d.val), by have := b.isLt; have := d.isLt; omega⟩ : Fin 3072))
      * x (ix3 a r (⟨b.val * 512 + g.val * 128 + d.val, by have := b.isLt; have := g.isLt; have := d.isLt; omega⟩ : Fin 3072))) * ((Real.log 2 : ℝ) : EReal) := by
  unfold SC
  pointwise
  rw [Softmax.log_two]

/-- The larger of minus infinity and `R`'s element is that element. -/
theorem max_apply (R : FVec Ideal S2x4x4x4096 .f32) (j : S2x4x4x4096.Idx) :
    maximumf (broadcastInDim S2x4x4x4096 ![] bcast_S_S2x4x4x4096 (constant S_ .f32 0xFF800000#32)) R j = R j := by
  have h : maximumf (broadcastInDim S2x4x4x4096 ![] bcast_S_S2x4x4x4096 (constant S_ .f32 0xFF800000#32)) R j
      = max (Ideal.ofBits .f32 0xFF800000#32) (R j) := rfl
  rw [h, Softmax.ofBits_ninf]
  exact max_eq_right bot_le

theorem drop_row (h : S2x4x4x4096x4096.ReducesTo [4] S2x4x4x4096) (a : Fin 2) (b : Fin 4) (g : Fin 4) (r s : Fin 4096) :
    h.drop (ix5 a b g r s) = ix4 a b g r := by
  funext x
  apply Fin.ext
  match x with
  | ⟨0, _⟩ => exact h.drop_apply_val_of_eq (ix5 a b g r s) (0 : Fin 4) (0 : Fin 5)
  | ⟨1, _⟩ => exact h.drop_apply_val_of_eq (ix5 a b g r s) (1 : Fin 4) (1 : Fin 5)
  | ⟨2, _⟩ => exact h.drop_apply_val_of_eq (ix5 a b g r s) (2 : Fin 4) (2 : Fin 5)
  | ⟨3, _⟩ => exact h.drop_apply_val_of_eq (ix5 a b g r s) (3 : Fin 4) (3 : Fin 5)

/-- A row of real scores has a real largest one. -/
theorem mx_real (S : FVec Ideal S2x4x4x4096x4096 .f32) (hS : ∀ i, ∃ r : ℝ, S i = r) (a : Fin 2) (b : Fin 4) (g : Fin 4) (r : Fin 4096) :
    ∃ M : ℝ, MX S (ix4 a b g r) = M := by
  unfold MX
  rw [max_apply, Host.reduce_eq_fold]
  refine Softmax.fold_op_real _ rfl _ S (ix5 a b g r (0 : Fin 4096)) ?_ hS _ Softmax.ofBits_ninf
  rw [Finset.mem_filter]
  exact ⟨Finset.mem_univ _, drop_row _ a b g r 0⟩

theorem sc_qk (x : Vec Ideal S2x4096x3072 .bf16) (a : Fin 2) (r : Fin 4096) (col : Fin 2048) (s : Fin 4096) :
    SC x (ix5 a (⟨col.val / 512, by have := col.isLt; omega⟩ : Fin 4) (⟨col.val / 128 % 4, Nat.mod_lt _ (by decide)⟩ : Fin 4) r s)
      = qk x a r col s * ((Real.log 2 : ℝ) : EReal) := by
  rw [sc_apply]
  refine congrArg (· * ((Real.log 2 : ℝ) : EReal)) (Finset.sum_congr rfl fun d _ => congrArg (x (ix3 a s _) * x ·) ?_)
  funext z
  apply Fin.ext
  match z with
  | ⟨0, _⟩ => rfl
  | ⟨1, _⟩ => rfl
  | ⟨2, _⟩ => show col.val / 512 * 512 + col.val / 128 % 4 * 128 + d.val = col.val / 128 * 128 + d.val; omega

theorem ex_eq (S : FVec Ideal S2x4x4x4096x4096 .f32) (j : S2x4x4x4096x4096.Idx) (u v : EReal) (hu : S j = u) (hv : UP (MX S) j = v) :
    EX S j = Ideal.exp (u - v) := by
  subst hu hv; rfl

theorem divf_eq (S T : FVec Ideal S2x4x4x4096x4096 .f32) (j : S2x4x4x4096x4096.Idx) : Host.divf S T j = Ideal.div (S j) (T j) := rfl

/-- The reference's result at an index, with a real shift of the row's scores. -/
theorem ref_read (x : Vec Ideal S2x4096x3072 .bf16) (v : Vec Ideal S2x4x144x4096 .bf16) (hX : ∀ (a : Fin 2) (r : Fin 4096) (c : Fin 3072), c.val < 2560 → ∃ z : ℝ, x (ix3 a r c) = z)
    (a : Fin 2) (r : Fin 4096) (col : Fin 2048) :
    ∃ M : ℝ, FIN (PV v (Host.divf (EX (SC x)) (UP (SUM (EX (SC x)))))) (ix3 a r col) =
      ∑ s : Fin 4096, v (ix4 a (⟨col.val / 512, by have := col.isLt; omega⟩ : Fin 4) (⟨col.val % 128, lt_trans (Nat.mod_lt _ (by decide)) (by decide)⟩ : Fin 144) s)
        * Ideal.div (Ideal.exp (qk x a r col s * ((Real.log 2 : ℝ) : EReal) - (M : EReal))) (∑ t : Fin 4096, Ideal.exp (qk x a r col t * ((Real.log 2 : ℝ) : EReal) - (M : EReal))) := by
  have hS : ∀ j, ∃ r : ℝ, SC x j = r := by
    intro j
    have hj : ∃ (a : Fin 2) (b : Fin 4) (g : Fin 4) (r s : Fin 4096), j = ix5 a b g r s :=
      ⟨j 0, j 1, j 2, j 3, j 4, by funext a; match a with | ⟨0, _⟩ => rfl | ⟨1, _⟩ => rfl | ⟨2, _⟩ => rfl | ⟨3, _⟩ => rfl | ⟨4, _⟩ => rfl⟩
    obtain ⟨a, b, g, r, s, rfl⟩ := hj
    have hK := fun d : Fin 128 => hX a s (⟨2048 + (b.val * 128 + d.val), by have := b.isLt; have := d.isLt; omega⟩ : Fin 3072) (by have := b.isLt; have := d.isLt; show 2048 + (b.val * 128 + d.val) < 2560; omega)
    have hQ := fun d : Fin 128 => hX a r (⟨b.val * 512 + g.val * 128 + d.val, by have := b.isLt; have := g.isLt; have := d.isLt; omega⟩ : Fin 3072) (by have := b.isLt; have := g.isLt; have := d.isLt; show b.val * 512 + g.val * 128 + d.val < 2560; omega)
    choose K hK using hK
    choose Q hQ using hQ
    rw [sc_apply]
    simp only [hK, hQ, ← EReal.coe_mul, ← Softmax.coe_sum]
    exact ⟨_, rfl⟩
  obtain ⟨M, hM⟩ := mx_real (SC x) hS a (⟨col.val / 512, by have := col.isLt; omega⟩ : Fin 4) (⟨col.val / 128 % 4, Nat.mod_lt _ (by decide)⟩ : Fin 4) r
  refine ⟨M, ?_⟩
  have hex : ∀ s : Fin 4096, EX (SC x) (ix5 a (⟨col.val / 512, by have := col.isLt; omega⟩ : Fin 4) (⟨col.val / 128 % 4, Nat.mod_lt _ (by decide)⟩ : Fin 4) r s)
      = Ideal.exp (qk x a r col s * ((Real.log 2 : ℝ) : EReal) - (M : EReal)) := fun s =>
    ex_eq _ _ _ _ (sc_qk x a r col s) ((up_apply _ _ _ _ _ _).trans hM)
  rw [fin_apply]
  refine (pv_apply _ _ a _ _ _ r).trans ?_
  refine Finset.sum_congr rfl fun s _ => ?_
  refine congrArg (_ * ·) ?_
  refine (divf_eq _ _ _).trans ?_
  refine congrArg₂ Ideal.div (hex s) ?_
  refine (up_apply _ _ _ _ _ _).trans ((sum_apply _ _ _ _ _).trans ?_)
  exact Finset.sum_congr rfl fun t _ => hex t

end Cert.ReferenceIdeal.RefValue

end
-- ==== Proof.FlashClaims.lean ====
/- The claims about the attention call: what the precondition says of its arguments, the two results' agreement, and the claims themselves. -/
module

public import proofs.«01_k».proof.Defs
public import proofs.«01_k».proof.Proof.FlashValue
public import proofs.«01_k».proof.Proof.FlashRef
public import proofs.«01_k».proof.Proof.Softmax
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_attention_inputs
public import Idealize.ShloMosaic.Lib.Claim
public import Idealize.ShloMosaic.Lib.ReduceAll

@[expose] public section

noncomputable section

open Idealize.ShloMosaic Idealize.ShloMosaic.TcCoe Idealize.SL.Sem

namespace Cert.Pre_attention_inputs

open Cert.Pre_attention_inputs.Gen

theorem elt_finite (x : FVec Ideal S2x4096x2560 .bf16) (i : S2x4096x2560.Idx)
    (h : cmpf .olt (Host.absf x) (broadcastInDim S2x4096x2560 ![] Facts.bcast_S_S2x4096x2560 (constant S_ .bf16 0x7F80#16)) i = 1#1) : ∃ z : ℝ, x i = z := by
  have h' : Ideal.cmp .olt (max (x i) (-(x i))) (Ideal.ofBits .bf16 0x7F80#16) = 1#1 := h
  rw [Softmax.ofBits_inf_bf16] at h'
  by_cases hlt : max (x i) (-(x i)) < ⊤
  · exact Softmax.real_of_abs_lt hlt
  · simp [Ideal.cmp, hlt] at h'

theorem elt_one (x : FVec Ideal S2x4x4096 .bf16) (i : S2x4x4096.Idx)
    (h : cmpf .oeq x (broadcastInDim S2x4x4096 ![] Facts.bcast_S_S2x4x4096 (constant S_ .bf16 0x3F80#16)) i = 1#1) : x i = (1 : EReal) := by
  have h' : Ideal.cmp .oeq (x i) (Ideal.ofBits .bf16 0x3F80#16) = 1#1 := h
  rw [Softmax.ofBits_one_bf16] at h'
  by_contra hne
  simp [Ideal.cmp, hne] at h'

/-- The queries and keys are real, and the row under the values is ones. -/
theorem decode (x : FVec Ideal S2x4096x3072 .bf16) (v : FVec Ideal S2x4x144x4096 .bf16) (h : fn x v = fun _ => 1#1) :
    (∀ (a : Fin 2) (r : Fin 4096) (c : Fin 3072), c.val < 2560 → ∃ z : ℝ, x (ix3 a r c) = z)
      ∧ ∀ (a : Fin 2) (b : Fin 4) (s : Fin 4096), v (ix4 a b (128 : Fin 144) s) = (1 : EReal) := by
  have h0 := congrFun h (fun a => a.elim0)
  unfold fn at h0
  dsimp only at h0
  obtain ⟨h1, h2⟩ := IntOp.andi_eq_one.1 h0
  haveI : Subsingleton S_.Idx := ⟨fun a b => funext fun k => k.elim0⟩
  constructor
  · intro a r c hc
    obtain ⟨z, hz⟩ := elt_finite _ (ix3 a r (⟨c.val, hc⟩ : Fin 2560)) (Host.reduce_andi_all _ _ _ _ _ h1 _)
    refine ⟨z, Eq.trans ?_ hz⟩
    pointwise
  · intro a b s
    have hz := elt_one _ (ix3 a b s) (Host.reduce_andi_all _ _ _ _ _ h2 _)
    refine Eq.trans ?_ hz
    pointwise

end Cert.Pre_attention_inputs

namespace Cert.Proof.Flash

open Cert.Flash

/-- The kernel's result is the reference's. -/
theorem agree (x : Vec Ideal Cert.KernelIdeal.S2x4096x3072 .bf16) (v : Vec Ideal Cert.KernelIdeal.S2x4x144x4096 .bf16)
    (hX : ∀ (a : Fin 2) (r : Fin 4096) (c : Fin 3072), c.val < 2560 → ∃ z : ℝ, x (ix3 a r c) = z)
    (hV : ∀ (a : Fin 2) (b : Fin 4) (s : Fin 4096), v (ix4 a b (128 : Fin 144) s) = (1 : EReal)) (a : Fin 2) (r : Fin 4096) (col : Fin 2048) :
    Cert.ReferenceIdeal.RefValue.FIN (Cert.ReferenceIdeal.RefValue.PV v (Host.divf (Cert.ReferenceIdeal.RefValue.EX (Cert.ReferenceIdeal.RefValue.SC x))
      (Cert.ReferenceIdeal.RefValue.UP (Cert.ReferenceIdeal.RefValue.SUM (Cert.ReferenceIdeal.RefValue.EX (Cert.ReferenceIdeal.RefValue.SC x)))))) (ix3 a r col)
      = Cert.KernelIdeal.RefValue.KAT x v a r col := by
  obtain ⟨M, hM⟩ := Cert.ReferenceIdeal.RefValue.ref_read x v hX a r col
  refine hM.trans ?_
  have hq : ∀ s : Fin 4096, ∃ z : ℝ, qk x a r col s = z := by
    intro s
    have hK := fun d : Fin 128 => hX a s (⟨2048 + (col.val / 512 * 128 + d.val), by have := col.isLt; have := d.isLt; omega⟩ : Fin 3072) (by have := col.isLt; have := d.isLt; show 2048 + (col.val / 512 * 128 + d.val) < 2560; omega)
    have hQ := fun d : Fin 128 => hX a r (⟨col.val / 128 * 128 + d.val, by have := col.isLt; have := d.isLt; omega⟩ : Fin 3072) (by have := col.isLt; have := d.isLt; show col.val / 128 * 128 + d.val < 2560; omega)
    choose K hK using hK
    choose Q hQ using hQ
    unfold qk
    simp only [hK, hQ, ← EReal.coe_mul, ← Softmax.coe_sum]
    exact ⟨_, rfl⟩
  choose q hq using hq
  unfold Cert.KernelIdeal.RefValue.KAT
  simp only [hq, hV]
  exact (Softmax.softmax_eq (by decide) q _ M).symm

theorem frame_p : Cert.quiescent_Kernel := fun m g _ => Cert.Kernel.Gen.frame m g
theorem frame_pi : Cert.quiescent_KernelIdeal := fun m g _ => Cert.KernelIdeal.Gen.frame m g
theorem frame_pi_pre : Cert.quiescent_KernelIdeal_pre_attention_inputs := fun m g _ => Cert.KernelIdeal.Gen.frame m g

theorem frame_ri : Cert.quiescent_ReferenceIdeal := fun m g _ =>
  (θ_run Cert.ReferenceIdeal.defs _ _).mono (fun r h => ⟨fun c => (h c).2, sem_eq_zero_of_no_sems (by decide) r.2⟩) (Cert.ReferenceIdeal.Value.run m g)
theorem frame_ri_pre : Cert.quiescent_ReferenceIdeal_pre_attention_inputs := fun m g _ => frame_ri m g trivial

theorem algebraic : Cert.algebraic_KernelIdeal_ReferenceIdeal_pre_attention_inputs := by
  intro m g m' g' hpre hargs
  refine ⟨fun c => (Cert.KernelIdeal.Gen.dats m 0 c).arrAt 3 Cert.KernelIdeal.cfg0.N, ?_, ?_⟩
  · exact Cert.KernelIdeal.Value.run_blocks m g
  · refine (θ_run Cert.ReferenceIdeal.defs _ _).mono (fun r h c => ⟨(h c).1.trans ?_, (h c).2⟩) (Cert.ReferenceIdeal.Value.run m' g')
    have e := Cert.Pre_attention_inputs.decode _ _ (hpre c)
    refine Eq.trans ?_ (Cert.KernelIdeal.RefValue.value m c).symm
    refine (Cert.ReferenceIdeal.RefValue.res_eq m' c).trans ?_
    rw [(hargs c).1, (hargs c).2]
    funext i
    obtain ⟨a, r, col, rfl⟩ : ∃ (a : Fin 2) (r : Fin 4096) (col : Fin 2048), i = ix3 a r col :=
      ⟨i 0, i 1, i 2, by funext z; match z with | ⟨0, _⟩ => rfl | ⟨1, _⟩ => rfl | ⟨2, _⟩ => rfl⟩
    exact agree _ _ e.1 e.2 a r col

end Cert.Proof.Flash

end
-- ==== Proof.ExpertsPre.lean ====
/- What the experts' precondition says of the three tables, as bounds on their words: every tile's expert is one of the 32, no row count is
   negative, at least one tile is in use, and a tile past those in use has no rows. -/
module

public import proofs.«01_k».proof.Defs
public import proofs.«01_k».proof.Proof.Gen.Pre_expert_tables
public import Idealize.ShloMosaic.Lib.ReduceAll
public import Idealize.ShloMosaic.Lib.WordCmp
public import Idealize.ShloMosaic.Lib.Pointwise

@[expose] public section

noncomputable section

open Idealize.ShloMosaic Idealize.ShloMosaic.WordCmp

namespace Cert.Experts

/-- The bounds, on the tables' words. -/
structure Ranges (te tv : Fin 192 → BitVec 32) (nu : BitVec 32) : Prop where
  expert : ∀ i, (te i).toNat < 32
  count : ∀ i, (tv i).toNat < 2 ^ 31
  used_pos : 1 ≤ nu.toNat
  used_lt : nu.toNat < 2 ^ 31
  used : ∀ i : Fin 192, tv i = 0#32 ∨ i.val < nu.toNat

theorem toNat_of_toInt_nonneg (x : BitVec 32) (h : (0 : Int) ≤ x.toInt) : x.toNat < 2 ^ 31 ∧ x.toInt = (x.toNat : Int) := by
  have hx := x.isLt
  rw [BitVec.toInt_eq_toNat_cond] at h ⊢
  split_ifs at h ⊢ <;> omega

theorem sge_le (x y : BitVec 32) (h : IntOp.cmpi .sge x y = 1#1) : y.toInt ≤ x.toInt := by
  rw [cmpi_sge_eq] at h
  by_contra hn
  simp [hn] at h

theorem slt_lt (x y : BitVec 32) (h : IntOp.cmpi .slt x y = 1#1) : x.toInt < y.toInt := by
  rw [cmpi_slt_eq] at h
  by_contra hn
  simp [hn] at h

theorem or_one (a b : BitVec 1) (h : IntOp.ori a b = 1#1) : a = 1#1 ∨ b = 1#1 := by
  revert a b; decide

theorem eq_of_cmp (x y : BitVec 32) (h : IntOp.cmpi .eq x y = 1#1) : x = y := by
  rw [cmpi_eq_eq] at h
  by_contra hn
  simp [hn] at h

/-- The smaller of a tile's number and the last tile in use, as words. -/
theorem min_word (i : ℕ) (hi : i < 192) (nu : BitVec 32) (h1 : 1 ≤ nu.toNat) (h2 : nu.toNat < 2 ^ 31) :
    (Scalar.minsi (BitVec.ofNat 32 i) (Scalar.subi nu 1#32)).toNat = min i (nu.toNat - 1) := by
  have hs : (Scalar.subi nu 1#32).toNat = nu.toNat - 1 := by
    show (nu - 1#32).toNat = _
    rw [BitVec.toNat_sub]
    have : (1#32 : BitVec 32).toNat = 1 := rfl
    rw [this]
    omega
  have ho : (BitVec.ofNat 32 i).toNat = i := by rw [BitVec.toNat_ofNat]; omega
  have io : (BitVec.ofNat 32 i).toInt = (i : Int) := by
    rw [BitVec.toInt_eq_toNat_cond, ho]; split_ifs <;> omega
  have is : (Scalar.subi nu 1#32).toInt = ((nu.toNat - 1 : ℕ) : Int) := by
    rw [BitVec.toInt_eq_toNat_cond, hs]; split_ifs <;> omega
  show (IntOp.minsi (BitVec.ofNat 32 i) (Scalar.subi nu 1#32)).toNat = _
  unfold IntOp.minsi
  split_ifs with h
  · rw [ho]
    simp [BitVec.sle, BitVec.slt, io, is] at h
    omega
  · rw [hs]
    simp [BitVec.sle, BitVec.slt, io, is] at h
    omega

end Cert.Experts

namespace Cert.Pre_expert_tables

open Cert.Pre_expert_tables.Gen Cert.Experts
variable {F : FTy → Type} [FloatOps F]

/-- The precondition's four tests, read at every word. -/
theorem decode (te tv : IVec S192 32) (nu : IVec S1 32) (hs : IVec S98304x1024 32) (g u : FVec F S2x32x2048x512 .f32) (d : FVec F S2x32x512x2048 .f32)
    (h : fn (F := F) te tv nu hs g u d = fun _ => 1#1) :
    Ranges (fun i => te (ix1 i)) (fun i => tv (ix1 i)) (nu (ix1 (0 : Fin 1))) := by
  have h0 := congrFun h (fun a => a.elim0)
  unfold fn fn_part1 at h0
  dsimp only at h0
  haveI : Subsingleton S_.Idx := ⟨fun a b => funext fun k => k.elim0⟩
  obtain ⟨h1, h4⟩ := IntOp.andi_eq_one.1 h0
  obtain ⟨h1, h3⟩ := IntOp.andi_eq_one.1 h1
  obtain ⟨h1, h2⟩ := IntOp.andi_eq_one.1 h1
  have e := fun i : Fin 192 => IntOp.andi_eq_one.1 (Host.reduce_andi_all _ _ _ _ _ h1 (ix1 i))
  have cn := fun i : Fin 192 => Host.reduce_andi_all _ _ _ _ _ h2 (ix1 i)
  have us := Host.reduce_andi_all _ _ _ _ _ h3 (ix1 (0 : Fin 1))
  have un := fun i : Fin 192 => or_one _ _ (Host.reduce_andi_all _ _ _ _ _ h4 (ix1 i))
  have hus := sge_le (nu (ix1 (0 : Fin 1))) 1#32 us
  have hus1 : (1 : Int) ≤ (nu (ix1 (0 : Fin 1))).toInt := hus
  obtain ⟨hnl, hni⟩ := toNat_of_toInt_nonneg (nu (ix1 (0 : Fin 1))) (by omega)
  refine ⟨fun i => ?_, fun i => ?_, ?_, hnl, fun i => ?_⟩
  · have a := sge_le (te (ix1 i)) 0#32 (e i).1
    have b := slt_lt (te (ix1 i)) 32#32 (e i).2
    have a' : (0 : Int) ≤ (te (ix1 i)).toInt := a
    have b' : (te (ix1 i)).toInt < 32 := b
    have := toNat_of_toInt_nonneg _ a'
    omega
  · exact (toNat_of_toInt_nonneg _ (sge_le (tv (ix1 i)) 0#32 (cn i))).1
  · omega
  · rcases un i with hz | hl
    · exact .inl (eq_of_cmp (tv (ix1 i)) 0#32 hz)
    · right
      have l : (iotaInDim S192 32 0 (ix1 i)).toInt < (broadcastInDim S192 ![0] Facts.bcast_S1_S192_0 nu (ix1 i)).toInt := slt_lt _ _ hl
      have eb : broadcastInDim S192 ![0] Facts.bcast_S1_S192_0 nu (ix1 i) = nu (ix1 (0 : Fin 1)) :=
        congrArg nu (funext fun k => match k with | ⟨0, _⟩ => Subsingleton.elim (α := Fin 1) _ _)
      have ei : iotaInDim S192 32 0 (ix1 i) = BitVec.ofNat 32 i.val := by pointwise
      rw [eb, ei] at l
      rw [hni, BitVec.toInt_eq_toNat_cond, BitVec.toNat_ofNat] at l
      have := i.isLt
      split_ifs at l <;> omega

end Cert.Pre_expert_tables

end
-- ==== Proof.ExpertsKit.lean ====
/- The routed experts' call (ideal instance): what its runs share. The call prefetches three tables (each tile's expert, each tile's row count, the
   number of tiles in use); everything here is stated at any contents of them under the call's own side condition `Ok`. -/
module

public import proofs.«01_k».proof.Proof.Gen.Kernel2Ideal.Launch
public import proofs.«01_k».proof.Proof.Gen.Kernel2Ideal.Skeleton
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel2Ideal.Experts

open Idealize.ShloMosaic Idealize.ShloMosaic.TcCoe Idealize.ShloMosaic.Tactic
open Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; it follows from the precondition. -/
abbrev Ok : Prop := ok0 (F := F) (tbl m)
/-- The tables' contents as ADMISSIBLE contents, and the pipeline at them: what the launch theorem runs
    (`θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S192 .i32 := Memref.whole main_arg0
abbrev htbM0_0 : tbM0_0.IsWhole := Memref.isWhole_whole _
abbrev tbM0_1 : Memref sig .tc .smem S192 .i32 := Memref.whole main_arg1
abbrev htbM0_1 : tbM0_1.IsWhole := Memref.isWhole_whole _
abbrev tbM0_2 : Memref sig .tc .smem S1 .i32 := Memref.whole main_arg2
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (`ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`):
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`):
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`):
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`):
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    `FramePost` read at the argument arrays — a staged input by the library's
    `Dat.arrAt_in`, an array no window stages by the post's second clause, each then by `V_…` — is the frame
    claim's post, at any `F`. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 0).trans (((dats 0 c).arrAt_in 0 rfl _).trans ((hA c 0).trans (V_main_arg3 m c))),
      ((h c).1 1).trans (((dats 0 c).arrAt_in 1 rfl _).trans ((hA c 1).trans (V_main_arg4 m c))),
      ((h c).1 2).trans (((dats 0 c).arrAt_in 2 rfl _).trans ((hA c 2).trans (V_main_arg5 m c))),
      ((h c).1 3).trans (((dats 0 c).arrAt_in 3 rfl _).trans ((hA c 3).trans (V_main_arg6 m c)))⟩) h

/-! ## The kernel body on any staging memrefs: a subtype the run finds -/

/-- One staging buffer of output window 4, through which its contents are stated (`View.read_writes_of_cover`: the
    choice does not matter). -/
abbrev VO0_4 : View sig .tc .vmem S512x2048 .f32 := (Memref.whole cc0_stg4_0 : Memref sig .tc .vmem S512x2048 .f32).view
/-- Each window's current staging memref at point `t`, spelled as the pipeline passes it (`bodyAt0`), and its wholeness. -/
abbrev ms0_0 (hO : Ok m) (t : Fin (cfgM m hO).N) : Memref sig .tc .vmem S512x1024 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x2048x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x512x2048 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x2048 .f32 := spec0_4.stage ((cfgM m hO).slots t 4)
abbrev hs0_4 (hO : Ok m) (t : Fin (cfgM m hO).N) : (ms0_4 m hO t).IsWhole := hstage0_4 (((cfgM m hO).slots t 4).cast nbuf0_4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

end Cert.Kernel2Ideal.Experts

end
-- ==== Proof.ExpertsRun.lean ====
/- The routed experts' call (ideal instance): the body's run at a tile that holds rows and at an empty one. -/
module

public import proofs.«01_k».proof.Proof.ExpertsKit

@[expose] public section

set_option maxRecDepth 16384

noncomputable section

namespace Cert.Kernel2Ideal.Experts

open Idealize.ShloMosaic Idealize.ShloMosaic.TcCoe Idealize.ShloMosaic.Tactic
open Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The row count of point `i`'s tile, as the body loads it from the second table. -/
def cnt (c : Dev nD) (i : grid0.Coords) (xt1 : TbBuf0 (F := F) c tbM0_1) : Elt F .i32 :=
  tbM0_1.view.readAt (Elt F) (Rect.unit (s := S192) (k0_off1 i) S1.size (k0_off1_inb i)).toLoadRect xt1 (Shape.Idx.first (numel1_S1.symm ▸ Nat.one_pos))

set_option maxHeartbeats 1000000 in
/-- The body's run at a tile with rows: the pieces its stores leave in the output's buffer, found by running it. -/
noncomputable def runRows (c : Dev nD) (i : grid0.Coords) (arg4 : Memref sig .tc .vmem S512x1024 .i32) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1x1x512x2048 .f32) (harg7 : arg7.IsWhole) (arg8 : Memref sig .tc .vmem S512x2048 .f32) (harg8 : arg8.IsWhole)
    (x0 : Vec F S512x1024 .i32) (x1 : Vec F S1x1x2048x512 .f32) (x2 : Vec F S1x1x2048x512 .f32) (x3 : Vec F S1x1x512x2048 .f32) (xt0 : TbBuf0 (F := F) c tbM0_0) (xt1 : TbBuf0 (F := F) c tbM0_1) (xt2 : TbBuf0 (F := F) c tbM0_2)
    (h1 : ¬ k0_cond1 (cnt c i xt1) = 1#1) (h2 : k0_cond2 (cnt c i xt1) = 1#1) :
    { L4 : List (View.Piece (Elt F) S512x2048 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ tbPt0 c tbM0_0 xt0 ∗ tbPt0 c tbM0_1 xt1 ∗ tbPt0 c tbM0_2 xt2) -∗ K ⟨⟩))
          ⊢ wp frame (wpE (defs₀ (F := F)) Variants.none c none) E (cc0_moe_experts i tbM0_0 htbM0_0 tbM0_1 htbM0_1 tbM0_2 htbM0_2 arg4 harg4 arg5 harg5 arg6 harg6 arg7 harg7 arg8 harg8) K } := by
  refine ⟨?_, fun E K => ?run⟩
  case run =>
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, HT2, Hk⟩
    obtain rfl := harg4.eq_unread hf0; obtain rfl := harg5.eq_unread hf1; obtain rfl := harg6.eq_unread hf2; obtain rfl := harg7.eq_unread hf3
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HT0]; · iexact HT0
    isplitl [HT1]; · iexact HT1
    iexact HT2

set_option maxHeartbeats 1000000 in
/-- The body's run at an empty tile: the pieces its stores leave in the output's buffer, found by running it. -/
noncomputable def runEmpty (c : Dev nD) (i : grid0.Coords) (arg4 : Memref sig .tc .vmem S512x1024 .i32) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1x1x512x2048 .f32) (harg7 : arg7.IsWhole) (arg8 : Memref sig .tc .vmem S512x2048 .f32) (harg8 : arg8.IsWhole)
    (x0 : Vec F S512x1024 .i32) (x1 : Vec F S1x1x2048x512 .f32) (x2 : Vec F S1x1x2048x512 .f32) (x3 : Vec F S1x1x512x2048 .f32) (xt0 : TbBuf0 (F := F) c tbM0_0) (xt1 : TbBuf0 (F := F) c tbM0_1) (xt2 : TbBuf0 (F := F) c tbM0_2)
    (h1 : k0_cond1 (cnt c i xt1) = 1#1) (h2 : ¬ k0_cond2 (cnt c i xt1) = 1#1) :
    { L4 : List (View.Piece (Elt F) S512x2048 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ tbPt0 c tbM0_0 xt0 ∗ tbPt0 c tbM0_1 xt1 ∗ tbPt0 c tbM0_2 xt2) -∗ K ⟨⟩))
          ⊢ wp frame (wpE (defs₀ (F := F)) Variants.none c none) E (cc0_moe_experts i tbM0_0 htbM0_0 tbM0_1 htbM0_1 tbM0_2 htbM0_2 arg4 harg4 arg5 harg5 arg6 harg6 arg7 harg7 arg8 harg8) K } := by
  refine ⟨?_, fun E K => ?run⟩
  case run =>
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, HT2, Hk⟩
    obtain rfl := harg4.eq_unread hf0; obtain rfl := harg5.eq_unread hf1; obtain rfl := harg6.eq_unread hf2; obtain rfl := harg7.eq_unread hf3
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HT0]; · iexact HT0
    isplitl [HT1]; · iexact HT1
    iexact HT2

end Cert.Kernel2Ideal.Experts

end
-- ==== Proof.ExpertsFrame.lean ====
/- The routed experts' call (ideal instance): what the output holds point by point, the body at every point, and the run. -/
module

public import proofs.«01_k».proof.Proof.ExpertsRun

@[expose] public section

-- membership in a rectangle of production extents (`View.cover_of_tiled`): the elaborator's structural look
-- recurses once per coordinate of the long axes
set_option maxRecDepth 16384

noncomputable section

namespace Cert.Kernel2Ideal.Experts

open Idealize.ShloMosaic Idealize.ShloMosaic.TcCoe Idealize.ShloMosaic.Tactic
open Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces left at a tile with rows cover the output's block. -/
theorem coverRows (c : Dev nD) (i : grid0.Coords) (arg4 : Memref sig .tc .vmem S512x1024 .i32) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1x1x512x2048 .f32) (harg7 : arg7.IsWhole) (arg8 : Memref sig .tc .vmem S512x2048 .f32) (harg8 : arg8.IsWhole)
    (x0 : Vec F S512x1024 .i32) (x1 : Vec F S1x1x2048x512 .f32) (x2 : Vec F S1x1x2048x512 .f32) (x3 : Vec F S1x1x512x2048 .f32) (xt0 : TbBuf0 (F := F) c tbM0_0) (xt1 : TbBuf0 (F := F) c tbM0_1) (xt2 : TbBuf0 (F := F) c tbM0_2)
    (h1 : ¬ k0_cond1 (cnt c i xt1) = 1#1) (h2 : k0_cond2 (cnt c i xt1) = 1#1) (y : S512x2048.Idx) :
    ∃ pc ∈ (runRows c i arg4 harg4 arg5 harg5 arg6 harg6 arg7 harg7 arg8 harg8 x0 x1 x2 x3 xt0 xt1 xt2 h1 h2).1, y ∈ pc.1.set :=
  View.cover_of_tiledL (runRows c i arg4 harg4 arg5 harg5 arg6 harg6 arg7 harg7 arg8 harg8 x0 x1 x2 x3 xt0 xt1 xt2 h1 h2).1 S512x2048.size (by sl_kernel_rfl) y

/-- What the output's buffer holds after a tile with rows. -/
def outRows (c : Dev nD) (i : grid0.Coords) (arg4 : Memref sig .tc .vmem S512x1024 .i32) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1x1x512x2048 .f32) (harg7 : arg7.IsWhole) (arg8 : Memref sig .tc .vmem S512x2048 .f32) (harg8 : arg8.IsWhole)
    (x0 : Vec F S512x1024 .i32) (x1 : Vec F S1x1x2048x512 .f32) (x2 : Vec F S1x1x2048x512 .f32) (x3 : Vec F S1x1x512x2048 .f32) (xt0 : TbBuf0 (F := F) c tbM0_0) (xt1 : TbBuf0 (F := F) c tbM0_1) (xt2 : TbBuf0 (F := F) c tbM0_2)
    (h1 : ¬ k0_cond1 (cnt c i xt1) = 1#1) (h2 : k0_cond2 (cnt c i xt1) = 1#1) : Vec F S512x2048 .f32 :=
  VO0_4.read (Elt F) (VO0_4.writes (Elt F) VO0_4.junk (runRows c i arg4 harg4 arg5 harg5 arg6 harg6 arg7 harg7 arg8 harg8 x0 x1 x2 x3 xt0 xt1 xt2 h1 h2).1)

/-- The pieces left at an empty tile cover the output's block. -/
theorem coverEmpty (c : Dev nD) (i : grid0.Coords) (arg4 : Memref sig .tc .vmem S512x1024 .i32) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1x1x512x2048 .f32) (harg7 : arg7.IsWhole) (arg8 : Memref sig .tc .vmem S512x2048 .f32) (harg8 : arg8.IsWhole)
    (x0 : Vec F S512x1024 .i32) (x1 : Vec F S1x1x2048x512 .f32) (x2 : Vec F S1x1x2048x512 .f32) (x3 : Vec F S1x1x512x2048 .f32) (xt0 : TbBuf0 (F := F) c tbM0_0) (xt1 : TbBuf0 (F := F) c tbM0_1) (xt2 : TbBuf0 (F := F) c tbM0_2)
    (h1 : k0_cond1 (cnt c i xt1) = 1#1) (h2 : ¬ k0_cond2 (cnt c i xt1) = 1#1) (y : S512x2048.Idx) :
    ∃ pc ∈ (runEmpty c i arg4 harg4 arg5 harg5 arg6 harg6 arg7 harg7 arg8 harg8 x0 x1 x2 x3 xt0 xt1 xt2 h1 h2).1, y ∈ pc.1.set :=
  View.cover_of_tiledL (runEmpty c i arg4 harg4 arg5 harg5 arg6 harg6 arg7 harg7 arg8 harg8 x0 x1 x2 x3 xt0 xt1 xt2 h1 h2).1 S512x2048.size (by sl_kernel_rfl) y

/-- What the output's buffer holds after an empty tile. -/
def outEmpty (c : Dev nD) (i : grid0.Coords) (arg4 : Memref sig .tc .vmem S512x1024 .i32) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1x1x512x2048 .f32) (harg7 : arg7.IsWhole) (arg8 : Memref sig .tc .vmem S512x2048 .f32) (harg8 : arg8.IsWhole)
    (x0 : Vec F S512x1024 .i32) (x1 : Vec F S1x1x2048x512 .f32) (x2 : Vec F S1x1x2048x512 .f32) (x3 : Vec F S1x1x512x2048 .f32) (xt0 : TbBuf0 (F := F) c tbM0_0) (xt1 : TbBuf0 (F := F) c tbM0_1) (xt2 : TbBuf0 (F := F) c tbM0_2)
    (h1 : k0_cond1 (cnt c i xt1) = 1#1) (h2 : ¬ k0_cond2 (cnt c i xt1) = 1#1) : Vec F S512x2048 .f32 :=
  VO0_4.read (Elt F) (VO0_4.writes (Elt F) VO0_4.junk (runEmpty c i arg4 harg4 arg5 harg5 arg6 harg6 arg7 harg7 arg8 harg8 x0 x1 x2 x3 xt0 xt1 xt2 h1 h2).1)

/-! ## What the output holds after each point -/

/-- Every tile's row count is zero or positive: exactly one of the body's two branches is taken. -/
def Counts : Prop := ∀ (c : Dev nD) (i : grid0.Coords),
  (¬ k0_cond2 (cnt (F := F) c i (tbl m 1)) = 1#1 → k0_cond1 (cnt (F := F) c i (tbl m 1)) = 1#1)
  ∧ (k0_cond2 (cnt (F := F) c i (tbl m 1)) = 1#1 → ¬ k0_cond1 (cnt (F := F) c i (tbl m 1)) = 1#1)

/-- What the output's buffer holds after the body at point `t`. -/
def outsAt0 (hO : Ok m) (hC : Counts m) (c : Dev nD) (t : Fin (cfgM m hO).N) : Vec F S512x2048 .f32 :=
  if h2 : k0_cond2 (cnt (F := F) c (grid0.coords t) (tbl m 1)) = 1#1 then
    outRows c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) (tbl m 2) ((hC c _).2 h2) h2
  else outEmpty c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) (tbl m 2) ((hC c _).1 h2) h2

/-- The table's word that a window's schedule reads is the word that the body loads. -/
theorem cnt_eq (c : Dev nD) (i : grid0.Coords) : (tbl m).atD 1 (k0_off1 i) = cnt (F := F) c i (tbl m 1) := by
  refine (dif_pos fun a => ?_).trans ?_
  · match a with
    | ⟨0, _⟩ => exact k0_off1_inb i 0
  · unfold cnt View.readAt
    refine congrArg (tbl m 1) (funext fun a => Fin.ext ?_)
    match a with
    | ⟨0, _⟩ => rfl

/-- The body stores the output's block at every point. -/
theorem idle_out (hO : Ok m) (hC : Counts m) (i : grid0.Coords) : (cfgM m hO).idle 4 i = false := by
  show (!(k0_cond1 ((tbl m).atD 1 (k0_off1 i)) == 1#1) && !(k0_cond2 ((tbl m).atD 1 (k0_off1 i)) == 1#1)) = false
  rw [cnt_eq m 0 i]
  by_cases h2 : k0_cond2 (cnt (F := F) 0 i (tbl m 1)) = 1#1
  · simp [h2]
  · simp [(hC 0 i).1 h2]

/-! ## The pipeline's proof data -/

/-- The proof data of the one pipeline on core `c`: the arrays as the region finds them (`V`); after the body at
    point `t` each input's buffer at its block and the outputs' at `outsAt0`; the invariant is
    the scoped rest and the generator register (`ΦA`) and the tables' halves (`ΦT`); nothing owed;
    full shares. -/
def dats (hO : Ok m) (hC : Counts m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO hC c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hC : Counts m) (c : Dev nD) (w : Fin (cfgM m hO).W) : (dats m hO hC 0 c).A w = V m c (Pipeline.arrRef spec0 w) := by
  dsimp only [dats]

/-- What the body leaves, window by window (the proof data's `match` reduced by `dsimp`). -/
theorem after0_0 (hO : Ok m) (hC : Counts m) (c : Dev nD) (t : Fin (cfgM m hO).N) : (dats m hO hC 0 c).after 0 t = iblk m hO c 0 t := by dsimp only [dats]; try rfl
theorem after0_1 (hO : Ok m) (hC : Counts m) (c : Dev nD) (t : Fin (cfgM m hO).N) : (dats m hO hC 0 c).after 1 t = iblk m hO c 1 t := by dsimp only [dats]; try rfl
theorem after0_2 (hO : Ok m) (hC : Counts m) (c : Dev nD) (t : Fin (cfgM m hO).N) : (dats m hO hC 0 c).after 2 t = iblk m hO c 2 t := by dsimp only [dats]; try rfl
theorem after0_3 (hO : Ok m) (hC : Counts m) (c : Dev nD) (t : Fin (cfgM m hO).N) : (dats m hO hC 0 c).after 3 t = iblk m hO c 3 t := by dsimp only [dats]; try rfl
theorem after0_4 (hO : Ok m) (hC : Counts m) (c : Dev nD) (t : Fin (cfgM m hO).N) : (dats m hO hC 0 c).after 4 t = (outsAt0 m hO hC c t) := by dsimp only [dats]; try rfl

/-- Each input's current staging buffer holds its block at every point, fetched there or not (`beforeK_W_of`). -/
theorem before0_0 (hO : Ok m) (hC : Counts m) (c : Dev nD) (t : Fin (cfgM m hO).N) (d) : (dats m hO hC 0 c).before 0 t d = iblk m hO c 0 t :=
  before0_0_of m hO (dats m hO hC 0 c) (A_eq m hO hC c 0) (after0_0 m hO hC c) t d
theorem before0_1 (hO : Ok m) (hC : Counts m) (c : Dev nD) (t : Fin (cfgM m hO).N) (d) : (dats m hO hC 0 c).before 1 t d = iblk m hO c 1 t :=
  before0_1_of m hO (dats m hO hC 0 c) (A_eq m hO hC c 1) (after0_1 m hO hC c) t d
theorem before0_2 (hO : Ok m) (hC : Counts m) (c : Dev nD) (t : Fin (cfgM m hO).N) (d) : (dats m hO hC 0 c).before 2 t d = iblk m hO c 2 t :=
  before0_2_of m hO (dats m hO hC 0 c) (A_eq m hO hC c 2) (after0_2 m hO hC c) t d
theorem before0_3 (hO : Ok m) (hC : Counts m) (c : Dev nD) (t : Fin (cfgM m hO).N) (d) : (dats m hO hC 0 c).before 3 t d = iblk m hO c 3 t :=
  before0_3_of m hO (dats m hO hC 0 c) (A_eq m hO hC c 3) (after0_3 m hO hC c) t d

/-! ## The body obligation, at a generic point -/

/-- What the body is called with at point `t` (`BodyObligation`'s precondition, the windows one by one), -/
def bodyPre (hO : Ok m) (hC : Counts m) (c : Dev nD) (t : Fin (cfgM m hO).N) : sProp 𝕄 :=
  iprop((dats m hO hC 0 c).Φ t.castSucc ∗ (dats m hO hC 0 c).owesAt () t.castSucc
    ∗ (∃ d, owns (c : Thread nD τ) (ms0_0 m hO t) fullShare ((dats m hO hC 0 c).before 0 t d))
    ∗ (∃ d, owns (c : Thread nD τ) (ms0_1 m hO t) fullShare ((dats m hO hC 0 c).before 1 t d))
    ∗ (∃ d, owns (c : Thread nD τ) (ms0_2 m hO t) fullShare ((dats m hO hC 0 c).before 2 t d))
    ∗ (∃ d, owns (c : Thread nD τ) (ms0_3 m hO t) fullShare ((dats m hO hC 0 c).before 3 t d))
    ∗ (∃ d, owns (c : Thread nD τ) (ms0_4 m hO t) fullShare ((dats m hO hC 0 c).before 4 t d)))

/-- and what it returns. -/
def bodyPost (hO : Ok m) (hC : Counts m) (c : Dev nD) (t : Fin (cfgM m hO).N) : sProp 𝕄 :=
  iprop((dats m hO hC 0 c).Φ t.succ ∗ (dats m hO hC 0 c).owesAt () t.succ
    ∗ owns (c : Thread nD τ) (ms0_0 m hO t) fullShare ((dats m hO hC 0 c).after 0 t)
    ∗ owns (c : Thread nD τ) (ms0_1 m hO t) fullShare ((dats m hO hC 0 c).after 1 t)
    ∗ owns (c : Thread nD τ) (ms0_2 m hO t) fullShare ((dats m hO hC 0 c).after 2 t)
    ∗ owns (c : Thread nD τ) (ms0_3 m hO t) fullShare ((dats m hO hC 0 c).after 3 t)
    ∗ owns (c : Thread nD τ) (ms0_4 m hO t) fullShare ((dats m hO hC 0 c).after 4 t))

/-- The body at any point: the inputs' memrefs hold their blocks (`before0_W`); so the
    run applies; the invariant passes through unread; the core owes nothing throughout. -/
theorem sound_body (hO : Ok m) (hC : Counts m) (c : Dev nD) (t : Fin (cfgM m hO).N) :
    bodyPre m hO hC c t ⊢ wp frame (wpE (defs₀ (F := F)) Variants.none c none) Set.univ (bodyAt0 (adm m hO) t) (fun _ => bodyPost m hO hC c t) := by
  unfold bodyPre bodyPost bodyAt0
  simp only [before0_0, before0_1, before0_2, before0_3]
  rw [show (dats m hO hC 0 c).Φ t.succ = (dats m hO hC 0 c).Φ t.castSucc from rfl,
    show (dats m hO hC 0 c).owesAt () t.succ = (dats m hO hC 0 c).owesAt () t.castSucc from rfl,
    after0_0, after0_1, after0_2, after0_3, after0_4]
  rw [show (dats m hO hC 0 c).Φ t.castSucc = iprop(Pipeline.ΦA spec0 c ∗ Pipeline.ΦT pre0 (tbl m) c) from rfl, PhiT0_eq]
  unfold outsAt0
  by_cases h2 : k0_cond2 (cnt (F := F) c (grid0.coords t) (tbl m 1)) = 1#1
  · rw [dif_pos h2]
    unfold outRows
    iintro ⟨⟨HΦ, ⟨HT0, HT1, HT2⟩⟩, Ho, ⟨%d0, H0⟩, ⟨%d1, H1⟩, ⟨%d2, H2⟩, ⟨%d3, H3⟩, ⟨%d4, H4⟩⟩
    iapply ((runRows c (grid0.coords t) _ _ _ _ _ _ _ _ _ _ (iblk m hO c 0 t) (iblk m hO c 1 t) (iblk m hO c 2 t) (iblk m hO c 3 t) (tbl m 0) (tbl m 1) (tbl m 2) ((hC c _).2 h2) h2).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    isplitl [HT2]; · iexact HT2
    iintro ⟨H0, H1, H2, H3, ⟨%e4, H4⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverRows c _ _ _ _ _ _ _ _ _ _ _ _ _ _ _ _ _ _ ((hC c _).2 h2) h2)
  · rw [dif_neg h2]
    unfold outEmpty
    iintro ⟨⟨HΦ, ⟨HT0, HT1, HT2⟩⟩, Ho, ⟨%d0, H0⟩, ⟨%d1, H1⟩, ⟨%d2, H2⟩, ⟨%d3, H3⟩, ⟨%d4, H4⟩⟩
    iapply ((runEmpty c (grid0.coords t) _ _ _ _ _ _ _ _ _ _ (iblk m hO c 0 t) (iblk m hO c 1 t) (iblk m hO c 2 t) (iblk m hO c 3 t) (tbl m 0) (tbl m 1) (tbl m 2) ((hC c _).1 h2) h2).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    isplitl [HT2]; · iexact HT2
    iintro ⟨H0, H1, H2, H3, ⟨%e4, H4⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverEmpty c _ _ _ _ _ _ _ _ _ _ _ _ _ _ _ _ _ _ ((hC c _).1 h2) h2)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (`triple_restated`). -/
theorem body_obligation (hO : Ok m) (hC : Counts m) (c : Dev nD) : BodyObligation (dats (F := F) m hO hC 0 c) (defs₀ (F := F)) Variants.none () Set.univ := fun t => by
  rw [bigSep_W0, bigSep_W0, defs₀_row m hO, idle_out m hO hC]
  exact triple_restated (sound_body m hO hC c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hC : Counts m) : θ_run defs (onTc (τ := τ) (main (F := F))) (s₀ m ρ) (fun r => (Pipeline.FramePost (Pipeline.pin pcfgs fun _ => adm m hO) (dats m hO hC) 0 (V m)) r ∧ r.2.sem = fun _ => 0) :=
  Pipeline.θ_run_frameP (Q' := _) pcfgs (fun _ => adm m hO) (dats m hO hC) (0 : Fin 1) launch0 defs₀ Variants.none m ρ main
    (hbody := fun c => (body_obligation m hO hC c).loose) (hshare := fun c => (dats m hO hC 0 c).share_full fun _ => rfl)
    (howed := fun _ _ => rfl) (V := V m) (hmain := hmain m Variants.none) (hA := A_eq m hO hC) (hpf := V_pre m)
    (hΦ := fun _ _ => rfl)

/-- At the compiled mesh, for any values, from any memory with zero counters: every weakly fair execution of @main on the
    TensorCores terminates, and every final state has every array of the pipeline at what the library computes from the
    proof data and every other unscoped buffer as the region found it (`FramePost`). -/
theorem run_main (hO : Ok m) (hC : Counts m) : θ_run defs (onTc (τ := τ) (main (F := F))) (s₀ m ρ) (Pipeline.FramePost (Pipeline.pin pcfgs fun _ => adm m hO) (dats m hO hC) 0 (V m)) :=
  (θ_run defs _ _).mono (fun _ h => h.1) (run_main_quiescent m ρ hO hC)

/-- `frame` without the counters: the argument arrays end unchanged. -/
theorem unchanged (hO : Ok m) (hC : Counts m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO hC) (A_eq m hO hC) (run_main m ρ hO hC)

/-- The frame: from any memory whose tables keep the windows in range and the row counts not negative, every run ends, the
    arguments unchanged and every counter at zero. -/
theorem frame (hO : Ok m) (hC : Counts m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO hC) ((θ_run defs _ _).mono (fun _ h => h.2) (run_main_quiescent m ρ hO hC))

end Cert.Kernel2Ideal.Experts

end
-- ==== Proof.ExpertsTables.lean ====
/- The routed experts' call (ideal instance): under the bounds on the tables' words, every window's block lies inside its array, and each tile takes
   exactly one of the body's two branches. -/
module

public import proofs.«01_k».proof.Proof.ExpertsFrame
public import proofs.«01_k».proof.Proof.ExpertsPre

@[expose] public section

set_option maxRecDepth 16384

noncomputable section

namespace Cert.Kernel2Ideal.Experts

open Idealize.ShloMosaic Idealize.ShloMosaic.TcCoe
open Cert.Kernel2Ideal Cert.Kernel2Ideal.Gen Cert.Experts

variable {F : FTy → Type} [FloatOps F]
variable (m : (ℓ : Loc nD τ sig) → Buf (Elt F) ℓ)

/-- A tile's expert, a tile's row count, and the number of tiles in use. -/
abbrev te (i : Fin 192) : BitVec 32 := (m (((0 : Dev nD).tc : Thread nD τ).loc main_arg0) : IVec S192 32) (ix1 i)
abbrev tv (i : Fin 192) : BitVec 32 := (m (((0 : Dev nD).tc : Thread nD τ).loc main_arg1) : IVec S192 32) (ix1 i)
abbrev nu : BitVec 32 := (m (((0 : Dev nD).tc : Thread nD τ).loc main_arg2) : IVec S1 32) (ix1 (0 : Fin 1))

/-- The word a window's schedule reads at the first table. -/
theorem at0 (i : grid0.Coords) (inb) (h1) : (tbl m).at 0 (Rect.unit (s := S192) ![(BitVec.ofNat 32 (i 0).val).toNat] S1.size inb) h1 = te m (i 0) := by
  have hi : (i 0).val < 192 := (i 0).isLt
  refine congrArg (m (((0 : Dev nD).tc : Thread nD τ).loc main_arg0)) (funext fun a => Fin.ext ?_)
  match a with
  | ⟨0, _⟩ =>
    show (BitVec.ofNat 32 (i 0).val).toNat + 0 * 1 = (i 0).val
    rw [BitVec.toNat_ofNat]; omega

/-- The word it reads at the third. -/
theorem at2 (inb) (h1) : (tbl m).at 2 (Rect.unit (s := S1) ![0] S1.size inb) h1 = nu m :=
  congrArg (m (((0 : Dev nD).tc : Thread nD τ).loc main_arg2)) (funext fun a => match a with | ⟨0, _⟩ => Subsingleton.elim (α := Fin 1) _ _)

/-- The word the body loads from the second. -/
theorem cnt_tv (c : Dev nD) (i : grid0.Coords) : cnt (F := F) c i (tbl m 1) = tv m (i 0) := by
  have hi : (i 0).val < 192 := (i 0).isLt
  unfold cnt View.readAt
  refine congrArg (m (((0 : Dev nD).tc : Thread nD τ).loc main_arg1)) (funext fun a => Fin.ext ?_)
  match a with
  | ⟨0, _⟩ =>
    show (BitVec.ofNat 32 (i 0).val).toNat + 0 * 1 = (i 0).val
    rw [BitVec.toNat_ofNat]; omega

theorem trans0 (h : Ranges (te m) (tv m) (nu m)) (i : grid0.Coords) (inb) (h1) :
    cc0_transform_0 inb h1 (tbl m) i = ![min (i 0).val ((nu m).toNat - 1), 0] := by
  unfold cc0_transform_0
  dsimp only
  rw [at2 m _ h1, min_word _ (i 0).isLt _ h.used_pos h.used_lt]
  rfl
theorem trans1 (i : grid0.Coords) (inb) (h1) : cc0_transform_1 inb h1 (tbl m) i = ![0, (te m (i 0)).toNat, 0, 0] :=
  congrArg (fun w : BitVec 32 => (![0, w.toNat, 0, 0] : Fin 4 → ℕ)) (at0 m i (inb i) h1)
theorem trans2 (i : grid0.Coords) (inb) (h1) : cc0_transform_2 inb h1 (tbl m) i = ![0, (te m (i 0)).toNat, 0, 0] := trans1 m i inb h1
theorem trans3 (i : grid0.Coords) (inb) (h1) : cc0_transform_3 inb h1 (tbl m) i = ![0, (te m (i 0)).toNat, 0, 0] := trans1 m i inb h1

theorem ok_of (h : Ranges (te m) (tv m) (nu m)) : Ok m := by
  refine ⟨fun i => ⟨?_, .inl rfl⟩, fun i => ⟨?_, .inl rfl⟩, fun i => ⟨?_, .inl rfl⟩, fun i => ⟨?_, .inl rfl⟩⟩
  all_goals
    have hi : (i 0).val < 192 := (i 0).isLt
    have he := h.expert (i 0)
  · rw [trans0 m h]
    intro a
    match a with
    | ⟨0, _⟩ => show (min (i 0).val ((nu m).toNat - 1) + 1) * 512 ≤ 98304; omega
    | ⟨1, _⟩ => show (0 + 1) * 1024 ≤ 1024; omega
  · rw [trans1]
    intro a
    match a with
    | ⟨0, _⟩ => show (0 + 1) * 1 ≤ 2; omega
    | ⟨1, _⟩ => show ((te m (i 0)).toNat + 1) * 1 ≤ 32; omega
    | ⟨2, _⟩ => show (0 + 1) * 2048 ≤ 2048; omega
    | ⟨3, _⟩ => show (0 + 1) * 512 ≤ 512; omega
  · rw [trans2]
    intro a
    match a with
    | ⟨0, _⟩ => show (0 + 1) * 1 ≤ 2; omega
    | ⟨1, _⟩ => show ((te m (i 0)).toNat + 1) * 1 ≤ 32; omega
    | ⟨2, _⟩ => show (0 + 1) * 2048 ≤ 2048; omega
    | ⟨3, _⟩ => show (0 + 1) * 512 ≤ 512; omega
  · rw [trans3]
    intro a
    match a with
    | ⟨0, _⟩ => show (0 + 1) * 1 ≤ 2; omega
    | ⟨1, _⟩ => show ((te m (i 0)).toNat + 1) * 1 ≤ 32; omega
    | ⟨2, _⟩ => show (0 + 1) * 512 ≤ 512; omega
    | ⟨3, _⟩ => show (0 + 1) * 2048 ≤ 2048; omega

/-- A condition widened and tested against zero is the condition. -/
theorem widened (b : BitVec 1) : (Scalar.cmpi .ne (Scalar.extui b : BitVec 32) 0#32 : BitVec 1) = b := by
  revert b; decide

theorem cond1_iff (x : BitVec 32) : k0_cond1 x = 1#1 ↔ x = 0#32 := by
  unfold k0_cond1
  dsimp only
  rw [widened, show Scalar.cmpi .eq x 0#32 = BitVec.ofBool (decide (x = 0#32)) from WordCmp.cmpi_eq_eq x 0#32]
  by_cases hx : x = 0#32 <;> simp [hx]

theorem cond2_iff (x : BitVec 32) (h : x.toNat < 2 ^ 31) : k0_cond2 x = 1#1 ↔ x ≠ 0#32 := by
  unfold k0_cond2
  dsimp only
  rw [widened, show Scalar.cmpi .sgt x 0#32 = BitVec.ofBool (decide ((0#32 : BitVec 32).toInt < x.toInt)) from WordCmp.cmpi_sgt_eq x 0#32]
  have e : (0#32 : BitVec 32).toInt < x.toInt ↔ x ≠ 0#32 := by
    rw [Ne, ← BitVec.toNat_inj, BitVec.toInt_eq_toNat_cond x]
    show (0 : Int) < _ ↔ ¬ x.toNat = 0
    split_ifs <;> omega
  by_cases hx : x = 0#32
  · simp [hx]
  · have hp : 0 < x.toInt := e.2 hx
    simp [hp, hx]

theorem counts_of (h : Ranges (te m) (tv m) (nu m)) : Counts m := by
  intro c i
  rw [cnt_tv, cond1_iff, cond2_iff _ (h.count (i 0))]
  exact ⟨fun hn => not_not.1 hn, fun hn => hn⟩

end Cert.Kernel2Ideal.Experts

end
-- ==== Proof.ExpertsMath.lean ====
/- One row of one expert, as mathematics on extended reals: the row's two halves read from its packed words, the gate and up projections, and the
   gated sum over the hidden units. Nothing here mentions a program. -/
module

public import Idealize.ShloMosaic.Lib.Pointwise

@[expose] public section

noncomputable section

open Idealize.ShloMosaic

namespace Cert.Experts

/-- The number in a word's low half, and the one in its high half. -/
def loW (w : BitVec 32) : EReal := FloatOps.ofBits (F := Ideal) .f32 (IntOp.shli .vector w 16#32)
def hiW (w : BitVec 32) : EReal := FloatOps.ofBits (F := Ideal) .f32 (IntOp.andi w 4294901760#32)

/-- A row of 2048 numbers from its 1024 words: the low halves, then the high halves. -/
def row (w : Fin 1024 → BitVec 32) (d : Fin 2048) : EReal :=
  if h : d.val < 1024 then loW (w ⟨d.val, h⟩) else hiW (w ⟨d.val - 1024, by have := d.isLt; omega⟩)

/-- A row times a column. -/
def proj (x W : Fin 2048 → EReal) : EReal := ∑ d : Fin 2048, x d * W d

/-- The gated activation. -/
def act (g u : EReal) : EReal := g * Ideal.logistic g * u

/-- One result of one expert. -/
def mlp (x : Fin 2048 → EReal) (Wg Wu : Fin 2048 → Fin 512 → EReal) (Wd : Fin 512 → EReal) : EReal :=
  ∑ f : Fin 512, act (proj x fun d => Wg d f) (proj x fun d => Wu d f) * Wd f

/-- A sum over 2048 as one over its first half and one over its second. -/
theorem sum_halves (f : Fin 2048 → EReal) : ∑ d : Fin 2048, f d
    = (∑ k : Fin 1024, f ⟨k.val, by have := k.isLt; omega⟩) + ∑ k : Fin 1024, f ⟨1024 + k.val, by have := k.isLt; omega⟩ :=
  Fin.sum_univ_add (a := 1024) (b := 1024) f

/-- The projection of a packed row: low halves against the first 1024 weights, high halves against the rest. -/
theorem proj_row (w : Fin 1024 → BitVec 32) (W : Fin 2048 → EReal) : proj (row w) W
    = (∑ k : Fin 1024, loW (w k) * W ⟨k.val, by have := k.isLt; omega⟩) + ∑ k : Fin 1024, hiW (w k) * W ⟨1024 + k.val, by have := k.isLt; omega⟩ := by
  have e0 : ∀ k : Fin 1024, row w ⟨k.val, by have := k.isLt; omega⟩ = loW (w k) := fun k => dif_pos k.isLt
  have e1 : ∀ k : Fin 1024, row w ⟨1024 + k.val, by have := k.isLt; omega⟩ = hiW (w k) := fun k =>
    (dif_neg (by show ¬ 1024 + k.val < 1024; omega)).trans
      (congrArg (fun j => hiW (w j)) (Fin.ext (by show 1024 + k.val - 1024 = k.val; omega)))
  unfold proj
  rw [sum_halves]
  exact congrArg₂ (· + ·) (Finset.sum_congr rfl fun k _ => congrArg (· * _) (e0 k)) (Finset.sum_congr rfl fun k _ => congrArg (· * _) (e1 k))

end Cert.Experts

end
-- ==== Proof.ExpertsBlock.lean ====
/- The routed experts' call (ideal instance): what one grid point leaves in its block of the result, at an index. -/
module

public import proofs.«01_k».proof.Proof.ExpertsTables
public import proofs.«01_k».proof.Proof.ExpertsMath
public import Idealize.ShloMosaic.Lib.Pipeline.ValueKit
public import Idealize.ShloMosaic.Lib.Pipeline.ReadBack
public import Idealize.ShloMosaic.Lib.Pointwise

@[expose] public section

set_option maxRecDepth 16384
noncomputable section

open Idealize.ShloMosaic Idealize.ShloMosaic.TcCoe Idealize.SL.Sem

namespace Cert.Kernel2Ideal.Experts

open Cert.Kernel2Ideal Cert.Kernel2Ideal.Gen Cert.Experts

/-- The activations of a tile, from the words and the four weight blocks its payload reads. -/
theorem pay3_apply (X : Vec Ideal S512x1024 .i32) (G0 G1 U0 U1 : Vec Ideal S1x1x1024x512 .f32) (r f : Fin 512) :
    k0_pay3 X G0 G1 U0 U1 (ix2 r f)
      = act ((∑ k : Fin 1024, loW (X (ix2 r k)) * G0 (ix4 (0 : Fin 1) (0 : Fin 1) k f)) + ∑ k : Fin 1024, hiW (X (ix2 r k)) * G1 (ix4 (0 : Fin 1) (0 : Fin 1) k f))
        ((∑ k : Fin 1024, loW (X (ix2 r k)) * U0 (ix4 (0 : Fin 1) (0 : Fin 1) k f)) + ∑ k : Fin 1024, hiW (X (ix2 r k)) * U1 (ix4 (0 : Fin 1) (0 : Fin 1) k f)) := by
  unfold k0_pay3
  pointwise
  rfl

theorem pay2_apply (A : FVec Ideal S512x512 .bf16) (D : Vec Ideal S1x1x512x2048 .f32) (y : S512x2048.Idx) :
    k0_pay2 A D y = ∑ f : Fin 512, A (ix2 (y 0) f) * D (ix4 (0 : Fin 1) (0 : Fin 1) f (y 1)) := by
  unfold k0_pay2
  pointwise

theorem pay1_eq (y : S512x2048.Idx) : k0_pay1 (F := Ideal) y = 0 := by
  unfold k0_pay1
  pointwise

/-- One tile's block of the result. -/
def TILE (x0 : Vec Ideal S512x1024 .i32) (x1 x2 : Vec Ideal S1x1x2048x512 .f32) (x3 : Vec Ideal S1x1x512x2048 .f32) : Vec Ideal S512x2048 .f32 :=
  fun y => mlp (row fun k => x0 (ix2 (y 0) k)) (fun d f => x1 (ix4 (0 : Fin 1) (0 : Fin 1) d f)) (fun d f => x2 (ix4 (0 : Fin 1) (0 : Fin 1) d f))
    fun f => x3 (ix4 (0 : Fin 1) (0 : Fin 1) f (y 1))

/-- The whole-block payload at a tile with rows: each weight block is read in two halves. -/
theorem pay_tile (x0 : Vec Ideal S512x1024 .i32) (x1 x2 : Vec Ideal S1x1x2048x512 .f32) (x3 : Vec Ideal S1x1x512x2048 .f32) (y : S512x2048.Idx) (i1 i2 i3 i4) :
    k0_pay2 (k0_pay3 x0
        (View.ld x1 (Rect.unit (s := S1x1x2048x512) ![0, 0, 0, 0] ![1, 1, 1024, 512] i1)) (View.ld x1 (Rect.unit (s := S1x1x2048x512) ![0, 0, 1024, 0] ![1, 1, 1024, 512] i2))
        (View.ld x2 (Rect.unit (s := S1x1x2048x512) ![0, 0, 0, 0] ![1, 1, 1024, 512] i3)) (View.ld x2 (Rect.unit (s := S1x1x2048x512) ![0, 0, 1024, 0] ![1, 1, 1024, 512] i4)))
      x3 y = TILE x0 x1 x2 x3 y := by
  have hlo : ∀ (x : Vec Ideal S1x1x2048x512 .f32) (j) (k : Fin 1024) (f : Fin 512),
      (View.ld x (Rect.unit (s := S1x1x2048x512) ![0, 0, 0, 0] ![1, 1, 1024, 512] j) : Vec Ideal S1x1x1024x512 .f32) (ix4 (0 : Fin 1) (0 : Fin 1) k f)
        = x (ix4 (0 : Fin 1) (0 : Fin 1) (⟨k.val, by have := k.isLt; omega⟩ : Fin 2048) f) := by
    intro x j k f
    refine View.ld_unit_apply_of x _ _ _ _ _ fun a => ?_
    match a with
    | ⟨0, _⟩ => simp
    | ⟨1, _⟩ => simp
    | ⟨2, _⟩ => simp
    | ⟨3, _⟩ => simp
  have hhi : ∀ (x : Vec Ideal S1x1x2048x512 .f32) (j) (k : Fin 1024) (f : Fin 512),
      (View.ld x (Rect.unit (s := S1x1x2048x512) ![0, 0, 1024, 0] ![1, 1, 1024, 512] j) : Vec Ideal S1x1x1024x512 .f32) (ix4 (0 : Fin 1) (0 : Fin 1) k f)
        = x (ix4 (0 : Fin 1) (0 : Fin 1) (⟨1024 + k.val, by have := k.isLt; omega⟩ : Fin 2048) f) := by
    intro x j k f
    refine View.ld_unit_apply_of x _ _ _ _ _ fun a => ?_
    match a with
    | ⟨0, _⟩ => simp
    | ⟨1, _⟩ => simp
    | ⟨2, _⟩ => simp
    | ⟨3, _⟩ => simp
  rw [pay2_apply]
  unfold TILE mlp
  refine Finset.sum_congr rfl fun f _ => congrArg₂ (· * ·) ((pay3_apply _ _ _ _ _ (y 0) f).trans ?_) rfl
  rw [proj_row, proj_row]
  refine congrArg₂ act (congrArg₂ (· + ·) ?_ ?_) (congrArg₂ (· + ·) ?_ ?_)
  · exact Finset.sum_congr rfl fun k _ => congrArg₂ (· * ·) rfl (hlo x1 _ k f)
  · exact Finset.sum_congr rfl fun k _ => congrArg₂ (· * ·) rfl (hhi x1 _ k f)
  · exact Finset.sum_congr rfl fun k _ => congrArg₂ (· * ·) rfl (hlo x2 _ k f)
  · exact Finset.sum_congr rfl fun k _ => congrArg₂ (· * ·) rfl (hhi x2 _ k f)

/-- What a tile with rows leaves. -/
theorem rows_read (c : Dev nD) (i : grid0.Coords) (arg4 : Memref sig .tc .vmem S512x1024 .i32) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1x1x512x2048 .f32) (harg7 : arg7.IsWhole) (arg8 : Memref sig .tc .vmem S512x2048 .f32) (harg8 : arg8.IsWhole)
    (x0 : Vec Ideal S512x1024 .i32) (x1 : Vec Ideal S1x1x2048x512 .f32) (x2 : Vec Ideal S1x1x2048x512 .f32) (x3 : Vec Ideal S1x1x512x2048 .f32) (xt0 : TbBuf0 (F := Ideal) c tbM0_0) (xt1 : TbBuf0 (F := Ideal) c tbM0_1) (xt2 : TbBuf0 (F := Ideal) c tbM0_2)
    (h1 : ¬ k0_cond1 (cnt c i xt1) = 1#1) (h2 : k0_cond2 (cnt c i xt1) = 1#1) (y : S512x2048.Idx) :
    outRows c i arg4 harg4 arg5 harg5 arg6 harg6 arg7 harg7 arg8 harg8 x0 x1 x2 x3 xt0 xt1 xt2 h1 h2 y = TILE x0 x1 x2 x3 y := by
  unfold outRows runRows
  simp only [runRows.sl.r_1, runRows.sl.r_2]
  frame_open
  frame_out
  exact pay_tile x0 x1 x2 x3 y _ _ _ _

/-- What an empty tile leaves. -/
theorem empty_read (c : Dev nD) (i : grid0.Coords) (arg4 : Memref sig .tc .vmem S512x1024 .i32) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1x1x512x2048 .f32) (harg7 : arg7.IsWhole) (arg8 : Memref sig .tc .vmem S512x2048 .f32) (harg8 : arg8.IsWhole)
    (x0 : Vec Ideal S512x1024 .i32) (x1 : Vec Ideal S1x1x2048x512 .f32) (x2 : Vec Ideal S1x1x2048x512 .f32) (x3 : Vec Ideal S1x1x512x2048 .f32) (xt0 : TbBuf0 (F := Ideal) c tbM0_0) (xt1 : TbBuf0 (F := Ideal) c tbM0_1) (xt2 : TbBuf0 (F := Ideal) c tbM0_2)
    (h1 : k0_cond1 (cnt c i xt1) = 1#1) (h2 : ¬ k0_cond2 (cnt c i xt1) = 1#1) (y : S512x2048.Idx) :
    outEmpty c i arg4 harg4 arg5 harg5 arg6 harg6 arg7 harg7 arg8 harg8 x0 x1 x2 x3 xt0 xt1 xt2 h1 h2 y = 0 := by
  unfold outEmpty runEmpty
  frame_open
  frame_out
  exact pay1_eq y

end Cert.Kernel2Ideal.Experts

end
-- ==== Proof.ExpertsValue.lean ====
/- The routed experts' call (ideal instance): the whole result array, from the tiles' blocks. -/
module

public import proofs.«01_k».proof.Proof.ExpertsBlock
public import Idealize.ShloMosaic.Lib.Pipeline.Covers

@[expose] public section

set_option maxRecDepth 16384
noncomputable section

open Idealize.ShloMosaic Idealize.ShloMosaic.TcCoe Idealize.SL.Sem
open Idealize.ShloMosaic.Pipeline (Dat)

namespace Cert.Kernel2Ideal.Experts

open Cert.Kernel2Ideal Cert.Kernel2Ideal.Gen Cert.Experts

/-- The tile a row lies in. -/
def tile (r : Fin 98304) : Fin 192 := ⟨r.val / 512, by have := r.isLt; omega⟩

/-- Expert `n`'s result for row `r` at column `o`. -/
def EXPERT (hs : IVec S98304x1024 32) (g u : FVec Ideal S2x32x2048x512 .f32) (d : FVec Ideal S2x32x512x2048 .f32) (n : Fin 32) (r : Fin 98304)
    (o : Fin 2048) : EReal :=
  mlp (row fun k => hs (ix2 r k)) (fun e f => g (ix4 (0 : Fin 2) n e f)) (fun e f => u (ix4 (0 : Fin 2) n e f)) fun f => d (ix4 (0 : Fin 2) n f o)

/-- The result, from the tables and the arrays: a row of a tile that holds rows is its expert's, and the others are zero. -/
def EXPERTS (te tv : Fin 192 → BitVec 32) (hs : IVec S98304x1024 32) (g u : FVec Ideal S2x32x2048x512 .f32) (d : FVec Ideal S2x32x512x2048 .f32)
    (he : ∀ i, (te i).toNat < 32) : FVec Ideal S98304x2048 .f32 := fun y =>
  if tv (tile (y 0)) = 0#32 then 0 else EXPERT hs g u d ⟨(te (tile (y 0))).toNat, he _⟩ (y 0) (y 1)

/-- A tile's block, from the tables' and the arrays' elements that it reads, is its rows of the whole result. -/
theorem tile_at (te tv : Fin 192 → BitVec 32) (hs : IVec S98304x1024 32) (g u : FVec Ideal S2x32x2048x512 .f32) (d : FVec Ideal S2x32x512x2048 .f32)
    (he : ∀ i, (te i).toNat < 32) (i : Fin 192) (hne : tv i ≠ 0#32) (x0 : Vec Ideal S512x1024 .i32) (x1 x2 : Vec Ideal S1x1x2048x512 .f32)
    (x3 : Vec Ideal S1x1x512x2048 .f32)
    (hx0 : ∀ (r : Fin 512) (k : Fin 1024), x0 (ix2 r k) = hs (ix2 (⟨i.val * 512 + r.val, by have := i.isLt; have := r.isLt; omega⟩ : Fin 98304) k))
    (hx1 : ∀ (e : Fin 2048) (f : Fin 512), x1 (ix4 (0 : Fin 1) (0 : Fin 1) e f) = g (ix4 (0 : Fin 2) (⟨(te i).toNat, he i⟩ : Fin 32) e f))
    (hx2 : ∀ (e : Fin 2048) (f : Fin 512), x2 (ix4 (0 : Fin 1) (0 : Fin 1) e f) = u (ix4 (0 : Fin 2) (⟨(te i).toNat, he i⟩ : Fin 32) e f))
    (hx3 : ∀ (f : Fin 512) (o : Fin 2048), x3 (ix4 (0 : Fin 1) (0 : Fin 1) f o) = d (ix4 (0 : Fin 2) (⟨(te i).toNat, he i⟩ : Fin 32) f o))
    (y : S512x2048.Idx) (Y : S98304x2048.Idx) (h0 : (Y 0).val = i.val * 512 + (y 0).val) (h1 : (Y 1).val = (y 1).val) :
    TILE x0 x1 x2 x3 y = EXPERTS te tv hs g u d he Y := by
  have hy : (y 0).val < 512 := (y 0).isLt
  have hY : (Y 0).val < 98304 := (Y 0).isLt
  have ei : tile (Y 0) = i := Fin.ext (by show (Y 0).val / 512 = i.val; omega)
  subst ei
  have er : (⟨(tile (Y 0)).val * 512 + (y 0).val, by have := (tile (Y 0)).isLt; omega⟩ : Fin 98304) = Y 0 := Fin.ext h0.symm
  have ec : (y 1 : Fin 2048) = Y 1 := Fin.ext h1.symm
  have e1 : (fun (e : Fin 2048) (f : Fin 512) => x1 (ix4 (0 : Fin 1) (0 : Fin 1) e f)) = fun e f => g (ix4 (0 : Fin 2) (⟨(te (tile (Y 0))).toNat, he _⟩ : Fin 32) e f) :=
    funext fun e => funext fun f => hx1 e f
  have e2 : (fun (e : Fin 2048) (f : Fin 512) => x2 (ix4 (0 : Fin 1) (0 : Fin 1) e f)) = fun e f => u (ix4 (0 : Fin 2) (⟨(te (tile (Y 0))).toNat, he _⟩ : Fin 32) e f) :=
    funext fun e => funext fun f => hx2 e f
  have e3 : (fun f : Fin 512 => x3 (ix4 (0 : Fin 1) (0 : Fin 1) f (y 1))) = fun f => d (ix4 (0 : Fin 2) (⟨(te (tile (Y 0))).toNat, he _⟩ : Fin 32) f (Y 1)) :=
    funext fun f => (hx3 f (y 1)).trans (congrArg (fun o : Fin 2048 => d (ix4 (0 : Fin 2) (⟨(te (tile (Y 0))).toNat, he _⟩ : Fin 32) f o)) ec)
  have e0 : (fun k : Fin 1024 => x0 (ix2 (y 0) k)) = fun k => hs (ix2 (Y 0) k) :=
    funext fun k => (hx0 (y 0) k).trans (congrArg (fun r : Fin 98304 => hs (ix2 r k)) er)
  refine Eq.trans ?_ (if_neg hne).symm
  unfold TILE EXPERT
  exact (congrArg (fun a => mlp (row a) _ _ _) e0).trans ((congrArg (fun a => mlp _ a _ _) e1).trans ((congrArg (fun a => mlp _ _ a _) e2).trans
    (congrArg (fun a => mlp _ _ _ a) e3)))

variable (m : (ℓ : Loc nD τ sig) → Buf (Elt Ideal) ℓ)

/-- Every block of the result is some point's. -/
theorem covers4 (hO : Ok m) : ((cfgM m hO).win 4).Covers :=
  Pipeline.Window.covers_of_indexMap_surj _ rfl (fun a => match a with | ⟨0, _⟩ => Nat.zero_lt_succ 511 | ⟨1, _⟩ => Nat.zero_lt_succ 2047) fun β => by
    have h0 : (β (0 : Fin 2)).val < 192 := lt_of_lt_of_eq (β (0 : Fin 2)).isLt (show (98304 + 512 - 1) / 512 = 192 by norm_num)
    have h1 : (β (1 : Fin 2)).val < 1 := lt_of_lt_of_eq (β (1 : Fin 2)).isLt (show (2048 + 2048 - 1) / 2048 = 1 by norm_num)
    refine ⟨fun a => match a with | ⟨0, _⟩ => ⟨(β (0 : Fin 2)).val, h0⟩, fun a => ?_⟩
    match a with
    | ⟨0, _⟩ =>
      show (BitVec.ofNat 32 (β (0 : Fin 2)).val).toNat = (β (0 : Fin 2)).val
      rw [BitVec.toNat_ofNat]; omega
    | ⟨1, _⟩ =>
      show 0 = (β (1 : Fin 2)).val
      omega

theorem trans4 (i : grid0.Coords) : cc0_transform_4 i = ![(i 0).val, 0] := by
  have hi : (i 0).val < 192 := (i 0).isLt
  unfold cc0_transform_4
  dsimp only
  rw [BitVec.toNat_ofNat, Nat.mod_eq_of_lt (by omega)]
  rfl

theorem value (h : Ranges (te m) (tv m) (nu m)) (c : Dev nD) :
    (dats m (ok_of m h) (counts_of m h) 0 c).arrAt 4 (cfgM m (ok_of m h)).N
      = EXPERTS (te m) (tv m) (m ((c : Thread nD τ).loc main_arg3)) (m ((c : Thread nD τ).loc main_arg4)) (m ((c : Thread nD τ).loc main_arg5))
          (m ((c : Thread nD τ).loc main_arg6)) h.expert := by
  refine (dats m (ok_of m h) (counts_of m h) 0 c).arrAt_eq_of_covers 4 _ (covers4 m _) fun t hf y => ?_
  have e0 : ∀ t : Fin grid0.N, ((cfgM m (ok_of m h)).win 0).index t = ![min (grid0.coords t 0).val ((nu m).toNat - 1), 0] := fun t => trans0 m h _ _ _
  have e1 : ∀ t : Fin grid0.N, ((cfgM m (ok_of m h)).win 1).index t = ![0, (te m (grid0.coords t 0)).toNat, 0, 0] := fun t => trans1 m _ _ _
  have e2 : ∀ t : Fin grid0.N, ((cfgM m (ok_of m h)).win 2).index t = ![0, (te m (grid0.coords t 0)).toNat, 0, 0] := fun t => trans2 m _ _ _
  have e3 : ∀ t : Fin grid0.N, ((cfgM m (ok_of m h)).win 3).index t = ![0, (te m (grid0.coords t 0)).toNat, 0, 0] := fun t => trans3 m _ _ _
  have e4 : ∀ t : Fin grid0.N, ((cfgM m (ok_of m h)).win 4).index t = ![(grid0.coords t 0).val, 0] := fun t => trans4 _
  blk_simp
  rw [after0_4]
  unfold outsAt0
  have hct : tv m (grid0.coords t 0) = cnt (F := Ideal) c (grid0.coords t) (tbl m 1) := (cnt_tv m c _).symm
  have hi : (grid0.coords t 0).val < 192 := (grid0.coords t 0).isLt
  have hy0 : (y (0 : Fin 2)).val < 512 := (y (0 : Fin 2)).isLt
  by_cases h2 : k0_cond2 (cnt (F := Ideal) c (grid0.coords t) (tbl m 1)) = 1#1
  · rw [dif_pos h2]
    refine (rows_read c _ _ _ _ _ _ _ _ _ _ _ _ _ _ _ _ _ _ _ h2 y).trans ?_
    have hne : tv m (grid0.coords t 0) ≠ 0#32 := (cond2_iff _ (h.count _)).1 (hct ▸ h2)
    have hlt := (h.used (grid0.coords t 0)).resolve_left hne
    refine tile_at (te m) (tv m) _ _ _ _ h.expert (grid0.coords t 0) hne _ _ _ _ ?_ ?_ ?_ ?_ y _ ?_ ?_
    · intro r k; blk_ext [iblk, V, e0]
    · intro e f; blk_ext [iblk, V, e1]
    · intro e f; blk_ext [iblk, V, e2]
    · intro f o; blk_ext [iblk, V, e3]
    · blk_simp [e4]
    · blk_simp [e4]
  · rw [dif_neg h2]
    refine (empty_read c _ _ _ _ _ _ _ _ _ _ _ _ _ _ _ _ _ _ _ h2 y).trans ?_
    have hz : tv m (grid0.coords t 0) = 0#32 := not_not.1 fun hn => h2 (hct ▸ (cond2_iff _ (h.count _)).2 hn)
    refine (if_pos ?_).symm
    refine Eq.trans (congrArg (tv m) (Fin.ext ?_)) hz
    unfold tile
    blk_simp [e4]
    show ((grid0.coords t 0).val * 512 + (y (0 : Fin 2)).val) / 512 = (grid0.coords t 0).val
    omega

end Cert.Kernel2Ideal.Experts

end
-- ==== Proof.ExpertsRef.lean ====
/- The dense experts' reference: its result at an index, in stages — the rows, the projections, the activations, each expert's result, the routing's
   ones and zeros, and their sum over the experts. -/
module

public import proofs.«01_k».proof.Defs
public import proofs.«01_k».proof.Proof.Gen.Reference2Ideal.Run
public import proofs.«01_k».proof.Proof.ExpertsMath
public import proofs.«01_k».proof.Proof.ExpertsPre
public import Idealize.ShloMosaic.Lib.Pointwise
public import Idealize.ShloMosaic.Lib.KernelVsHost
public import Idealize.ShloMosaic.Lib.WordCmp

@[expose] public section

set_option maxRecDepth 16384
noncomputable section

open Idealize.ShloMosaic Idealize.ShloMosaic.TcCoe Idealize.SL.Sem

namespace Cert.Reference2Ideal.Experts

open Cert.Reference2Ideal Cert.Reference2Ideal.Gen Cert.Reference2Ideal.Value Cert.Experts

/-- The rows. -/
def H (hs : IVec S98304x1024 32) : FVec Ideal S98304x2048 .f32 :=
  fn_main_v6 (F := Ideal) (bitcastToFloat (F := Ideal) .f32 (Host.shli hs (broadcastInDim S98304x1024 ![] bcast_S_S98304x1024 (constantI S_ 32 16#32))))
    (bitcastToFloat (F := Ideal) .f32 (andi hs (broadcastInDim S98304x1024 ![] bcast_S_S98304x1024 (constantI S_ 32 4294901760#32))))

/-- The rows times one of the first two weights, for every expert. -/
def PROJ (w : FVec Ideal S2x32x2048x512 .f32) (h : FVec Ideal S98304x2048 .f32) : FVec Ideal S32x98304x512 .f32 :=
  transpose S32x98304x512 [0, 2, 1] (Host.dotGeneral dot_S32x2048x512_S98304x2048_S32x512x98304_1_1_02_0_n_n none (shapeCast _ (extractStridedSlice S1x32x2048x512 ![0, 0, 0, 0] w slices_S2x32x2048x512_S1x32x2048x512_0_0_0_0) shapeCasts_S1x32x2048x512_S32x2048x512) h) transposes_S32x512x98304_S32x98304x512_0_2_1

/-- The gate's activation. -/
def SILU (g : FVec Ideal S32x98304x512 .f32) : FVec Ideal S32x98304x512 .f32 :=
  mulf g (Host.divf (broadcastInDim S32x98304x512 ![] bcast_S_S32x98304x512 (constant S_ .f32 0x3F800000#32)) (addf (broadcastInDim S32x98304x512 ![] bcast_S_S32x98304x512 (constant S_ .f32 0x3F800000#32)) (Host.exp (Host.negf g))))

/-- Every expert's results. -/
def DOWN (a : FVec Ideal S32x98304x512 .f32) (w : FVec Ideal S2x32x512x2048 .f32) : FVec Ideal S32x98304x2048 .f32 :=
  Host.dotGeneral dot_S32x98304x512_S32x512x2048_S32x98304x2048_2_1_1_2_0_0 none a (shapeCast _ (extractStridedSlice S1x32x512x2048 ![0, 0, 0, 0] w slices_S2x32x512x2048_S1x32x512x2048_0_0_0_0) shapeCasts_S1x32x512x2048_S32x512x2048)

/-- One where a row belongs to an expert, zero elsewhere. -/
def OWN (te tv : IVec S192 32) : FVec Ideal S98304x32 .f32 :=
  select (andi (cmpi .eq (broadcastInDim S98304x32 ![0, 1] bcast_S98304x1_S98304x32_0_1 (broadcastInDim S98304x1 ![0] bcast_S98304_S98304x1_0 (shapeCast _ (broadcastInDim S192x512 ![0] bcast_S192_S192x512_0 te) shapeCasts_S192x512_S98304))) (broadcastInDim S98304x32 ![0, 1] bcast_S1x32_S98304x32_0_1 (broadcastInDim S1x32 ![1] bcast_S32_S1x32_1 (iotaInDim S32 32 0)))) (broadcastInDim S98304x32 ![0, 1] bcast_S98304x1_S98304x32_0_1 (broadcastInDim S98304x1 ![0] bcast_S98304_S98304x1_0 (cmpi .sgt (shapeCast _ (broadcastInDim S192x512 ![0] bcast_S192_S192x512_0 tv) shapeCasts_S192x512_S98304) (broadcastInDim S98304 ![] bcast_S_S98304 (constantI S_ 32 0#32)))))) (broadcastInDim S98304x32 ![] bcast_S_S98304x32 (constant S_ .f32 0x3F800000#32)) (broadcastInDim S98304x32 ![] bcast_S_S98304x32 (constant S_ .f32 0x00000000#32))

/-- The sum over the experts. -/
def COMB (o : FVec Ideal S98304x32 .f32) (y : FVec Ideal S32x98304x2048 .f32) : FVec Ideal S98304x2048 .f32 :=
  Host.reduceAdd (mulf (broadcastInDim S32x98304x2048 ![0, 1, 2] bcast_S32x98304x1_S32x98304x2048_0_1_2 (broadcastInDim S32x98304x1 ![0, 1] bcast_S32x98304_S32x98304x1_0_1 (transpose S32x98304 [1, 0] o transposes_S98304x32_S32x98304_1_0))) y) (constant S_ .f32 0x00000000#32) reducesTo_S32x98304x2048_S98304x2048_d0 h_S_

variable (m : (ℓ : Loc nD τ sig) → Buf (Elt Ideal) ℓ)

theorem res_eq (c : Dev nD) : res_out0 m c = COMB (OWN (m ((c.tc : Thread nD τ).loc main_arg0)) (m ((c.tc : Thread nD τ).loc main_arg1)))
    (DOWN (mulf (SILU (PROJ (m ((c.tc : Thread nD τ).loc main_arg4)) (H (m ((c.tc : Thread nD τ).loc main_arg3)))))
      (PROJ (m ((c.tc : Thread nD τ).loc main_arg5)) (H (m ((c.tc : Thread nD τ).loc main_arg3))))) (m ((c.tc : Thread nD τ).loc main_arg6))) := rfl

theorem proj_apply (w h) (e : Fin 32) (t : Fin 98304) (f : Fin 512) :
    PROJ w h (ix3 e t f) = ∑ d : Fin 2048, w (ix4 (0 : Fin 2) e d f) * h (ix2 t d) := by
  unfold PROJ
  pointwise

theorem down_apply (a w) (e : Fin 32) (t : Fin 98304) (o : Fin 2048) :
    DOWN a w (ix3 e t o) = ∑ f : Fin 512, a (ix3 e t f) * w (ix4 (0 : Fin 2) e f o) := by
  unfold DOWN
  pointwise

theorem comb_apply (o y) (t : Fin 98304) (q : Fin 2048) : COMB o y (ix2 t q) = ∑ e : Fin 32, o (ix2 t e) * y (ix3 e t q) := by
  unfold COMB
  pointwise

theorem silu_apply (g) (i : S32x98304x512.Idx) : SILU g i = g i * Ideal.logistic (g i) := by
  unfold SILU
  pointwise
  rfl

theorem h_apply (hs) (t : Fin 98304) (d : Fin 2048) : H hs (ix2 t d) = row (fun k => hs (ix2 t k)) d := by
  unfold H fn_main_v6
  pointwise
  unfold row loW hiW
  by_cases h : d.val < 1024
  · rw [dif_pos h, dif_pos h, shli_unit .host .vector]
    rfl
  · rw [dif_neg h, dif_neg h]
    rfl

/-- A tile's owner: one for the tile's expert when the tile holds rows, else zero. -/
theorem own_apply (te tv : IVec S192 32) (i : Fin 192) (t : Fin 98304) (hi : i = ⟨t.val / 512, by have := t.isLt; omega⟩) (e : Fin 32)
    (hc : (tv (ix1 i)).toNat < 2 ^ 31) :
    OWN te tv (ix2 t e) = if (te (ix1 i)).toNat = e.val ∧ tv (ix1 i) ≠ 0#32 then (1 : EReal) else 0 := by
  subst hi
  unfold OWN
  pointwise
  generalize te (ix1 _) = a at *
  generalize tv (ix1 _) = b at *
  have h1 : a = BitVec.ofNat 32 e.val ↔ a.toNat = e.val := by
    rw [← BitVec.toNat_inj, BitVec.toNat_ofNat, Nat.mod_eq_of_lt (by have := e.isLt; omega)]
  have h2 : (0#32 : BitVec 32).toInt < b.toInt ↔ b ≠ 0#32 := by
    rw [BitVec.toInt_eq_toNat_of_lt (by omega : 2 * b.toNat < 2 ^ 32)]
    rw [Ne, ← BitVec.toNat_inj]
    show (0 : Int) < _ ↔ ¬ b.toNat = 0
    omega
  rw [WordCmp.cmpi_eq_eq, WordCmp.cmpi_sgt_eq]
  simp only [h1, h2]
  by_cases p : a.toNat = e.val <;> by_cases q : b = 0#32 <;> simp [p, q, Scalar.select, IntOp.andi]

/-- The sum over the experts keeps the owner's result. -/
theorem sum_own (P : Prop) [Decidable P] (n : Fin 32) (Y : Fin 32 → EReal) :
    (∑ e : Fin 32, (if n.val = e.val ∧ ¬ P then (1 : EReal) else 0) * Y e) = if P then 0 else Y n := by
  by_cases p : P
  · simp [p]
  · rw [if_neg p, Finset.sum_eq_single n]
    · simp [p]
    · intro b _ hb
      rw [if_neg fun h => hb (Fin.ext h.1.symm), zero_mul]
    · intro h; exact absurd (Finset.mem_univ n) h

/-- An expert's result, from the rows and its three weights. -/
theorem expert_apply (hs : IVec S98304x1024 32) (g u : FVec Ideal S2x32x2048x512 .f32) (d : FVec Ideal S2x32x512x2048 .f32) (e : Fin 32) (t : Fin 98304)
    (o : Fin 2048) : DOWN (mulf (SILU (PROJ g (H hs))) (PROJ u (H hs))) d (ix3 e t o)
      = mlp (row fun k => hs (ix2 t k)) (fun a f => g (ix4 (0 : Fin 2) e a f)) (fun a f => u (ix4 (0 : Fin 2) e a f)) fun f => d (ix4 (0 : Fin 2) e f o) := by
  have hp : ∀ (w : FVec Ideal S2x32x2048x512 .f32) (f : Fin 512),
      PROJ w (H hs) (ix3 e t f) = proj (row fun k => hs (ix2 t k)) fun a => w (ix4 (0 : Fin 2) e a f) := fun w f =>
    (proj_apply w _ e t f).trans (Finset.sum_congr rfl fun a _ => (congrArg (w (ix4 (0 : Fin 2) e a f) * ·) (h_apply hs t a)).trans (mul_comm _ _))
  refine (down_apply _ d e t o).trans (Finset.sum_congr rfl fun f _ => congrArg (· * d (ix4 (0 : Fin 2) e f o)) ?_)
  show SILU (PROJ g (H hs)) (ix3 e t f) * PROJ u (H hs) (ix3 e t f) = _
  rw [silu_apply, hp g f, hp u f]
  rfl

/-- The reference's result at a row of tile `i`. -/
theorem ref_apply (te tv : IVec S192 32) (hs : IVec S98304x1024 32) (g u : FVec Ideal S2x32x2048x512 .f32) (d : FVec Ideal S2x32x512x2048 .f32)
    (i : Fin 192) (t : Fin 98304) (hi : i = ⟨t.val / 512, by have := t.isLt; omega⟩) (he : (te (ix1 i)).toNat < 32) (hc : (tv (ix1 i)).toNat < 2 ^ 31)
    (o : Fin 2048) : COMB (OWN te tv) (DOWN (mulf (SILU (PROJ g (H hs))) (PROJ u (H hs))) d) (ix2 t o)
      = if tv (ix1 i) = 0#32 then (0 : EReal) else mlp (row fun k => hs (ix2 t k)) (fun a f => g (ix4 (0 : Fin 2) (⟨_, he⟩ : Fin 32) a f))
          (fun a f => u (ix4 (0 : Fin 2) (⟨_, he⟩ : Fin 32) a f)) fun f => d (ix4 (0 : Fin 2) (⟨_, he⟩ : Fin 32) f o) := by
  refine (comb_apply _ _ t o).trans ?_
  refine (Finset.sum_congr rfl fun e _ => congrArg₂ (· * ·) (own_apply te tv i t hi e hc) (expert_apply hs g u d e t o)).trans ?_
  exact sum_own (tv (ix1 i) = 0#32) ⟨_, he⟩ fun e => mlp (row fun k => hs (ix2 t k)) (fun a f => g (ix4 (0 : Fin 2) e a f))
    (fun a f => u (ix4 (0 : Fin 2) e a f)) fun f => d (ix4 (0 : Fin 2) e f o)

end Cert.Reference2Ideal.Experts

end
-- ==== Proof.ExpertsClaims.lean ====
/- The claims about the experts' call: the frames, from the tables' bounds, and the two results' agreement. -/
module

public import proofs.«01_k».proof.Defs
public import proofs.«01_k».proof.Proof.ExpertsPre
public import proofs.«01_k».proof.Proof.ExpertsTables
public import proofs.«01_k».proof.Proof.ExpertsTablesBits
public import proofs.«01_k».proof.Proof.ExpertsValue
public import proofs.«01_k».proof.Proof.ExpertsRef
public import proofs.«01_k».proof.Proof.ExpertsFrame
public import proofs.«01_k».proof.Proof.ExpertsFrameBits
public import proofs.«01_k».proof.Proof.Gen.Pre_expert_tables
public import Idealize.ShloMosaic.Lib.Claim

@[expose] public section

noncomputable section

open Idealize.ShloMosaic Idealize.ShloMosaic.TcCoe Idealize.SL.Sem

namespace Cert.Proof.Experts

open Cert.Experts

/-- The two tables and the count of tiles in use are within their bounds. -/
theorem ranges (m : (ℓ : Loc Cert.Kernel2Ideal.nD Cert.Kernel2Ideal.τ Cert.Kernel2Ideal.sig) → Buf (Elt Ideal) ℓ) (h : Cert.Pre_Kernel2Ideal m) :
    Ranges (Cert.Kernel2Ideal.Experts.te m) (Cert.Kernel2Ideal.Experts.tv m) (Cert.Kernel2Ideal.Experts.nu m) :=
  Cert.Pre_expert_tables.decode _ _ _ _ _ _ _ (h 0)

theorem ranges_bits (m : (ℓ : Loc Cert.Kernel2.nD Cert.Kernel2.τ Cert.Kernel2.sig) → Buf (Elt Bits) ℓ) (h : Cert.Pre_Kernel2 m) :
    Ranges (Cert.Kernel2.Experts.te m) (Cert.Kernel2.Experts.tv m) (Cert.Kernel2.Experts.nu m) :=
  Cert.Pre_expert_tables.decode _ _ _ _ _ _ _ (h 0)

theorem frame_p : Cert.quiescent_Kernel2 := fun m g h =>
  Cert.Kernel2.Experts.frame m g (Cert.Kernel2.Experts.ok_of m (ranges_bits m h)) (Cert.Kernel2.Experts.counts_of m (ranges_bits m h))
theorem frame_pi : Cert.quiescent_Kernel2Ideal := fun m g h =>
  Cert.Kernel2Ideal.Experts.frame m g (Cert.Kernel2Ideal.Experts.ok_of m (ranges m h)) (Cert.Kernel2Ideal.Experts.counts_of m (ranges m h))
theorem frame_ri : Cert.quiescent_Reference2Ideal := fun m g _ =>
  (θ_run Cert.Reference2Ideal.defs _ _).mono (fun r h => ⟨fun c => (h c).2, sem_eq_zero_of_no_sems (by decide) r.2⟩) (Cert.Reference2Ideal.Value.run m g)
theorem frame_ri_pre : Cert.quiescent_Reference2Ideal_pre_expert_tables := fun m g _ => frame_ri m g trivial

theorem algebraic : Cert.algebraic_Kernel2Ideal_Reference2Ideal := by
  intro m g m' g' hpre hargs
  have h := ranges m hpre
  have hO := Cert.Kernel2Ideal.Experts.ok_of m h
  have hC := Cert.Kernel2Ideal.Experts.counts_of m h
  refine ⟨fun c => (Cert.Kernel2Ideal.Experts.dats m hO hC 0 c).arrAt 4 (Cert.Kernel2Ideal.Experts.cfgM m hO).N, ?_, ?_⟩
  · exact θ_run_and ((θ_run _ _ _).mono (fun r hr c => (hr c).1 4) (Cert.Kernel2Ideal.Experts.run_main m g hO hC)) (Cert.Kernel2Ideal.Experts.unchanged m g hO hC) |> fun e =>
      (θ_run _ _ _).mono (fun r hr c => ⟨hr.1 c, hr.2 c⟩) e
  · refine (θ_run Cert.Reference2Ideal.defs _ _).mono (fun r hr c => ⟨(hr c).1.trans ?_, (hr c).2⟩) (Cert.Reference2Ideal.Value.run m' g')
    refine Eq.trans ?_ (Cert.Kernel2Ideal.Experts.value m h c).symm
    refine (Cert.Reference2Ideal.Experts.res_eq m' c).trans ?_
    obtain ⟨a0, a1, -, a3, a4, a5, a6⟩ := hargs c
    rw [a0, a1, a3, a4, a5, a6]
    obtain rfl : c = 0 := Subsingleton.elim (α := Fin 1) _ _
    funext y
    obtain ⟨t, o, rfl⟩ : ∃ (t : Fin 98304) (o : Fin 2048), y = ix2 t o :=
      ⟨y 0, y 1, by funext z; match z with | ⟨0, _⟩ => rfl | ⟨1, _⟩ => rfl⟩
    exact Cert.Reference2Ideal.Experts.ref_apply _ _ _ _ _ _ (Cert.Kernel2Ideal.Experts.tile t) t rfl (h.expert _) (h.count _) o

end Cert.Proof.Experts

end
-- ==== Proof.HyenaPayloads.lean ====
/- The projection call's arithmetic read at one element: the normalised rows that a grid point stores, the rows around them, and the short
   convolution of the projected rows. -/
module

public import proofs.«01_k».proof.Proof.Gen.Kernel3Ideal.Frame
public import Idealize.ShloMosaic.Lib.Pipeline.ValueKit
public import Idealize.ShloMosaic.Lib.Pipeline.ReadBack
public import Idealize.ShloMosaic.Lib.Pointwise

@[expose] public section

set_option maxRecDepth 16384
noncomputable section

open Idealize.ShloMosaic Idealize.ShloMosaic.TcCoe Idealize.SL.Sem
open Idealize.ShloMosaic.Pipeline (Dat)

namespace Cert.Kernel3Ideal.RefValue

open Cert.Kernel3Ideal Cert.Kernel3Ideal.Gen

/-- One entry of a row divided by the root of its mean square, times the gain. -/
def nrm (xr gr : Fin 2048 → EReal) (d : Fin 2048) : EReal :=
  xr d * Ideal.rsqrt (Ideal.div (∑ e : Fin 2048, xr e * xr e) (Ideal.ofBits .f32 0x45000000#32) + Ideal.ofBits .f32 0x358637BD#32) * gr d

/-- Three neighbouring rows' products with a column, weighted and shifted. -/
def conv3 (a b c : Fin 2048 → EReal) (w : Fin 2048 → EReal) (k0 k1 k2 s : EReal) : EReal :=
  (∑ d : Fin 2048, a d * w d) * k0 + (∑ d : Fin 2048, b d * w d) * k1 + (∑ d : Fin 2048, c d * w d) * k2 + s

theorem pay2_apply (g : Vec Ideal S1x2048 .f32) (x : Vec Ideal S512x2048 .f32) (r : Fin 512) (d : Fin 2048) :
    k0_pay2 g x (ix2 r d) = nrm (fun e => x (ix2 r e)) (fun e => g (ix2 (0 : Fin 1) e)) d := by
  unfold k0_pay2 nrm
  pointwise

theorem pay3_apply (g : Vec Ideal S1x2048 .f32) (p : BitVec 1) (x : Vec Ideal S16x2048 .f32) (r : Fin 16) (d : Fin 2048) :
    k0_pay3 g p x (ix2 r d) = if p = 1#1 then 0 else nrm (fun e => x (ix2 r e)) (fun e => g (ix2 (0 : Fin 1) e)) d := by
  unfold k0_pay3 nrm
  pointwise
  rfl

theorem pay4_apply (g : Vec Ideal S1x2048 .f32) (u v : BitVec 32) (p : BitVec 1) (x : Vec Ideal S16x2048 .f32) (r : Fin 16) (d : Fin 2048) :
    k0_pay4 g u v p x (ix2 r d) = if Scalar.cmpi .eq (Scalar.select p (Scalar.addi v u) v) 7#32 = 1#1 then 0
      else nrm (fun e => x (ix2 r e)) (fun e => g (ix2 (0 : Fin 1) e)) d := by
  unfold k0_pay4 nrm
  pointwise
  rfl

theorem pay5_apply (h : Vec Ideal S544x2048 .bf16) (w : Vec Ideal S2048x512 .bf16) (k : Vec Ideal S3x512 .f32) (s : Vec Ideal S1x512 .f32)
    (r o : Fin 512) (a b c : Fin 544) (ha : a.val = 15 + r.val) (hb : b.val = 16 + r.val) (hc : c.val = 17 + r.val) :
    k0_pay5 h w k s (ix2 r o) = conv3 (fun d => h (ix2 a d)) (fun d => h (ix2 b d)) (fun d => h (ix2 c d)) (fun d => w (ix2 d o))
      (k (ix2 (0 : Fin 3) o)) (k (ix2 (1 : Fin 3) o)) (k (ix2 (2 : Fin 3) o)) (s (ix2 (0 : Fin 1) o)) := by
  obtain rfl : a = ⟨(16 + r.val + 544 - 1) % 544, Nat.mod_lt _ (by decide)⟩ := Fin.ext (by have := r.isLt; show a.val = _ % 544; omega)
  obtain rfl : b = ⟨16 + r.val, Nat.add_lt_add_left (lt_trans r.isLt (by decide : 512 < 528)) 16⟩ := Fin.ext hb
  obtain rfl : c = ⟨(16 + r.val + 544 - 543) % 544, Nat.mod_lt _ (by decide)⟩ := Fin.ext (by have := r.isLt; show c.val = _ % 544; omega)
  unfold k0_pay5 conv3
  pointwise

theorem pay1_apply (h : Vec Ideal S544x2048 .bf16) (w : Vec Ideal S2048x512 .bf16) (k : Vec Ideal S3x512 .f32) (s : Vec Ideal S1x512 .f32)
    (w' : Vec Ideal S2048x512 .bf16) (k' : Vec Ideal S3x512 .f32) (s' : Vec Ideal S1x512 .f32)
    (r o : Fin 512) (a b c : Fin 544) (ha : a.val = 15 + r.val) (hb : b.val = 16 + r.val) (hc : c.val = 17 + r.val) :
    k0_pay1 h (k0_pay7 h w) (k0_pay8 h w) (k0_pay9 h w) k s w' k' s' (ix2 r o)
      = conv3 (fun d => h (ix2 a d)) (fun d => h (ix2 b d)) (fun d => h (ix2 c d)) (fun d => w' (ix2 d o))
          (k' (ix2 (0 : Fin 3) o)) (k' (ix2 (1 : Fin 3) o)) (k' (ix2 (2 : Fin 3) o)) (s' (ix2 (0 : Fin 1) o))
        * conv3 (fun d => h (ix2 a d)) (fun d => h (ix2 b d)) (fun d => h (ix2 c d)) (fun d => w (ix2 d o))
          (k (ix2 (0 : Fin 3) o)) (k (ix2 (1 : Fin 3) o)) (k (ix2 (2 : Fin 3) o)) (s (ix2 (0 : Fin 1) o)) := by
  obtain rfl : a = ⟨(16 + r.val + 544 - 1) % 544, Nat.mod_lt _ (by decide)⟩ := Fin.ext (by have := r.isLt; show a.val = _ % 544; omega)
  obtain rfl : b = ⟨16 + r.val, Nat.add_lt_add_left (lt_trans r.isLt (by decide : 512 < 528)) 16⟩ := Fin.ext hb
  obtain rfl : c = ⟨(16 + r.val + 544 - 543) % 544, Nat.mod_lt _ (by decide)⟩ := Fin.ext (by have := r.isLt; show c.val = _ % 544; omega)
  unfold k0_pay1 k0_pay7 k0_pay8 k0_pay9 k0_pay6 conv3
  pointwise

end Cert.Kernel3Ideal.RefValue

end
-- ==== Proof.HyenaBlock.lean ====
/- What one grid point of the projection call leaves: the normalised rows with their neighbours in the scratch, and the two output blocks from the
   scratch. -/
module

public import proofs.«01_k».proof.Proof.HyenaPayloads

@[expose] public section

set_option maxRecDepth 16384
noncomputable section

open Idealize.ShloMosaic Idealize.ShloMosaic.TcCoe Idealize.ShloMosaic.Tactic Idealize.SL.Sem
open Idealize.ShloMosaic.Pipeline (Dat)

namespace Cert.Kernel3Ideal.RefValue

open Cert.Kernel3Ideal Cert.Kernel3Ideal.Gen

/-- The kernel's test that a tile's number has a negative remainder by eight, as a word. -/
def below (k : Fin 16) : BitVec 1 :=
  Scalar.andi (Scalar.xori (Scalar.cmpi .slt (Scalar.remsi (BitVec.ofNat 32 k.val) 8#32) 0#32) 0#1) (Scalar.cmpi .ne (Scalar.remsi (BitVec.ofNat 32 k.val) 8#32) 0#32)

/-- The kernel's remainder by eight of a tile's number is zero at the first tile of a sequence. -/
theorem first_iff : ∀ k : Fin 16,
    Scalar.cmpi .eq (Scalar.select (below k) (Scalar.addi (Scalar.remsi (BitVec.ofNat 32 k.val) 8#32) 8#32) (Scalar.remsi (BitVec.ofNat 32 k.val) 8#32)) 0#32 = 1#1 ↔ k.val % 8 = 0 := by
  decide +kernel

/-- It is seven at the last tile of a sequence. -/
theorem last_iff : ∀ k : Fin 16,
    Scalar.cmpi .eq (Scalar.select (below k) (Scalar.addi (Scalar.remsi (BitVec.ofNat 32 k.val) 8#32) 8#32) (Scalar.remsi (BitVec.ofNat 32 k.val) 8#32)) 7#32 = 1#1 ↔ k.val % 8 = 7 := by
  decide +kernel

/-- The scratch after a tile's first point: the tile's normalised rows at rows 16 to 527, the rows before them at rows 0 to 15 and the rows after them
    at rows 528 to 543, these two being zero where the sequence begins or ends. -/
def SCR (k : ℕ) (x0 : Vec Ideal S512x2048 .f32) (x1 x2 : Vec Ideal S16x2048 .f32) (x3 : Vec Ideal S1x2048 .f32) : Vec Ideal S544x2048 .bf16 := fun j =>
  if h1 : (j 0).val < 16 then
    if k % 8 = 0 then 0 else nrm (fun e => x1 (ix2 (⟨(j 0).val, h1⟩ : Fin 16) e)) (fun e => x3 (ix2 (0 : Fin 1) e)) (j 1)
  else if h2 : (j 0).val < 528 then
    nrm (fun e => x0 (ix2 (⟨(j 0).val - 16, by omega⟩ : Fin 512) e)) (fun e => x3 (ix2 (0 : Fin 1) e)) (j 1)
  else if k % 8 = 7 then 0 else
    nrm (fun e => x2 (ix2 (⟨(j 0).val - 528, by have : (j 0).val < 544 := (j 0).isLt; omega⟩ : Fin 16) e)) (fun e => x3 (ix2 (0 : Fin 1) e)) (j 1)

/-- The three stores into the scratch, read as one array. -/
theorem canon_scr (k : Fin 16) (x0 : Vec Ideal S512x2048 .f32) (x1 x2 : Vec Ideal S16x2048 .f32) (x3 : Vec Ideal S1x2048 .f32) (y : S544x2048.Idx) :
    View.canon [⟨Rect.unit (s := S544x2048) ![528, 0] ![16, 2048] inb_S544x2048_S16x2048_528_0,
        k0_pay4 x3 8#32 (Scalar.remsi (BitVec.ofNat 32 k.val) 8#32) (below k) x2⟩,
      ⟨Rect.unit (s := S544x2048) ![0, 0] ![16, 2048] inb_S544x2048_S16x2048_0_0,
        k0_pay3 x3 (Scalar.cmpi .eq (Scalar.select (below k) (Scalar.addi (Scalar.remsi (BitVec.ofNat 32 k.val) 8#32) 8#32) (Scalar.remsi (BitVec.ofNat 32 k.val) 8#32)) 0#32) x1⟩,
      ⟨Rect.unit (s := S544x2048) ![16, 0] ![512, 2048] inb_S544x2048_S512x2048_16_0, k0_pay2 x3 x0⟩] y = SCR k.val x0 x1 x2 x3 y := by
  canon_tiles x h using (View.cover_of_tiledBy _ ![16, 2048] (by sl_kernel_rfl) y)
  · obtain ⟨r, d, rfl⟩ : ∃ (r : Fin 16) (d : Fin 2048), x = ix2 r d := ⟨x 0, x 1, by funext z; match z with | ⟨0, _⟩ => rfl | ⟨1, _⟩ => rfl⟩
    refine (pay4_apply _ _ _ _ _ r d).trans ?_
    have h0' : (y 0).val = 528 + r.val := h0
    have hr := r.isLt
    obtain rfl : d = y 1 := Fin.ext h1.symm
    unfold SCR
    rw [dif_neg (by omega), dif_neg (by omega)]
    simp only [last_iff]
    refine if_congr Iff.rfl rfl (congrArg (fun f => nrm f _ _) (funext fun e => congrArg (fun q => x2 (ix2 q e)) (Fin.ext ?_)))
    show r.val = (y 0).val - 528
    omega
  · obtain ⟨r, d, rfl⟩ : ∃ (r : Fin 16) (d : Fin 2048), x = ix2 r d := ⟨x 0, x 1, by funext z; match z with | ⟨0, _⟩ => rfl | ⟨1, _⟩ => rfl⟩
    refine (pay3_apply _ _ _ r d).trans ?_
    have h0' : (y 0).val = r.val := h0
    have hr := r.isLt
    obtain rfl : d = y 1 := Fin.ext h1.symm
    unfold SCR
    rw [dif_pos (by omega)]
    simp only [first_iff]
    refine if_congr Iff.rfl rfl (congrArg (fun f => nrm f _ _) (funext fun e => congrArg (fun q => x1 (ix2 q e)) (Fin.ext ?_)))
    show r.val = (y 0).val
    omega
  · obtain ⟨r, d, rfl⟩ : ∃ (r : Fin 512) (d : Fin 2048), x = ix2 r d := ⟨x 0, x 1, by funext z; match z with | ⟨0, _⟩ => rfl | ⟨1, _⟩ => rfl⟩
    refine (pay2_apply _ _ r d).trans ?_
    have h0' : (y 0).val = 16 + r.val := h0
    have hr := r.isLt
    obtain rfl : d = y 1 := Fin.ext h1.symm
    unfold SCR
    rw [dif_neg (by omega), dif_pos (by omega)]
    refine congrArg (fun f => nrm f _ _) (funext fun e => congrArg (fun q => x0 (ix2 q e)) (Fin.ext ?_))
    show r.val = (y 0).val - 16
    omega

theorem scr_eq (arg17 : Memref sig .tc .vmem S544x2048 .bf16) (k : Fin 16) (x0 : Vec Ideal S512x2048 .f32) (x1 x2 : Vec Ideal S16x2048 .f32) (x3 : Vec Ideal S1x2048 .f32) :
    arg17.view.readCov [⟨Rect.unit (s := S544x2048) ![528, 0] ![16, 2048] inb_S544x2048_S16x2048_528_0,
        k0_pay4 x3 8#32 (Scalar.remsi (BitVec.ofNat 32 k.val) 8#32) (below k) x2⟩,
      ⟨Rect.unit (s := S544x2048) ![0, 0] ![16, 2048] inb_S544x2048_S16x2048_0_0,
        k0_pay3 x3 (Scalar.cmpi .eq (Scalar.select (below k) (Scalar.addi (Scalar.remsi (BitVec.ofNat 32 k.val) 8#32) 8#32) (Scalar.remsi (BitVec.ofNat 32 k.val) 8#32)) 0#32) x1⟩,
      ⟨Rect.unit (s := S544x2048) ![16, 0] ![512, 2048] inb_S544x2048_S512x2048_16_0, k0_pay2 x3 x0⟩]
      (Rect.unit (s := S544x2048) ![0, 0] ![544, 2048] inb_S544x2048_S544x2048_0_0).toLoadRect = SCR k.val x0 x1 x2 x3 := by
  rw [View.readCov_eq_canon']
  funext j
  have e : (Rect.unit (s := S544x2048) ![0, 0] ![544, 2048] inb_S544x2048_S544x2048_0_0).idx j = (j : S544x2048.Idx) := by
    funext a; apply Fin.ext
    rw [Rect.idx_unit_val]
    match a with
    | ⟨0, _⟩ => simp
    | ⟨1, _⟩ => simp
  show View.canon _ ((Rect.unit (s := S544x2048) ![0, 0] ![544, 2048] inb_S544x2048_S544x2048_0_0).idx j) = _
  rw [e]
  exact canon_scr k x0 x1 x2 x3 j

theorem scr_read (c : Dev nD) (i : grid0.Coords) (arg2 : Memref sig .tc .vmem S512x2048 .f32) (harg2 : arg2.IsWhole) (arg3 : Memref sig .tc .vmem S16x2048 .f32) (harg3 : arg3.IsWhole) (arg4 : Memref sig .tc .vmem S16x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S3x512 .f32) (harg9 : arg9.IsWhole) (arg10 : Memref sig .tc .vmem S3x512 .f32) (harg10 : arg10.IsWhole) (arg11 : Memref sig .tc .vmem S3x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S544x2048 .bf16) (harg17 : arg17.IsWhole) (hc0 : cond0_0 i)
    (x0 : Vec Ideal S512x2048 .f32) (x1 : Vec Ideal S16x2048 .f32) (x2 : Vec Ideal S16x2048 .f32) (x3 : Vec Ideal S1x2048 .f32) (x4 : Vec Ideal S2048x512 .bf16) (x5 : Vec Ideal S2048x512 .bf16) (x6 : Vec Ideal S2048x512 .bf16) (x7 : Vec Ideal S3x512 .f32) (x8 : Vec Ideal S3x512 .f32) (x9 : Vec Ideal S3x512 .f32) (x10 : Vec Ideal S1x512 .f32) (x11 : Vec Ideal S1x512 .f32) (x12 : Vec Ideal S1x512 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 = SCR (i 0).val x0 x1 x2 x3 := by
  funext y
  frame_open
  frame_out
  exact canon_scr (i 0) x0 x1 x2 x3 y

theorem out13_A (c : Dev nD) (i : grid0.Coords) (arg2 : Memref sig .tc .vmem S512x2048 .f32) (harg2 : arg2.IsWhole) (arg3 : Memref sig .tc .vmem S16x2048 .f32) (harg3 : arg3.IsWhole) (arg4 : Memref sig .tc .vmem S16x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S3x512 .f32) (harg9 : arg9.IsWhole) (arg10 : Memref sig .tc .vmem S3x512 .f32) (harg10 : arg10.IsWhole) (arg11 : Memref sig .tc .vmem S3x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S544x2048 .bf16) (harg17 : arg17.IsWhole) (hc0 : cond0_0 i)
    (x0 : Vec Ideal S512x2048 .f32) (x1 : Vec Ideal S16x2048 .f32) (x2 : Vec Ideal S16x2048 .f32) (x3 : Vec Ideal S1x2048 .f32) (x4 : Vec Ideal S2048x512 .bf16) (x5 : Vec Ideal S2048x512 .bf16) (x6 : Vec Ideal S2048x512 .bf16) (x7 : Vec Ideal S3x512 .f32) (x8 : Vec Ideal S3x512 .f32) (x9 : Vec Ideal S3x512 .f32) (x10 : Vec Ideal S1x512 .f32) (x11 : Vec Ideal S1x512 .f32) (x12 : Vec Ideal S1x512 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 = k0_pay5 (SCR (i 0).val x0 x1 x2 x3) x4 x7 x10 := by
  funext y
  frame_open
  frame_out
  exact congrArg (fun s => k0_pay5 s x4 x7 x10 y) (scr_eq arg17 (i 0) x0 x1 x2 x3)

theorem out14_A (c : Dev nD) (i : grid0.Coords) (arg2 : Memref sig .tc .vmem S512x2048 .f32) (harg2 : arg2.IsWhole) (arg3 : Memref sig .tc .vmem S16x2048 .f32) (harg3 : arg3.IsWhole) (arg4 : Memref sig .tc .vmem S16x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S3x512 .f32) (harg9 : arg9.IsWhole) (arg10 : Memref sig .tc .vmem S3x512 .f32) (harg10 : arg10.IsWhole) (arg11 : Memref sig .tc .vmem S3x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S544x2048 .bf16) (harg17 : arg17.IsWhole) (hc0 : cond0_0 i)
    (x0 : Vec Ideal S512x2048 .f32) (x1 : Vec Ideal S16x2048 .f32) (x2 : Vec Ideal S16x2048 .f32) (x3 : Vec Ideal S1x2048 .f32) (x4 : Vec Ideal S2048x512 .bf16) (x5 : Vec Ideal S2048x512 .bf16) (x6 : Vec Ideal S2048x512 .bf16) (x7 : Vec Ideal S3x512 .f32) (x8 : Vec Ideal S3x512 .f32) (x9 : Vec Ideal S3x512 .f32) (x10 : Vec Ideal S1x512 .f32) (x11 : Vec Ideal S1x512 .f32) (x12 : Vec Ideal S1x512 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12
      = k0_pay1 (SCR (i 0).val x0 x1 x2 x3) (k0_pay7 (SCR (i 0).val x0 x1 x2 x3) x5) (k0_pay8 (SCR (i 0).val x0 x1 x2 x3) x5)
          (k0_pay9 (SCR (i 0).val x0 x1 x2 x3) x5) x8 x11 x6 x9 x12 := by
  funext y
  frame_open
  frame_out
  exact congrArg (fun s => k0_pay1 s (k0_pay7 s x5) (k0_pay8 s x5) (k0_pay9 s x5) x8 x11 x6 x9 x12 y) (scr_eq arg17 (i 0) x0 x1 x2 x3)

theorem out13_B (c : Dev nD) (i : grid0.Coords) (arg2 : Memref sig .tc .vmem S512x2048 .f32) (harg2 : arg2.IsWhole) (arg3 : Memref sig .tc .vmem S16x2048 .f32) (harg3 : arg3.IsWhole) (arg4 : Memref sig .tc .vmem S16x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S3x512 .f32) (harg9 : arg9.IsWhole) (arg10 : Memref sig .tc .vmem S3x512 .f32) (harg10 : arg10.IsWhole) (arg11 : Memref sig .tc .vmem S3x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S544x2048 .bf16) (harg17 : arg17.IsWhole) (hc0 : ¬cond0_0 i)
    (x0 : Vec Ideal S512x2048 .f32) (x1 : Vec Ideal S16x2048 .f32) (x2 : Vec Ideal S16x2048 .f32) (x3 : Vec Ideal S1x2048 .f32) (x4 : Vec Ideal S2048x512 .bf16) (x5 : Vec Ideal S2048x512 .bf16) (x6 : Vec Ideal S2048x512 .bf16) (x7 : Vec Ideal S3x512 .f32) (x8 : Vec Ideal S3x512 .f32) (x9 : Vec Ideal S3x512 .f32) (x10 : Vec Ideal S1x512 .f32) (x11 : Vec Ideal S1x512 .f32) (x12 : Vec Ideal S1x512 .f32) (xs0 : Vec Ideal S544x2048 .bf16) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xs0 = k0_pay5 xs0 x4 x7 x10 := by
  funext y
  frame_open
  frame_out

theorem out14_B (c : Dev nD) (i : grid0.Coords) (arg2 : Memref sig .tc .vmem S512x2048 .f32) (harg2 : arg2.IsWhole) (arg3 : Memref sig .tc .vmem S16x2048 .f32) (harg3 : arg3.IsWhole) (arg4 : Memref sig .tc .vmem S16x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S3x512 .f32) (harg9 : arg9.IsWhole) (arg10 : Memref sig .tc .vmem S3x512 .f32) (harg10 : arg10.IsWhole) (arg11 : Memref sig .tc .vmem S3x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S544x2048 .bf16) (harg17 : arg17.IsWhole) (hc0 : ¬cond0_0 i)
    (x0 : Vec Ideal S512x2048 .f32) (x1 : Vec Ideal S16x2048 .f32) (x2 : Vec Ideal S16x2048 .f32) (x3 : Vec Ideal S1x2048 .f32) (x4 : Vec Ideal S2048x512 .bf16) (x5 : Vec Ideal S2048x512 .bf16) (x6 : Vec Ideal S2048x512 .bf16) (x7 : Vec Ideal S3x512 .f32) (x8 : Vec Ideal S3x512 .f32) (x9 : Vec Ideal S3x512 .f32) (x10 : Vec Ideal S1x512 .f32) (x11 : Vec Ideal S1x512 .f32) (x12 : Vec Ideal S1x512 .f32) (xs0 : Vec Ideal S544x2048 .bf16) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xs0
      = k0_pay1 xs0 (k0_pay7 xs0 x5) (k0_pay8 xs0 x5) (k0_pay9 xs0 x5) x8 x11 x6 x9 x12 := by
  funext y
  frame_open
  frame_out

end Cert.Kernel3Ideal.RefValue

end
-- ==== Proof.HyenaValue.lean ====
/- The projection call's two results as whole arrays: every grid point's scratch holds its tile's normalised rows, and every block is the short
   convolution of the projected rows. -/
module

public import proofs.«01_k».proof.Proof.HyenaBlock

@[expose] public section

set_option maxRecDepth 16384
noncomputable section

open Idealize.ShloMosaic Idealize.ShloMosaic.TcCoe Idealize.SL.Sem
open Idealize.ShloMosaic.Pipeline (Dat)

namespace Cert.Kernel3Ideal.RefValue

open Cert.Kernel3Ideal Cert.Kernel3Ideal.Gen

/-- A normalised row of the input. -/
def row (X : Vec Ideal S8192x2048 .f32) (g : Vec Ideal S1x2048 .f32) (r : Fin 8192) : Fin 2048 → EReal :=
  nrm (fun e => X (ix2 r e)) (fun e => g (ix2 (0 : Fin 1) e))

/-- The row before it in its sequence; zero at the sequence's first row. -/
def prv (X : Vec Ideal S8192x2048 .f32) (g : Vec Ideal S1x2048 .f32) (r : Fin 8192) (d : Fin 2048) : EReal :=
  if r.val % 4096 = 0 then 0 else row X g ⟨r.val - 1, lt_of_le_of_lt (Nat.sub_le _ _) r.isLt⟩ d

/-- The row after it in its sequence; zero at the sequence's last row. -/
def nxt (X : Vec Ideal S8192x2048 .f32) (g : Vec Ideal S1x2048 .f32) (r : Fin 8192) (d : Fin 2048) : EReal :=
  if h : r.val % 4096 = 4095 then 0 else row X g ⟨r.val + 1, by have := r.isLt; omega⟩ d

/-- One element of the convolved projection. -/
def U (X : Vec Ideal S8192x2048 .f32) (g : Vec Ideal S1x2048 .f32) (W : Vec Ideal S2048x6144 .bf16) (K : Vec Ideal S3x6144 .f32) (s : Vec Ideal S1x6144 .f32)
    (r : Fin 8192) (o : Fin 6144) : EReal :=
  conv3 (prv X g r) (row X g r) (nxt X g r) (fun d => W (ix2 d o)) (K (ix2 (0 : Fin 3) o)) (K (ix2 (1 : Fin 3) o)) (K (ix2 (2 : Fin 3) o)) (s (ix2 (0 : Fin 1) o))

/-- The first result: the gate's columns. -/
def GATE (X : Vec Ideal S8192x2048 .f32) (g : Vec Ideal S1x2048 .f32) (W : Vec Ideal S2048x6144 .bf16) (K : Vec Ideal S3x6144 .f32) (s : Vec Ideal S1x6144 .f32) :
    Vec Ideal S8192x2048 .f32 := fun j => U X g W K s (j 0) ⟨(j 1).val, lt_trans (j 1).isLt (by decide)⟩

/-- The second result: the last columns times the middle ones. -/
def VALS (X : Vec Ideal S8192x2048 .f32) (g : Vec Ideal S1x2048 .f32) (W : Vec Ideal S2048x6144 .bf16) (K : Vec Ideal S3x6144 .f32) (s : Vec Ideal S1x6144 .f32) :
    Vec Ideal S8192x2048 .f32 := fun j =>
  U X g W K s (j 0) ⟨4096 + (j 1).val, Nat.add_lt_add_left (j 1).isLt 4096⟩ * U X g W K s (j 0) ⟨2048 + (j 1).val, lt_trans (Nat.add_lt_add_left (j 1).isLt 2048) (by decide)⟩

variable (m : (ℓ : Loc nD τ sig) → Buf (Elt Ideal) ℓ)

/-- The windows' block indices at every grid point. -/
theorem idx : ∀ t : Fin cfg0.N, win0_0.index t = ![t.val / 4, 0] ∧ win0_1.index t = ![32 * (t.val / 4) - 1, 0] ∧ win0_2.index t = ![min (32 * (t.val / 4) + 32) 511, 0]
    ∧ win0_3.index t = ![0, 0] ∧ win0_4.index t = ![0, t.val % 4] ∧ win0_5.index t = ![0, t.val % 4 + 4] ∧ win0_6.index t = ![0, t.val % 4 + 8]
    ∧ win0_7.index t = ![0, t.val % 4] ∧ win0_8.index t = ![0, t.val % 4 + 4] ∧ win0_9.index t = ![0, t.val % 4 + 8]
    ∧ win0_10.index t = ![0, t.val % 4] ∧ win0_11.index t = ![0, t.val % 4 + 4] ∧ win0_12.index t = ![0, t.val % 4 + 8]
    ∧ win0_13.index t = ![t.val / 4, t.val % 4] ∧ win0_14.index t = ![t.val / 4, t.val % 4] ∧ (grid0.coords t 0).val = t.val / 4 := by
  decide +kernel

/-- A scratch that holds a tile's rows with the row before and the row after. -/
def Good (X : Vec Ideal S8192x2048 .f32) (g : Vec Ideal S1x2048 .f32) (k : ℕ) (S : Vec Ideal S544x2048 .bf16) : Prop :=
  ∀ (r : Fin 8192) (q : Fin 512) (a b c : Fin 544) (d : Fin 2048), r.val = 512 * k + q.val → a.val = 15 + q.val → b.val = 16 + q.val → c.val = 17 + q.val →
    S (ix2 a d) = prv X g r d ∧ S (ix2 b d) = row X g r d ∧ S (ix2 c d) = nxt X g r d

theorem blk0 (c : Dev nD) (t : Fin cfg0.N) (q : Fin 512) (r : Fin 8192) (e : Fin 2048) (hr : r.val = 512 * (t.val / 4) + q.val) :
    (iblk m c 0 t : Vec Ideal S512x2048 .f32) (ix2 q e) = (m ((c : Thread nD τ).loc main_arg0) : Vec Ideal S8192x2048 .f32) (ix2 r e) := by
  have e0 := fun t => (idx t).1
  blk_ext [iblk, V, e0]

theorem blk1 (c : Dev nD) (t : Fin cfg0.N) (q : Fin 16) (r : Fin 8192) (e : Fin 2048) (hr : r.val = 16 * (32 * (t.val / 4) - 1) + q.val) :
    (iblk m c 1 t : Vec Ideal S16x2048 .f32) (ix2 q e) = (m ((c : Thread nD τ).loc main_arg0) : Vec Ideal S8192x2048 .f32) (ix2 r e) := by
  have e0 := fun t => (idx t).2.1
  blk_ext [iblk, V, e0]

theorem blk2 (c : Dev nD) (t : Fin cfg0.N) (q : Fin 16) (r : Fin 8192) (e : Fin 2048) (hr : r.val = 16 * min (32 * (t.val / 4) + 32) 511 + q.val) :
    (iblk m c 2 t : Vec Ideal S16x2048 .f32) (ix2 q e) = (m ((c : Thread nD τ).loc main_arg0) : Vec Ideal S8192x2048 .f32) (ix2 r e) := by
  have e0 := fun t => (idx t).2.2.1
  blk_ext [iblk, V, e0]

theorem blk3 (c : Dev nD) (t : Fin cfg0.N) (q : Fin 1) (e : Fin 2048) :
    (iblk m c 3 t : Vec Ideal S1x2048 .f32) (ix2 q e) = (m ((c : Thread nD τ).loc main_arg1) : Vec Ideal S1x2048 .f32) (ix2 q e) := by
  have e0 := fun t => (idx t).2.2.2.1
  blk_ext [iblk, V, e0]

theorem blk4 (c : Dev nD) (t : Fin cfg0.N) (q : Fin 512) (o : Fin 6144) (d : Fin 2048) (ho : o.val = 512 * (t.val % 4) + q.val) :
    (iblk m c 4 t : Vec Ideal S2048x512 .bf16) (ix2 d q) = (m ((c : Thread nD τ).loc main_arg2) : Vec Ideal S2048x6144 .bf16) (ix2 d o) := by
  have e0 := fun t => (idx t).2.2.2.2.1
  blk_ext [iblk, V, e0]

theorem blk7 (c : Dev nD) (t : Fin cfg0.N) (q : Fin 512) (o : Fin 6144) (d : Fin 3) (ho : o.val = 512 * (t.val % 4) + q.val) :
    (iblk m c 7 t : Vec Ideal S3x512 .f32) (ix2 d q) = (m ((c : Thread nD τ).loc main_arg3) : Vec Ideal S3x6144 .f32) (ix2 d o) := by
  have e0 := fun t => (idx t).2.2.2.2.2.2.2.1
  blk_ext [iblk, V, e0]

theorem blk10 (c : Dev nD) (t : Fin cfg0.N) (q : Fin 512) (o : Fin 6144) (d : Fin 1) (ho : o.val = 512 * (t.val % 4) + q.val) :
    (iblk m c 10 t : Vec Ideal S1x512 .f32) (ix2 d q) = (m ((c : Thread nD τ).loc main_arg4) : Vec Ideal S1x6144 .f32) (ix2 d o) := by
  have e0 := fun t => (idx t).2.2.2.2.2.2.2.2.2.2.1
  blk_ext [iblk, V, e0]

theorem blk5 (c : Dev nD) (t : Fin cfg0.N) (q : Fin 512) (o : Fin 6144) (d : Fin 2048) (ho : o.val = 512 * (t.val % 4) + q.val + 2048) :
    (iblk m c 5 t : Vec Ideal S2048x512 .bf16) (ix2 d q) = (m ((c : Thread nD τ).loc main_arg2) : Vec Ideal S2048x6144 .bf16) (ix2 d o) := by
  have e0 := fun t => (idx t).2.2.2.2.2.1
  blk_ext [iblk, V, e0]

theorem blk8 (c : Dev nD) (t : Fin cfg0.N) (q : Fin 512) (o : Fin 6144) (d : Fin 3) (ho : o.val = 512 * (t.val % 4) + q.val + 2048) :
    (iblk m c 8 t : Vec Ideal S3x512 .f32) (ix2 d q) = (m ((c : Thread nD τ).loc main_arg3) : Vec Ideal S3x6144 .f32) (ix2 d o) := by
  have e0 := fun t => (idx t).2.2.2.2.2.2.2.2.1
  blk_ext [iblk, V, e0]

theorem blk11 (c : Dev nD) (t : Fin cfg0.N) (q : Fin 512) (o : Fin 6144) (d : Fin 1) (ho : o.val = 512 * (t.val % 4) + q.val + 2048) :
    (iblk m c 11 t : Vec Ideal S1x512 .f32) (ix2 d q) = (m ((c : Thread nD τ).loc main_arg4) : Vec Ideal S1x6144 .f32) (ix2 d o) := by
  have e0 := fun t => (idx t).2.2.2.2.2.2.2.2.2.2.2.1
  blk_ext [iblk, V, e0]

theorem blk6 (c : Dev nD) (t : Fin cfg0.N) (q : Fin 512) (o : Fin 6144) (d : Fin 2048) (ho : o.val = 512 * (t.val % 4) + q.val + 4096) :
    (iblk m c 6 t : Vec Ideal S2048x512 .bf16) (ix2 d q) = (m ((c : Thread nD τ).loc main_arg2) : Vec Ideal S2048x6144 .bf16) (ix2 d o) := by
  have e0 := fun t => (idx t).2.2.2.2.2.2.1
  blk_ext [iblk, V, e0]

theorem blk9 (c : Dev nD) (t : Fin cfg0.N) (q : Fin 512) (o : Fin 6144) (d : Fin 3) (ho : o.val = 512 * (t.val % 4) + q.val + 4096) :
    (iblk m c 9 t : Vec Ideal S3x512 .f32) (ix2 d q) = (m ((c : Thread nD τ).loc main_arg3) : Vec Ideal S3x6144 .f32) (ix2 d o) := by
  have e0 := fun t => (idx t).2.2.2.2.2.2.2.2.2.1
  blk_ext [iblk, V, e0]

theorem blk12 (c : Dev nD) (t : Fin cfg0.N) (q : Fin 512) (o : Fin 6144) (d : Fin 1) (ho : o.val = 512 * (t.val % 4) + q.val + 4096) :
    (iblk m c 12 t : Vec Ideal S1x512 .f32) (ix2 d q) = (m ((c : Thread nD τ).loc main_arg4) : Vec Ideal S1x6144 .f32) (ix2 d o) := by
  have e0 := fun t => (idx t).2.2.2.2.2.2.2.2.2.2.2.2.1
  blk_ext [iblk, V, e0]

/-- A tile's first point leaves a scratch that holds the tile's rows and their neighbours. -/
theorem scr_good (c : Dev nD) (t : Fin cfg0.N) :
    Good (m ((c : Thread nD τ).loc main_arg0)) (m ((c : Thread nD τ).loc main_arg1)) (t.val / 4) (SCR (t.val / 4) (iblk m c 0 t) (iblk m c 1 t) (iblk m c 2 t) (iblk m c 3 t)) := by
  have ht : t.val < 64 := Nat.lt_of_lt_of_eq t.isLt N_0
  have hg : (fun e => (iblk m c 3 t : Vec Ideal S1x2048 .f32) (ix2 (0 : Fin 1) e)) = fun e => (m ((c : Thread nD τ).loc main_arg1) : Vec Ideal S1x2048 .f32) (ix2 (0 : Fin 1) e) :=
    funext fun e => blk3 m c t 0 e
  have mid : ∀ (a : Fin 544) (q : Fin 512) (r : Fin 8192) (d : Fin 2048), a.val = 16 + q.val → r.val = 512 * (t.val / 4) + q.val →
      SCR (t.val / 4) (iblk m c 0 t) (iblk m c 1 t) (iblk m c 2 t) (iblk m c 3 t) (ix2 a d)
        = row (m ((c : Thread nD τ).loc main_arg0)) (m ((c : Thread nD τ).loc main_arg1)) r d := by
    intro a q r d ha hr
    have ha' : ((ix2 a d : S544x2048.Idx) 0).val = a.val := rfl
    have hq := q.isLt
    unfold SCR row
    rw [dif_neg (by omega), dif_pos (by omega), hg]
    refine congrArg (fun f => nrm f _ _) (funext fun e => (blk0 m c t _ r e ?_))
    show r.val = 512 * (t.val / 4) + (a.val - 16)
    omega
  intro r q a b e d hr ha hb hc
  have hq := q.isLt
  refine ⟨?_, mid b q r d hb hr, ?_⟩
  · by_cases h0 : q.val = 0
    · have ha' : ((ix2 a d : S544x2048.Idx) 0).val = a.val := rfl
      unfold SCR prv
      rw [dif_pos (by omega), hg]
      by_cases h7 : t.val / 4 % 8 = 0
      · rw [if_pos h7, if_pos (by omega)]
      · rw [if_neg h7, if_neg (by omega)]
        refine congrArg (fun f => nrm f _ _) (funext fun z => (blk1 m c t _ _ z ?_))
        show r.val - 1 = 16 * (32 * (t.val / 4) - 1) + a.val
        omega
    · unfold prv
      rw [if_neg (by omega)]
      exact mid a ⟨q.val - 1, by omega⟩ _ d (by show a.val = 16 + (q.val - 1); omega) (by show r.val - 1 = 512 * (t.val / 4) + (q.val - 1); omega)
  · by_cases h0 : q.val = 511
    · have ha' : ((ix2 e d : S544x2048.Idx) 0).val = e.val := rfl
      unfold SCR nxt
      rw [dif_neg (by omega), dif_neg (by omega), hg]
      by_cases h7 : t.val / 4 % 8 = 7
      · rw [if_pos h7, dif_pos (by omega)]
      · rw [if_neg h7, dif_neg (by omega)]
        refine congrArg (fun f => nrm f _ _) (funext fun z => (blk2 m c t _ _ z ?_))
        show r.val + 1 = 16 * min (32 * (t.val / 4) + 32) 511 + (e.val - 528)
        omega
    · unfold nxt
      rw [dif_neg (by omega)]
      exact mid e ⟨q.val + 1, by omega⟩ _ d (by show e.val = 16 + (q.val + 1); omega) (by show r.val + 1 = 512 * (t.val / 4) + (q.val + 1); omega)

/-- The scratch after a tile's first point. -/
theorem scr_A (c : Dev nD) (t : Fin cfg0.N) (h : t.val % 4 = 0) :
    (outsAt0 m c t.val t.isLt).2.2 = SCR (t.val / 4) (iblk m c 0 t) (iblk m c 1 t) (iblk m c 2 t) (iblk m c 3 t) := by
  rw [outsAt0_A m c t h]
  dsimp only
  rw [scr_read, (idx t).2.2.2.2.2.2.2.2.2.2.2.2.2.2.2]

/-- The scratch after a later point. -/
theorem scr_B (c : Dev nD) (t : Fin cfg0.N) (h : ¬t.val % 4 = 0) :
    (outsAt0 m c t.val t.isLt).2.2 = (outsAt0 m c (t.val - 1) (Nat.lt_of_le_of_lt (Nat.sub_le _ _) t.isLt)).2.2 := by
  rw [outsAt0_B m c t h]
  dsimp only
  rfl

/-- Every point's scratch holds its tile's rows: the later points leave it as it was. -/
theorem good (c : Dev nD) : ∀ (n : ℕ) (t : Fin cfg0.N), t.val = n →
    Good (m ((c : Thread nD τ).loc main_arg0)) (m ((c : Thread nD τ).loc main_arg1)) (t.val / 4) (outsAt0 m c t.val t.isLt).2.2 := by
  intro n
  induction n with
  | zero =>
    intro t ht
    rw [scr_A m c t (by rw [ht])]
    exact scr_good m c t
  | succ n ih =>
    intro t ht
    by_cases h : t.val % 4 = 0
    · rw [scr_A m c t h]
      exact scr_good m c t
    · rw [scr_B m c t h, show t.val / 4 = (t.val - 1) / 4 by omega]
      exact ih ⟨t.val - 1, Nat.lt_of_le_of_lt (Nat.sub_le _ _) t.isLt⟩ (by show t.val - 1 = n; omega)

/-- The first output's block at a grid point, from the point's scratch. -/
theorem out13 (c : Dev nD) (t : Fin cfg0.N) :
    (outsAt0 m c t.val t.isLt).1 = k0_pay5 (outsAt0 m c t.val t.isLt).2.2 (iblk m c 4 t) (iblk m c 7 t) (iblk m c 10 t) := by
  by_cases h : t.val % 4 = 0
  · rw [scr_A m c t h, ← (idx t).2.2.2.2.2.2.2.2.2.2.2.2.2.2.2]
    rw [outsAt0_A m c t h]
    dsimp only
    rw [out13_A]
  · rw [scr_B m c t h]
    rw [outsAt0_B m c t h]
    dsimp only
    rw [out13_B]

/-- The second output's block at a grid point, from the point's scratch. -/
theorem out14 (c : Dev nD) (t : Fin cfg0.N) :
    (outsAt0 m c t.val t.isLt).2.1 = k0_pay1 (outsAt0 m c t.val t.isLt).2.2 (k0_pay7 (outsAt0 m c t.val t.isLt).2.2 (iblk m c 5 t))
      (k0_pay8 (outsAt0 m c t.val t.isLt).2.2 (iblk m c 5 t)) (k0_pay9 (outsAt0 m c t.val t.isLt).2.2 (iblk m c 5 t)) (iblk m c 8 t) (iblk m c 11 t)
      (iblk m c 6 t) (iblk m c 9 t) (iblk m c 12 t) := by
  by_cases h : t.val % 4 = 0
  · rw [scr_A m c t h, ← (idx t).2.2.2.2.2.2.2.2.2.2.2.2.2.2.2]
    rw [outsAt0_A m c t h]
    dsimp only
    rw [out14_A]
  · rw [scr_B m c t h]
    rw [outsAt0_B m c t h]
    dsimp only
    rw [out14_B]

section
variable (c : Dev nD) (t : Fin cfg0.N) (S : Vec Ideal S544x2048 .bf16)
  (hS : Good (m ((c : Thread nD τ).loc main_arg0)) (m ((c : Thread nD τ).loc main_arg1)) (t.val / 4) S) (q p : Fin 512) (r : Fin 8192)
  (hr : r.val = 512 * (t.val / 4) + q.val) (a b e : Fin 544) (ha : a.val = 15 + q.val) (hb : b.val = 16 + q.val) (he : e.val = 17 + q.val)
include hS hr ha hb he

/-- A column of the convolution over a good scratch is the whole arrays' column. -/
theorem conv_good (w : Vec Ideal S2048x512 .bf16) (k : Vec Ideal S3x512 .f32) (s : Vec Ideal S1x512 .f32) (o : Fin 6144)
    (hw : ∀ d, w (ix2 d p) = (m ((c : Thread nD τ).loc main_arg2) : Vec Ideal S2048x6144 .bf16) (ix2 d o))
    (hk : ∀ d, k (ix2 d p) = (m ((c : Thread nD τ).loc main_arg3) : Vec Ideal S3x6144 .f32) (ix2 d o))
    (hs : ∀ d, s (ix2 d p) = (m ((c : Thread nD τ).loc main_arg4) : Vec Ideal S1x6144 .f32) (ix2 d o)) :
    conv3 (fun d => S (ix2 a d)) (fun d => S (ix2 b d)) (fun d => S (ix2 e d)) (fun d => w (ix2 d p)) (k (ix2 (0 : Fin 3) p)) (k (ix2 (1 : Fin 3) p)) (k (ix2 (2 : Fin 3) p))
        (s (ix2 (0 : Fin 1) p))
      = U (m ((c : Thread nD τ).loc main_arg0)) (m ((c : Thread nD τ).loc main_arg1)) (m ((c : Thread nD τ).loc main_arg2)) (m ((c : Thread nD τ).loc main_arg3))
          (m ((c : Thread nD τ).loc main_arg4)) r o := by
  rw [funext fun d => (hS r q a b e d hr ha hb he).1, funext fun d => (hS r q a b e d hr ha hb he).2.1, funext fun d => (hS r q a b e d hr ha hb he).2.2,
    funext hw, hk, hk, hk, hs]
  rfl

end

theorem value13 (c : Dev nD) : (dats m 0 c).arrAt 13 cfg0.N
    = GATE (m ((c : Thread nD τ).loc main_arg0)) (m ((c : Thread nD τ).loc main_arg1)) (m ((c : Thread nD τ).loc main_arg2)) (m ((c : Thread nD τ).loc main_arg3))
        (m ((c : Thread nD τ).loc main_arg4)) := by
  refine (dats m 0 c).arrAt_eq_of_covers 13 _ (by decide +kernel) fun t hf y => ?_
  have e13 := fun t => (idx t).2.2.2.2.2.2.2.2.2.2.2.2.2.1
  blk_simp
  rw [after0_13, out13]
  obtain ⟨q, p, rfl⟩ : ∃ (q p : Fin 512), (y : S512x512.Idx) = ix2 q p := ⟨y 0, y 1, by funext z; match z with | ⟨0, _⟩ => rfl | ⟨1, _⟩ => rfl⟩
  have ht : t.val < 64 := Nat.lt_of_lt_of_eq t.isLt N_0
  have hq := q.isLt
  have hp := p.isLt
  refine (pay5_apply _ _ _ _ q p ⟨15 + q.val, by omega⟩ ⟨16 + q.val, by omega⟩ ⟨17 + q.val, by omega⟩ rfl rfl rfl).trans ?_
  refine (conv_good m c t _ (good m c t.val t rfl) q p ⟨512 * (t.val / 4) + q.val, by omega⟩ rfl _ _ _ rfl rfl rfl _ _ _ ⟨512 * (t.val % 4) + p.val, by omega⟩
    (fun d => blk4 m c t p _ d rfl) (fun d => blk7 m c t p _ d rfl) (fun d => blk10 m c t p _ d rfl)).trans ?_
  have hz : (win0_13.blk t).view.emb (ix2 q p) = (ix2 (⟨512 * (t.val / 4) + q.val, by omega⟩ : Fin 8192) (⟨512 * (t.val % 4) + p.val, by omega⟩ : Fin 2048) : S8192x2048.Idx) := by
    blk_ext [e13]
  rw [hz]
  rfl

theorem value14 (c : Dev nD) : (dats m 0 c).arrAt 14 cfg0.N
    = VALS (m ((c : Thread nD τ).loc main_arg0)) (m ((c : Thread nD τ).loc main_arg1)) (m ((c : Thread nD τ).loc main_arg2)) (m ((c : Thread nD τ).loc main_arg3))
        (m ((c : Thread nD τ).loc main_arg4)) := by
  refine (dats m 0 c).arrAt_eq_of_covers 14 _ (by decide +kernel) fun t hf y => ?_
  have e14 := fun t => (idx t).2.2.2.2.2.2.2.2.2.2.2.2.2.2.1
  blk_simp
  rw [after0_14, out14]
  obtain ⟨q, p, rfl⟩ : ∃ (q p : Fin 512), (y : S512x512.Idx) = ix2 q p := ⟨y 0, y 1, by funext z; match z with | ⟨0, _⟩ => rfl | ⟨1, _⟩ => rfl⟩
  have ht : t.val < 64 := Nat.lt_of_lt_of_eq t.isLt N_0
  have hq := q.isLt
  have hp := p.isLt
  refine (pay1_apply _ _ _ _ _ _ _ q p ⟨15 + q.val, by omega⟩ ⟨16 + q.val, by omega⟩ ⟨17 + q.val, by omega⟩ rfl rfl rfl).trans ?_
  have hz : (win0_14.blk t).view.emb (ix2 q p) = (ix2 (⟨512 * (t.val / 4) + q.val, by omega⟩ : Fin 8192) (⟨512 * (t.val % 4) + p.val, by omega⟩ : Fin 2048) : S8192x2048.Idx) := by
    blk_ext [e14]
  rw [hz]
  unfold VALS
  refine congrArg₂ (· * ·) ?_ ?_
  · exact conv_good m c t _ (good m c t.val t rfl) q p ⟨512 * (t.val / 4) + q.val, by omega⟩ rfl _ _ _ rfl rfl rfl _ _ _ ⟨4096 + (512 * (t.val % 4) + p.val), by omega⟩
      (fun d => blk6 m c t p _ d (by show 4096 + _ = _; omega)) (fun d => blk9 m c t p _ d (by show 4096 + _ = _; omega)) (fun d => blk12 m c t p _ d (by show 4096 + _ = _; omega))
  · exact conv_good m c t _ (good m c t.val t rfl) q p ⟨512 * (t.val / 4) + q.val, by omega⟩ rfl _ _ _ rfl rfl rfl _ _ _ ⟨2048 + (512 * (t.val % 4) + p.val), by omega⟩
      (fun d => blk5 m c t p _ d (by show 2048 + _ = _; omega)) (fun d => blk8 m c t p _ d (by show 2048 + _ = _; omega)) (fun d => blk11 m c t p _ d (by show 2048 + _ = _; omega))

end Cert.Kernel3Ideal.RefValue

end
-- ==== Proof.HyenaRef.lean ====
/- The projection's reference at an index, in stages: the normalised rows, their projection, the padded projection, the short convolution, and the two
   results. -/
module

public import proofs.«01_k».proof.Defs
public import proofs.«01_k».proof.Proof.HyenaValue
public import proofs.«01_k».proof.Proof.Gen.Reference3Ideal.Run
public import Idealize.ShloMosaic.Lib.Pointwise
public import Idealize.ShloMosaic.Lib.KernelVsHost

@[expose] public section

set_option maxRecDepth 16384
noncomputable section

open Idealize.ShloMosaic Idealize.ShloMosaic.TcCoe Idealize.SL.Sem

namespace Cert.Reference3Ideal.RefValue

open Cert.Reference3Ideal Cert.Reference3Ideal.Gen Cert.Reference3Ideal.Value
variable (m : (ℓ : Loc nD τ sig) → Buf (Elt Ideal) ℓ)

/-- The normalised rows. -/
def NR (x : Vec Ideal S8192x2048 .f32) (g : Vec Ideal S1x2048 .f32) : FVec Ideal S2x4096x2048 .f32 :=
  mulf (mulf (shapeCast _ x shapeCasts_S8192x2048_S2x4096x2048) (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf (shapeCast _ x shapeCasts_S8192x2048_S2x4096x2048) (shapeCast _ x shapeCasts_S8192x2048_S2x4096x2048)) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ g shapeCasts_S1x2048_S2048)))

/-- Their projection. -/
def PROJ (h : FVec Ideal S2x4096x2048 .f32) (w : Vec Ideal S2048x6144 .bf16) : FVec Ideal S2x4096x6144 .f32 :=
  Host.dotGeneral dot_S2x4096x2048_S2048x6144_S2x4096x6144_2_0_01_1_n_n none h (extf .f32 w bitsLt_bf16_f32)

/-- The projection with a zero row before and after each sequence. -/
def PAD (u : FVec Ideal S2x4096x6144 .f32) : FVec Ideal S2x4098x6144 .f32 :=
  pad S2x4098x6144 ![0, 1, 0] ![0, 1, 0] ![0, 0, 0] u (sitofp .f32 (constantI S_ 32 0#32)) pads_S2x4096x6144_S2x4098x6144_000_110_000 h_S_

/-- The short convolution. -/
def CONV (p : FVec Ideal S2x4098x6144 .f32) (k : Vec Ideal S3x6144 .f32) (s : Vec Ideal S1x6144 .f32) : FVec Ideal S2x4096x6144 .f32 :=
  addf (addf (addf (mulf (extractStridedSlice S2x4096x6144 ![0, 0, 0] p slices_S2x4098x6144_S2x4096x6144_0_0_0) (broadcastInDim S2x4096x6144 ![0, 1, 2] bcast_S1x1x6144_S2x4096x6144_0_1_2 (broadcastInDim S1x1x6144 ![2] bcast_S6144_S1x1x6144_2 (shapeCast _ (extractStridedSlice S1x6144 ![0, 0] k slices_S3x6144_S1x6144_0_0) shapeCasts_S1x6144_S6144))))
    (mulf (extractStridedSlice S2x4096x6144 ![0, 1, 0] p slices_S2x4098x6144_S2x4096x6144_0_1_0) (broadcastInDim S2x4096x6144 ![0, 1, 2] bcast_S1x1x6144_S2x4096x6144_0_1_2 (broadcastInDim S1x1x6144 ![2] bcast_S6144_S1x1x6144_2 (shapeCast _ (extractStridedSlice S1x6144 ![1, 0] k slices_S3x6144_S1x6144_1_0) shapeCasts_S1x6144_S6144)))))
    (mulf (extractStridedSlice S2x4096x6144 ![0, 2, 0] p slices_S2x4098x6144_S2x4096x6144_0_2_0) (broadcastInDim S2x4096x6144 ![0, 1, 2] bcast_S1x1x6144_S2x4096x6144_0_1_2 (broadcastInDim S1x1x6144 ![2] bcast_S6144_S1x1x6144_2 (shapeCast _ (extractStridedSlice S1x6144 ![2, 0] k slices_S3x6144_S1x6144_2_0) shapeCasts_S1x6144_S6144)))))
    (broadcastInDim S2x4096x6144 ![0, 1, 2] bcast_S1x1x6144_S2x4096x6144_0_1_2 (broadcastInDim S1x1x6144 ![2] bcast_S6144_S1x1x6144_2 (shapeCast _ s shapeCasts_S1x6144_S6144)))

/-- The first result. -/
def FST (u : FVec Ideal S2x4096x6144 .f32) : FVec Ideal S8192x2048 .f32 :=
  shapeCast _ (extractStridedSlice S2x4096x2048 ![0, 0, 0] u slices_S2x4096x6144_S2x4096x2048_0_0_0) shapeCasts_S2x4096x2048_S8192x2048

/-- The second result. -/
def SND (u : FVec Ideal S2x4096x6144 .f32) : FVec Ideal S8192x2048 .f32 :=
  shapeCast _ (mulf (extractStridedSlice S2x4096x2048 ![0, 0, 4096] u slices_S2x4096x6144_S2x4096x2048_0_0_4096) (extractStridedSlice S2x4096x2048 ![0, 0, 2048] u slices_S2x4096x6144_S2x4096x2048_0_0_2048)) shapeCasts_S2x4096x2048_S8192x2048

/-- The convolved projection of the five arguments. -/
def ALL (x : Vec Ideal S8192x2048 .f32) (g : Vec Ideal S1x2048 .f32) (w : Vec Ideal S2048x6144 .bf16) (k : Vec Ideal S3x6144 .f32) (s : Vec Ideal S1x6144 .f32) :
    FVec Ideal S2x4096x6144 .f32 := CONV (PAD (PROJ (NR x g) w)) k s

theorem res0_eq (c : Dev nD) : res_out0 m c = FST (ALL (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))) := rfl

theorem res1_eq (c : Dev nD) : res_out1 m c = SND (ALL (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))) := rfl

open Cert.Kernel3Ideal.RefValue (nrm conv3 row prv nxt U GATE VALS)

theorem nr_apply (x g) (a : Fin 2) (l : Fin 4096) (d : Fin 2048) (r : Fin 8192) (hr : r.val = 4096 * a.val + l.val) :
    NR x g (ix3 a l d) = row x g r d := by
  have hx : a.val * 4096 + l.val < 8192 := by clear hr; omega
  obtain rfl : r = ⟨a.val * 4096 + l.val, hx⟩ := Fin.ext (by show r.val = a.val * 4096 + l.val; omega)
  unfold NR row nrm
  pointwise

theorem proj_apply (h w) (a : Fin 2) (l : Fin 4096) (o : Fin 6144) : PROJ h w (ix3 a l o) = ∑ d : Fin 2048, h (ix3 a l d) * w (ix2 d o) := by
  unfold PROJ
  pointwise

theorem pad_mid (u) (a : Fin 2) (l : Fin 4098) (z : Fin 4096) (o : Fin 6144) (h : l.val = z.val + 1) : PAD u (ix3 a l o) = u (ix3 a z o) := by
  unfold PAD
  pointwise
  have hz := z.isLt
  rw [dif_pos (by omega)]
  exact congrArg (fun q => u (ix3 a q o)) (Fin.ext (by show l.val - 1 = z.val; omega))

theorem pad_end (u) (a : Fin 2) (l : Fin 4098) (o : Fin 6144) (h : l.val = 0 ∨ l.val = 4097) : PAD u (ix3 a l o) = 0 := by
  unfold PAD
  pointwise
  rw [dif_neg (by omega)]
  simp [FloatOps.sitofp]

theorem conv_apply (p k s) (a : Fin 2) (l : Fin 4096) (o : Fin 6144) (l0 l1 l2 : Fin 4098) (h0 : l0.val = l.val) (h1 : l1.val = l.val + 1) (h2 : l2.val = l.val + 2) :
    CONV p k s (ix3 a l o) = p (ix3 a l0 o) * k (ix2 (0 : Fin 3) o) + p (ix3 a l1 o) * k (ix2 (1 : Fin 3) o) + p (ix3 a l2 o) * k (ix2 (2 : Fin 3) o)
      + s (ix2 (0 : Fin 1) o) := by
  have hl : l.val < 4098 ∧ 1 + l.val < 4098 ∧ 2 + l.val < 4098 := by clear h0 h1 h2; omega
  obtain rfl : l0 = ⟨l.val, hl.1⟩ := Fin.ext h0
  obtain rfl : l1 = ⟨1 + l.val, hl.2.1⟩ := Fin.ext (h1.trans (Nat.add_comm _ _))
  obtain rfl : l2 = ⟨2 + l.val, hl.2.2⟩ := Fin.ext (h2.trans (Nat.add_comm _ _))
  unfold CONV
  pointwise

theorem fst_apply (u) (a : Fin 2) (l : Fin 4096) (r : Fin 8192) (o : Fin 2048) (hr : r.val = 4096 * a.val + l.val) :
    FST u (ix2 r o) = u (ix3 a l (⟨o.val, lt_trans o.isLt (by decide)⟩ : Fin 6144)) := by
  have h1 : r.val / 4096 < 2 := by clear hr; omega
  obtain rfl : l = ⟨r.val % 4096, Nat.mod_lt _ (by decide)⟩ := Fin.ext (by show l.val = r.val % 4096; omega)
  obtain rfl : a = ⟨r.val / 4096, h1⟩ := Fin.ext (by show a.val = r.val / 4096; have : r.val = 4096 * a.val + r.val % 4096 := hr; omega)
  unfold FST
  pointwise

theorem snd_apply (u) (a : Fin 2) (l : Fin 4096) (r : Fin 8192) (o : Fin 2048) (hr : r.val = 4096 * a.val + l.val) :
    SND u (ix2 r o) = u (ix3 a l (⟨4096 + o.val, Nat.add_lt_add_left o.isLt 4096⟩ : Fin 6144))
      * u (ix3 a l (⟨2048 + o.val, lt_trans (Nat.add_lt_add_left o.isLt 2048) (by decide)⟩ : Fin 6144)) := by
  have h1 : r.val / 4096 < 2 := by clear hr; omega
  obtain rfl : l = ⟨r.val % 4096, Nat.mod_lt _ (by decide)⟩ := Fin.ext (by show l.val = r.val % 4096; omega)
  obtain rfl : a = ⟨r.val / 4096, h1⟩ := Fin.ext (by show a.val = r.val / 4096; have : r.val = 4096 * a.val + r.val % 4096 := hr; omega)
  unfold SND
  pointwise

/-- A row of zeros has product zero with every column. -/
theorem sum_zero (w : Fin 2048 → EReal) : ∑ d : Fin 2048, (0 : EReal) * w d = 0 :=
  Finset.sum_eq_zero fun d _ => zero_mul _

theorem all_apply (x g w k s) (a : Fin 2) (l : Fin 4096) (o : Fin 6144) (r : Fin 8192) (hr : r.val = 4096 * a.val + l.val) :
    ALL x g w k s (ix3 a l o) = U x g w k s r o := by
  have hl := l.isLt
  have ha := a.isLt
  have mid : ∀ (z : Fin 4096) (q : Fin 8192), q.val = 4096 * a.val + z.val → PROJ (NR x g) w (ix3 a z o) = ∑ d : Fin 2048, row x g q d * w (ix2 d o) :=
    fun z q hq => (proj_apply _ _ a z o).trans (Finset.sum_congr rfl fun d _ => congrArg (· * _) (nr_apply x g a z d q hq))
  unfold ALL
  refine (conv_apply _ k s a l o ⟨l.val, by omega⟩ ⟨l.val + 1, by omega⟩ ⟨l.val + 2, by omega⟩ rfl rfl rfl).trans ?_
  unfold U conv3
  refine congrArg₂ (· + ·) (congrArg₂ (· + ·) (congrArg₂ (· + ·) (congrArg (· * _) ?_) (congrArg (· * _) ?_)) (congrArg (· * _) ?_)) rfl
  · by_cases h : l.val = 0
    · refine (pad_end _ a _ o (Or.inl h)).trans ?_
      rw [show prv x g r = fun _ => 0 from funext fun d => if_pos (by omega)]
      exact (sum_zero _).symm
    · refine (pad_mid _ a _ ⟨l.val - 1, by omega⟩ o (by show l.val = l.val - 1 + 1; omega)).trans ?_
      rw [show prv x g r = row x g _ from funext fun d => if_neg (by omega)]
      exact mid _ _ (by show r.val - 1 = 4096 * a.val + (l.val - 1); omega)
  · exact (pad_mid _ a _ l o rfl).trans (mid l r hr)
  · by_cases h : l.val = 4095
    · refine (pad_end _ a _ o (Or.inr (by show l.val + 2 = 4097; omega))).trans ?_
      rw [show nxt x g r = fun _ => 0 from funext fun d => dif_pos (by omega)]
      exact (sum_zero _).symm
    · refine (pad_mid _ a _ ⟨l.val + 1, by omega⟩ o rfl).trans ?_
      rw [show nxt x g r = row x g ⟨r.val + 1, by omega⟩ from funext fun d => dif_neg (by omega)]
      exact mid _ _ (by show r.val + 1 = 4096 * a.val + (l.val + 1); omega)

theorem fst_eq (x g w k s) : FST (ALL x g w k s) = GATE x g w k s := by
  funext y
  obtain ⟨r, o, rfl⟩ : ∃ (r : Fin 8192) (o : Fin 2048), y = ix2 r o := ⟨y 0, y 1, by funext z; match z with | ⟨0, _⟩ => rfl | ⟨1, _⟩ => rfl⟩
  have hr : r.val = 4096 * (r.val / 4096) + r.val % 4096 := by omega
  exact (fst_apply _ (⟨r.val / 4096, by omega⟩ : Fin 2) (⟨r.val % 4096, by omega⟩ : Fin 4096) r o hr).trans (all_apply x g w k s _ _ _ r hr)

theorem snd_eq (x g w k s) : SND (ALL x g w k s) = VALS x g w k s := by
  funext y
  obtain ⟨r, o, rfl⟩ : ∃ (r : Fin 8192) (o : Fin 2048), y = ix2 r o := ⟨y 0, y 1, by funext z; match z with | ⟨0, _⟩ => rfl | ⟨1, _⟩ => rfl⟩
  have hr : r.val = 4096 * (r.val / 4096) + r.val % 4096 := by omega
  exact (snd_apply _ (⟨r.val / 4096, by omega⟩ : Fin 2) (⟨r.val % 4096, by omega⟩ : Fin 4096) r o hr).trans
    (congrArg₂ (· * ·) (all_apply x g w k s _ _ _ r hr) (all_apply x g w k s _ _ _ r hr))

end Cert.Reference3Ideal.RefValue

end
-- ==== Proof.HyenaClaims.lean ====
/- The claims about the projection call: it ends with its arguments unchanged, and its two results are the reference's. -/
module

public import proofs.«01_k».proof.Proof.HyenaRef
public import proofs.«01_k».proof.Proof.Gen.Kernel3.Frame
public import Idealize.ShloMosaic.Lib.Claim

@[expose] public section

set_option maxRecDepth 16384
noncomputable section

open Idealize.ShloMosaic Idealize.ShloMosaic.TcCoe Idealize.SL.Sem
open Idealize.ShloMosaic.Pipeline (Dat)

namespace Cert.Proof.Hyena

theorem frame_p : Cert.quiescent_Kernel3 := fun m g _ => Cert.Kernel3.Gen.frame m g
theorem frame_pi : Cert.quiescent_Kernel3Ideal := fun m g _ => Cert.Kernel3Ideal.Gen.frame m g
theorem frame_ri : Cert.quiescent_Reference3Ideal := fun m g _ =>
  (θ_run Cert.Reference3Ideal.defs _ _).mono (fun r h => ⟨fun c => (h c).2.2, sem_eq_zero_of_no_sems (by decide) r.2⟩) (Cert.Reference3Ideal.Value.run m g)

theorem algebraic : Cert.algebraic_Kernel3Ideal_Reference3Ideal := by
  intro m g m' g' _ hargs
  refine ⟨fun c => (Cert.Kernel3Ideal.Gen.dats m 0 c).arrAt 13 Cert.Kernel3Ideal.cfg0.N, fun c => (Cert.Kernel3Ideal.Gen.dats m 0 c).arrAt 14 Cert.Kernel3Ideal.cfg0.N, ?_, ?_⟩
  · exact (θ_run _ _ _).mono (fun r hr c => ⟨(hr.1 c).1 13, (hr.1 c).1 14, hr.2 c⟩) (θ_run_and (Cert.Kernel3Ideal.Gen.run_main m g) (Cert.Kernel3Ideal.Gen.unchanged m g))
  · refine (θ_run Cert.Reference3Ideal.defs _ _).mono (fun r h c => ⟨(h c).1.trans ?_, (h c).2.1.trans ?_, (h c).2.2⟩) (Cert.Reference3Ideal.Value.run m' g')
    · refine Eq.trans ?_ (Cert.Kernel3Ideal.RefValue.value13 m c).symm
      refine (Cert.Reference3Ideal.RefValue.res0_eq m' c).trans ?_
      obtain ⟨a0, a1, a2, a3, a4⟩ := hargs c
      rw [a0, a1, a2, a3, a4]
      exact Cert.Reference3Ideal.RefValue.fst_eq _ _ _ _ _
    · refine Eq.trans ?_ (Cert.Kernel3Ideal.RefValue.value14 m c).symm
      refine (Cert.Reference3Ideal.RefValue.res1_eq m' c).trans ?_
      obtain ⟨a0, a1, a2, a3, a4⟩ := hargs c
      rw [a0, a1, a2, a3, a4]
      exact Cert.Reference3Ideal.RefValue.snd_eq _ _ _ _ _

end Cert.Proof.Hyena

end
-- ==== Proof.OutputClaims.lean ====
/- The claims about the attention's output call: each block of the result is the layer's input plus the block's rows times its columns, and so is the
   reference's result. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384
noncomputable section

open Idealize.ShloMosaic Idealize.ShloMosaic.TcCoe Idealize.SL.Sem
open Idealize.ShloMosaic.Pipeline (Dat)

namespace Cert.Kernel4Ideal.RefValue

open Cert.Kernel4Ideal Cert.Kernel4Ideal.Gen Cert.Kernel4Ideal.Value

variable (m : (ℓ : Loc nD τ sig) → Buf (Elt Ideal) ℓ)

/-- The call's result from its three arguments. -/
def OUTP (o : Vec Ideal S8192x2048 .bf16) (w : Vec Ideal S2048x2048 .bf16) (x : Vec Ideal S8192x2048 .f32) : Vec Ideal S8192x2048 .f32 := fun i =>
  x i + ∑ k : Fin 2048, o (ix2 (i 0) k) * w (ix2 k (i 1))

theorem pay_apply (v0 : Vec Ideal S1024x512 .f32) (v1 : Vec Ideal S1024x2048 .bf16) (v2 : Vec Ideal S2048x512 .bf16) (y : S1024x512.Idx) :
    k0_pay1 v0 v1 v2 y = v0 y + ∑ k : Fin 2048, v1 (ix2 (y 0) k) * v2 (ix2 k (y 1)) := by
  unfold k0_pay1
  pointwise

/-- What a grid point leaves in its block. -/
theorem block (x0 : Vec Ideal S1024x2048 .bf16) (x1 : Vec Ideal S2048x512 .bf16) (x2 : Vec Ideal S1024x512 .f32) (y : S1024x512.Idx) :
    out0_3 x0 x1 x2 y = x2 y + ∑ k : Fin 2048, x0 (ix2 (y 0) k) * x1 (ix2 k (y 1)) := by
  unfold out0_3
  frame_out
  refine (pay_apply _ _ _ y).trans ?_
  simp only [View.ld_unit_zero]

/-- The windows' block indices at every grid point. -/
theorem idx : ∀ t : Fin cfg0.N, win0_0.index t = ![(grid0.coords t 0).val, 0] ∧ win0_1.index t = ![0, (grid0.coords t 1).val]
    ∧ win0_2.index t = ![(grid0.coords t 0).val, (grid0.coords t 1).val] ∧ win0_3.index t = ![(grid0.coords t 0).val, (grid0.coords t 1).val] := by
  decide +kernel

theorem value (c : Dev nD) : (dats m 0 c).arrAt 3 cfg0.N
    = OUTP (m ((c : Thread nD τ).loc main_arg0)) (m ((c : Thread nD τ).loc main_arg1)) (m ((c : Thread nD τ).loc main_arg2)) := by
  refine (dats m 0 c).arrAt_eq_of_covers 3 _ (by decide +kernel) fun t hf y => ?_
  have e0 := fun t => (idx t).1
  have e1 := fun t => (idx t).2.1
  have e2 := fun t => (idx t).2.2.1
  have e3 := fun t => (idx t).2.2.2
  blk_simp
  rw [after0_3]
  refine (block _ _ _ y).trans ?_
  unfold OUTP
  refine congrArg₂ (· + ·) ?_ (Finset.sum_congr rfl fun k _ => congrArg₂ (· * ·) ?_ ?_)
  · blk_ext [iblk, V, e2, e3]
  · blk_ext [iblk, V, e0, e3]
  · blk_ext [iblk, V, e1, e3]

end Cert.Kernel4Ideal.RefValue

namespace Cert.Proof.Output

theorem frame_p : Cert.quiescent_Kernel4 := fun m g _ => Cert.Kernel4.Gen.frame m g
theorem frame_pi : Cert.quiescent_Kernel4Ideal := fun m g _ => Cert.Kernel4Ideal.Gen.frame m g
theorem frame_ri : Cert.quiescent_Reference4Ideal := fun m g _ =>
  (θ_run Cert.Reference4Ideal.defs _ _).mono (fun r h => ⟨fun c => (h c).2, sem_eq_zero_of_no_sems (by decide) r.2⟩) (Cert.Reference4Ideal.Value.run m g)

theorem ref_apply (o : FVec Ideal Cert.Reference4Ideal.S8192x2048 .bf16) (w : FVec Ideal Cert.Reference4Ideal.S2048x2048 .bf16)
    (x : FVec Ideal Cert.Reference4Ideal.S8192x2048 .f32) (r : Fin 8192) (q : Fin 2048) :
    addf x (Host.dotGeneral Cert.Reference4Ideal.dot_S8192x2048_S2048x2048_S8192x2048_1_0_0_1_n_n none
      (extf .f32 o Cert.Reference4Ideal.Gen.bitsLt_bf16_f32) (extf .f32 w Cert.Reference4Ideal.Gen.bitsLt_bf16_f32)) (ix2 r q)
      = x (ix2 r q) + ∑ k : Fin 2048, o (ix2 r k) * w (ix2 k q) := by
  pointwise

theorem algebraic : Cert.algebraic_Kernel4Ideal_Reference4Ideal := by
  intro m g m' g' _ hargs
  refine ⟨fun c => (Cert.Kernel4Ideal.Gen.dats m 0 c).arrAt 3 Cert.Kernel4Ideal.cfg0.N, ?_, ?_⟩
  · exact Cert.Kernel4Ideal.Value.run_blocks m g
  · refine (θ_run Cert.Reference4Ideal.defs _ _).mono (fun r h c => ⟨(h c).1.trans ?_, (h c).2⟩) (Cert.Reference4Ideal.Value.run m' g')
    refine Eq.trans ?_ (Cert.Kernel4Ideal.RefValue.value m c).symm
    obtain ⟨a0, a1, a2⟩ := hargs c
    rw [a0, a1, a2]
    funext y
    obtain ⟨t, o, rfl⟩ : ∃ (t : Fin 8192) (o : Fin 2048), y = ix2 t o :=
      ⟨y 0, y 1, by funext z; match z with | ⟨0, _⟩ => rfl | ⟨1, _⟩ => rfl⟩
    exact ref_apply _ _ _ t o

end Cert.Proof.Output

end
-- ==== Proof.QkvRun.lean ====
/- The queries', keys' and values' projection: the body's run at the first point of a row block (it stores the normalised rows, then
   normalises and rotates one group of heads), at the second to fifth (another group of heads, from the stored rows), and at the last (the values). -/
module

public import proofs.«01_k».proof.Proof.Gen.Kernel5Ideal
public import proofs.«01_k».proof.Proof.Gen.Kernel5Ideal.Frame.Runs

@[expose] public section

-- membership in a rectangle of production extents (`View.cover_of_tiled`): the elaborator's structural look
-- recurses once per coordinate of the long axes
set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch as a view. -/
abbrev VS0_0 : View sig .tc .vmem S512x2048 .bf16 := scM0_0.view

set_option maxHeartbeats 4000000 in
/-- The run at the first point of a row block: the pieces it leaves in the projection's block and in the scratch. -/
noncomputable def kernelRun0_A (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1x1x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x512 .bf16) (harg8 : arg8.IsWhole) (arg9 : Memref sig .tc .vmem S512x1024 .bf16) (harg9 : arg9.IsWhole) (arg10 : Memref sig .tc .vmem S1x4x144x512 .bf16) (harg10 : arg10.IsWhole) (arg11 : Memref sig .tc .vmem S512x2048 .bf16) (harg11 : arg11.IsWhole) (hc0 : cond0_0 i) (hc1 : cond0_1 i) (hc2 : ¬cond0_2 i)
    (x0 : Vec F S512x2048 .f32) (x1 : Vec F S1x2048 .f32) (x2 : Vec F S2048x512 .bf16) (x3 : Vec F S1x1x128 .f32) (x4 : Vec F S512x128 .f32) (x5 : Vec F S512x128 .f32) :
    Σ' (L6 : List (View.Piece (Elt F) S512x512 .bf16)), { LS0 : List (View.Piece (Elt F) S512x2048 .bf16) //
      ∀ (xi7 : Vec F S512x1024 .bf16) (xi8 : Vec F S1x4x144x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0_qkv_project i arg2 harg2 arg3 harg3 arg4 harg4 arg5 harg5 arg6 harg6 arg7 harg7 arg8 harg8 arg9 harg9 arg10 harg10 arg11 harg11) K } := by
  refine ⟨?_, ?_, fun xi7 xi8 E K => ?run⟩
  case run =>
    simp only [cc0_qkv_project_eq_skeleton]; unfold cc0_qkv_project_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    iexists _; iexact HS0

set_option maxHeartbeats 4000000 in
/-- The run at the second to fifth point of a row block, from the scratch `xs0`: the pieces it leaves in the projection's block. -/
noncomputable def kernelRun0_B (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1x1x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x512 .bf16) (harg8 : arg8.IsWhole) (arg9 : Memref sig .tc .vmem S512x1024 .bf16) (harg9 : arg9.IsWhole) (arg10 : Memref sig .tc .vmem S1x4x144x512 .bf16) (harg10 : arg10.IsWhole) (arg11 : Memref sig .tc .vmem S512x2048 .bf16) (harg11 : arg11.IsWhole) (hc0 : ¬cond0_0 i) (hc1 : cond0_1 i) (hc2 : ¬cond0_2 i)
    (x0 : Vec F S512x2048 .f32) (x1 : Vec F S1x2048 .f32) (x2 : Vec F S2048x512 .bf16) (x3 : Vec F S1x1x128 .f32) (x4 : Vec F S512x128 .f32) (x5 : Vec F S512x128 .f32) (xs0 : Vec F S512x2048 .bf16) :
    { L6 : List (View.Piece (Elt F) S512x512 .bf16) //
      ∀ (xi7 : Vec F S512x1024 .bf16) (xi8 : Vec F S1x4x144x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ owns (c : Thread nD τ) arg11 fullShare xs0) -∗ K ⟨⟩))
          ⊢ wp frame (wpE (defs₀ (F := F)) Variants.none c none) E (cc0_qkv_project i arg2 harg2 arg3 harg3 arg4 harg4 arg5 harg5 arg6 harg6 arg7 harg7 arg8 harg8 arg9 harg9 arg10 harg10 arg11 harg11) K } := by
  refine ⟨?_, fun xi7 xi8 E K => ?run⟩
  case run =>
    simp only [cc0_qkv_project_eq_skeleton]; unfold cc0_qkv_project_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact HS0

set_option maxHeartbeats 4000000 in
/-- The run at the last point of a row block, from the scratch `xs0`: the pieces it leaves in the three blocks. -/
noncomputable def kernelRun0_C (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1x1x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x512 .bf16) (harg8 : arg8.IsWhole) (arg9 : Memref sig .tc .vmem S512x1024 .bf16) (harg9 : arg9.IsWhole) (arg10 : Memref sig .tc .vmem S1x4x144x512 .bf16) (harg10 : arg10.IsWhole) (arg11 : Memref sig .tc .vmem S512x2048 .bf16) (harg11 : arg11.IsWhole) (hc0 : ¬cond0_0 i) (hc1 : ¬cond0_1 i) (hc2 : cond0_2 i)
    (x0 : Vec F S512x2048 .f32) (x1 : Vec F S1x2048 .f32) (x2 : Vec F S2048x512 .bf16) (x3 : Vec F S1x1x128 .f32) (x4 : Vec F S512x128 .f32) (x5 : Vec F S512x128 .f32) (xs0 : Vec F S512x2048 .bf16) :
    Σ' (L6 : List (View.Piece (Elt F) S512x512 .bf16)), Σ' (L7 : List (View.Piece (Elt F) S512x1024 .bf16)), { L8 : List (View.Piece (Elt F) S1x4x144x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ owns (c : Thread nD τ) arg11 fullShare xs0) -∗ K ⟨⟩))
          ⊢ wp frame (wpE (defs₀ (F := F)) Variants.none c none) E (cc0_qkv_project i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_qkv_project_eq_skeleton]; unfold cc0_qkv_project_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    iexists _; isplitr; · ipureintro; exact harg11.read_unread _
    iexact HS0

end Cert.Kernel5Ideal.Gen

end
-- ==== Proof.QkvFrame.lean ====
/- The queries', keys' and values' projection: what the blocks hold point by point, with the scratch (the row block's
   normalised rows) carried from the first point of a row block to its last; the body obligation, the run and the frame. -/
module

public import proofs.«01_k».proof.Proof.QkvRun
public import Idealize.ShloMosaic.Lib.Claim

@[expose] public section

-- membership in a rectangle of production extents (`View.cover_of_tiled`): the elaborator's structural look
-- recurses once per coordinate of the long axes
set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases at a point -/

/-- The body's run at the first point of a row block. -/
noncomputable abbrev runA (c : Dev nD) (t : Fin cfg0.N) (h : t.val % 6 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h) ((hcond0_1 t).mpr (by omega)) (fun k => absurd ((hcond0_2 t).mp k) (by omega)) (iblk m c 0 t) (iblk m c 1 t) (iblk m c 2 t) (iblk m c 3 t) (iblk m c 4 t) (iblk m c 5 t)

/-- The body's run at the second to fifth point of a row block, from the scratch `xs`. -/
noncomputable abbrev runB (c : Dev nD) (t : Fin cfg0.N) (h0 : ¬t.val % 6 = 0) (h1 : t.val % 6 ≤ 4) (xs : Vec F S512x2048 .bf16) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun k => h0 ((hcond0_0 t).mp k)) ((hcond0_1 t).mpr h1) (fun k => absurd ((hcond0_2 t).mp k) (by omega)) (iblk m c 0 t) (iblk m c 1 t) (iblk m c 2 t) (iblk m c 3 t) (iblk m c 4 t) (iblk m c 5 t) xs

/-- The body's run at the last point of a row block, from the scratch `xs`. -/
noncomputable abbrev runC (c : Dev nD) (t : Fin cfg0.N) (h : t.val % 6 = 5) (xs : Vec F S512x2048 .bf16) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun k => absurd ((hcond0_0 t).mp k) (by omega)) (fun k => absurd ((hcond0_1 t).mp k) (by omega)) ((hcond0_2 t).mpr h) (iblk m c 0 t) (iblk m c 1 t) (iblk m c 2 t) (iblk m c 3 t) (iblk m c 4 t) (iblk m c 5 t) xs

/-- The pieces left in output 6's block at the first point of a row block cover it. -/
theorem coverA6 (c : Dev nD) (t : Fin cfg0.N) (h : t.val % 6 = 0) (y : S512x512.Idx) :
    ∃ pc ∈ (runA (F := F) m c t h).1, y ∈ pc.1.set :=
  View.cover_of_tiledL (runA (F := F) m c t h).1 S512x128.size (by sl_kernel_rfl) y

/-- What output 6's block holds after the first point of a row block. -/
def outA6 (c : Dev nD) (t : Fin cfg0.N) (h : t.val % 6 = 0) : Vec F S512x512 .bf16 :=
  VO0_6.read (Elt F) (VO0_6.writes (Elt F) VO0_6.junk (runA (F := F) m c t h).1)

/-- The pieces left in the scratch at the first point of a row block cover it. -/
theorem coverAS (c : Dev nD) (t : Fin cfg0.N) (h : t.val % 6 = 0) (y : S512x2048.Idx) :
    ∃ pc ∈ (runA (F := F) m c t h).2.1, y ∈ pc.1.set :=
  View.cover_of_tiledL (runA (F := F) m c t h).2.1 S512x2048.size (by sl_kernel_rfl) y

/-- What the scratch holds after the first point of a row block. -/
def outAS (c : Dev nD) (t : Fin cfg0.N) (h : t.val % 6 = 0) : Vec F S512x2048 .bf16 :=
  VS0_0.read (Elt F) (VS0_0.writes (Elt F) VS0_0.junk (runA (F := F) m c t h).2.1)

/-- The pieces left in output 6's block at the second to fifth point of a row block, from the scratch `xs` cover it. -/
theorem coverB6 (c : Dev nD) (t : Fin cfg0.N) (h0 : ¬t.val % 6 = 0) (h1 : t.val % 6 ≤ 4) (xs : Vec F S512x2048 .bf16) (y : S512x512.Idx) :
    ∃ pc ∈ (runB (F := F) m c t h0 h1 xs).1, y ∈ pc.1.set :=
  View.cover_of_tiledL (runB (F := F) m c t h0 h1 xs).1 S512x128.size (by sl_kernel_rfl) y

/-- What output 6's block holds after the second to fifth point of a row block, from the scratch `xs`. -/
def outB6 (c : Dev nD) (t : Fin cfg0.N) (h0 : ¬t.val % 6 = 0) (h1 : t.val % 6 ≤ 4) (xs : Vec F S512x2048 .bf16) : Vec F S512x512 .bf16 :=
  VO0_6.read (Elt F) (VO0_6.writes (Elt F) VO0_6.junk (runB (F := F) m c t h0 h1 xs).1)

/-- The pieces left in output 6's block at the last point of a row block, from the scratch `xs` cover it. -/
theorem coverC6 (c : Dev nD) (t : Fin cfg0.N) (h : t.val % 6 = 5) (xs : Vec F S512x2048 .bf16) (y : S512x512.Idx) :
    ∃ pc ∈ (runC (F := F) m c t h xs).1, y ∈ pc.1.set :=
  View.cover_of_tiledL (runC (F := F) m c t h xs).1 S512x512.size (by sl_kernel_rfl) y

/-- What output 6's block holds after the last point of a row block, from the scratch `xs`. -/
def outC6 (c : Dev nD) (t : Fin cfg0.N) (h : t.val % 6 = 5) (xs : Vec F S512x2048 .bf16) : Vec F S512x512 .bf16 :=
  VO0_6.read (Elt F) (VO0_6.writes (Elt F) VO0_6.junk (runC (F := F) m c t h xs).1)

/-- The pieces left in output 7's block at the last point of a row block, from the scratch `xs` cover it. -/
theorem coverC7 (c : Dev nD) (t : Fin cfg0.N) (h : t.val % 6 = 5) (xs : Vec F S512x2048 .bf16) (y : S512x1024.Idx) :
    ∃ pc ∈ (runC (F := F) m c t h xs).2.1, y ∈ pc.1.set :=
  View.cover_of_tiledL (runC (F := F) m c t h xs).2.1 S512x128.size (by sl_kernel_rfl) y

/-- What output 7's block holds after the last point of a row block, from the scratch `xs`. -/
def outC7 (c : Dev nD) (t : Fin cfg0.N) (h : t.val % 6 = 5) (xs : Vec F S512x2048 .bf16) : Vec F S512x1024 .bf16 :=
  VO0_7.read (Elt F) (VO0_7.writes (Elt F) VO0_7.junk (runC (F := F) m c t h xs).2.1)

/-- The pieces left in output 8's block at the last point of a row block, from the scratch `xs` cover it. -/
theorem coverC8 (c : Dev nD) (t : Fin cfg0.N) (h : t.val % 6 = 5) (xs : Vec F S512x2048 .bf16) (y : S1x4x144x512.Idx) :
    ∃ pc ∈ (runC (F := F) m c t h xs).2.2.1, y ∈ pc.1.set :=
  View.cover_of_tiledBy (runC (F := F) m c t h xs).2.2.1 ![1, 1, 16, 512] (by sl_kernel_rfl) y

/-- What output 8's block holds after the last point of a row block, from the scratch `xs`. -/
def outC8 (c : Dev nD) (t : Fin cfg0.N) (h : t.val % 6 = 5) (xs : Vec F S512x2048 .bf16) : Vec F S1x4x144x512 .bf16 :=
  VO0_8.read (Elt F) (VO0_8.writes (Elt F) VO0_8.junk (runC (F := F) m c t h xs).2.2.1)

/-! ## Point by point -/

/-- The scratch after point `n`: the row block's normalised rows, stored at its first point and kept to its last. -/
def scr (c : Dev nD) : (n : ℕ) → n < cfg0.N → Vec F S512x2048 .bf16
  | 0, hn => outAS m c ⟨0, hn⟩ rfl
  | n + 1, hn => if h : (n + 1) % 6 = 0 then outAS m c ⟨n + 1, hn⟩ h else scr c n (Nat.lt_of_succ_lt hn)

theorem scr_A (c : Dev nD) (t : Fin cfg0.N) (h : t.val % 6 = 0) : scr m c t.val t.isLt = outAS m c t h := by
  obtain ⟨n, hn⟩ := t
  cases n with
  | zero => rfl
  | succ n => exact dif_pos h

theorem scr_keep (c : Dev nD) (t : Fin cfg0.N) (h : ¬t.val % 6 = 0) :
    scr m c t.val t.isLt = scr m c (t.val - 1) (by have := t.isLt; omega) := by
  obtain ⟨n, hn⟩ := t
  cases n with
  | zero => exact absurd rfl h
  | succ n => exact dif_neg h

/-- The scratch before a point that is not the first. -/
abbrev scrBefore (c : Dev nD) (t : Fin cfg0.N) : Vec F S512x2048 .bf16 := scr m c (t.val - 1) (by have := t.isLt; omega)

/-- The projection's block after point `t`. -/
def after6 (c : Dev nD) (t : Fin cfg0.N) : Vec F S512x512 .bf16 :=
  if h0 : t.val % 6 = 0 then outA6 m c t h0
  else if h1 : t.val % 6 ≤ 4 then outB6 m c t h0 h1 (scrBefore m c t)
  else outC6 m c t (by omega) (scrBefore m c t)

/-- The values' block after point `t`; only a row block's last point stores it. -/
def after7 (c : Dev nD) (t : Fin cfg0.N) : Vec F S512x1024 .bf16 :=
  if h : t.val % 6 = 5 then outC7 m c t h (scrBefore m c t) else VO0_7.read (Elt F) VO0_7.junk

/-- The transposed values' block after point `t`; only a row block's last point stores it. -/
def after8 (c : Dev nD) (t : Fin cfg0.N) : Vec F S1x4x144x512 .bf16 :=
  if h : t.val % 6 = 5 then outC8 m c t h (scrBefore m c t) else VO0_8.read (Elt F) VO0_8.junk

theorem after6_A (c : Dev nD) (t : Fin cfg0.N) (h : t.val % 6 = 0) : after6 m c t = outA6 m c t h := dif_pos h
theorem after6_B (c : Dev nD) (t : Fin cfg0.N) (h0 : ¬t.val % 6 = 0) (h1 : t.val % 6 ≤ 4) :
    after6 m c t = outB6 m c t h0 h1 (scrBefore m c t) := (dif_neg h0).trans (dif_pos h1)
theorem after6_C (c : Dev nD) (t : Fin cfg0.N) (h : t.val % 6 = 5) :
    after6 m c t = outC6 m c t h (scrBefore m c t) := (dif_neg (by omega)).trans (dif_neg (by omega))
theorem after7_C (c : Dev nD) (t : Fin cfg0.N) (h : t.val % 6 = 5) :
    after7 m c t = outC7 m c t h (scrBefore m c t) := dif_pos h
theorem after8_C (c : Dev nD) (t : Fin cfg0.N) (h : t.val % 6 = 5) :
    after8 m c t = outC8 m c t h (scrBefore m c t) := dif_pos h

/-- The invariant before position `n`: at the launch the scratch at anything, afterwards at what the point before left. -/
def PhiS (c : Dev nD) : (n : ℕ) → n ≤ cfg0.N → sProp 𝕄
  | 0, _ => Pipeline.ΦA spec0 c
  | n + 1, hn => iprop(iprop(owns (c : Thread nD τ) scM0_0 fullShare (scr m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (scr m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (scr m c (n - 1) (by omega))) ∗ (∃ r, prngReg c r)) := by
  cases n with
  | zero => exact absurd rfl hz
  | succ n => rfl

/-! ## The proof data -/

/-- The proof data: the arrays as the region finds them, each input's buffer at its block, each output's at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => after6 m c t
    | ⟨7, _⟩ => after7 m c t
    | ⟨8, _⟩ => after8 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = after6 m c t := by dsimp only [dats]
theorem after0_7 (c : Dev nD) (t : Fin cfg0.N) : (dats m 0 c).after 7 t = after7 m c t := by dsimp only [dats]
theorem after0_8 (c : Dev nD) (t : Fin cfg0.N) : (dats m 0 c).after 8 t = after8 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body at any point: the closed forms of the conditions say which of the three cases the point is in, and that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.succ = PhiS m c (t.val + 1) t.isLt from rfl, PhiS_succ]
  have hN : t.val < 96 := lt_of_lt_of_eq t.isLt (show cfg0.N = 96 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h : t.val % 6 = 0
  · by_cases hz : t.val = 0
    · rw [show (dats m 0 c).leavesExact 6 t = owns (c : Thread nD τ) (ms0_6 t) fullShare ((dats m 0 c).after 6 t) from by
        unfold Dat.leavesExact; rw [liveAt0_6_A t ((hcond0_0 t).mpr h) ((hcond0_1 t).mpr (by omega)) (fun k => absurd ((hcond0_2 t).mp k) (by omega))], after0_6]
      rw [Dat.leavesExact_idle (dats m 0 c) 7 t (idleAt0_7_A t ((hcond0_0 t).mpr h) ((hcond0_1 t).mpr (by omega)) (fun k => absurd ((hcond0_2 t).mp k) (by omega))) (noFlush0_7_A t ((hcond0_0 t).mpr h) ((hcond0_1 t).mpr (by omega)) (fun k => absurd ((hcond0_2 t).mp k) (by omega)))]
      rw [Dat.leavesExact_idle (dats m 0 c) 8 t (idleAt0_8_A t ((hcond0_0 t).mpr h) ((hcond0_1 t).mpr (by omega)) (fun k => absurd ((hcond0_2 t).mp k) (by omega))) (noFlush0_8_A t ((hcond0_0 t).mpr h) ((hcond0_1 t).mpr (by omega)) (fun k => absurd ((hcond0_2 t).mp k) (by omega)))]
      rw [PhiS_castSucc m c t, PhiS_zero m c _ _ hz, PhiA0_eq]
      rw [after6_A m c t h, scr_A m c t h]
      unfold outA6 outAS
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runA (F := F) m c t h).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      iintro ⟨H0, H1, H2, H3, H4, H5, ⟨%e6, H6⟩, H7, H8, ⟨%es0, HS0⟩⟩
      isplitl [HS0 Hg]
      · isplitl [HS0]
        · unfold owns; iexists _; isplitr
          swap; · iexact HS0
          ipureintro; exact View.read_writes_of_cover _ _ _ _ _ (coverAS m c t h)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverA6 m c t h)
      isplitl [H7]; · iexists _; iexact H7
      iexists _; iexact H8
    · rw [show (dats m 0 c).leavesExact 6 t = owns (c : Thread nD τ) (ms0_6 t) fullShare ((dats m 0 c).after 6 t) from by
        unfold Dat.leavesExact; rw [liveAt0_6_A t ((hcond0_0 t).mpr h) ((hcond0_1 t).mpr (by omega)) (fun k => absurd ((hcond0_2 t).mp k) (by omega))], after0_6]
      rw [Dat.leavesExact_idle (dats m 0 c) 7 t (idleAt0_7_A t ((hcond0_0 t).mpr h) ((hcond0_1 t).mpr (by omega)) (fun k => absurd ((hcond0_2 t).mp k) (by omega))) (noFlush0_7_A t ((hcond0_0 t).mpr h) ((hcond0_1 t).mpr (by omega)) (fun k => absurd ((hcond0_2 t).mp k) (by omega)))]
      rw [Dat.leavesExact_idle (dats m 0 c) 8 t (idleAt0_8_A t ((hcond0_0 t).mpr h) ((hcond0_1 t).mpr (by omega)) (fun k => absurd ((hcond0_2 t).mp k) (by omega))) (noFlush0_8_A t ((hcond0_0 t).mpr h) ((hcond0_1 t).mpr (by omega)) (fun k => absurd ((hcond0_2 t).mp k) (by omega)))]
      rw [PhiS_castSucc m c t, PhiS_pos m c _ _ hz]
      rw [after6_A m c t h, scr_A m c t h]
      unfold outA6 outAS
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runA (F := F) m c t h).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexists _; iexact HS0
      iintro ⟨H0, H1, H2, H3, H4, H5, ⟨%e6, H6⟩, H7, H8, ⟨%es0, HS0⟩⟩
      isplitl [HS0 Hg]
      · isplitl [HS0]
        · unfold owns; iexists _; isplitr
          swap; · iexact HS0
          ipureintro; exact View.read_writes_of_cover _ _ _ _ _ (coverAS m c t h)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverA6 m c t h)
      isplitl [H7]; · iexists _; iexact H7
      iexists _; iexact H8
  · by_cases h1 : t.val % 6 ≤ 4
    · have h0 := h; clear h
      rw [show (dats m 0 c).leavesExact 6 t = owns (c : Thread nD τ) (ms0_6 t) fullShare ((dats m 0 c).after 6 t) from by
        unfold Dat.leavesExact; rw [liveAt0_6_B t (fun k => h0 ((hcond0_0 t).mp k)) ((hcond0_1 t).mpr h1) (fun k => absurd ((hcond0_2 t).mp k) (by omega))], after0_6]
      rw [Dat.leavesExact_idle (dats m 0 c) 7 t (idleAt0_7_B t (fun k => h0 ((hcond0_0 t).mp k)) ((hcond0_1 t).mpr h1) (fun k => absurd ((hcond0_2 t).mp k) (by omega))) (noFlush0_7_B t (fun k => h0 ((hcond0_0 t).mp k)) ((hcond0_1 t).mpr h1) (fun k => absurd ((hcond0_2 t).mp k) (by omega)))]
      rw [Dat.leavesExact_idle (dats m 0 c) 8 t (idleAt0_8_B t (fun k => h0 ((hcond0_0 t).mp k)) ((hcond0_1 t).mpr h1) (fun k => absurd ((hcond0_2 t).mp k) (by omega))) (noFlush0_8_B t (fun k => h0 ((hcond0_0 t).mp k)) ((hcond0_1 t).mpr h1) (fun k => absurd ((hcond0_2 t).mp k) (by omega)))]
      rw [PhiS_castSucc m c t, PhiS_pos m c _ _ (by omega)]
      rw [after6_B m c t h0 h1, scr_keep m c t h0]
      unfold outB6
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runB (F := F) m c t h0 h1 (scrBefore m c t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      iintro ⟨H0, H1, H2, H3, H4, H5, ⟨%e6, H6⟩, H7, H8, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverB6 m c t h0 h1 (scrBefore m c t))
      isplitl [H7]; · iexists _; iexact H7
      iexists _; iexact H8
    · replace h : t.val % 6 = 5 := by omega
      rw [show (dats m 0 c).leavesExact 6 t = owns (c : Thread nD τ) (ms0_6 t) fullShare ((dats m 0 c).after 6 t) from by
        unfold Dat.leavesExact; rw [liveAt0_6_C t (fun k => absurd ((hcond0_0 t).mp k) (by omega)) (fun k => absurd ((hcond0_1 t).mp k) (by omega)) ((hcond0_2 t).mpr h)], after0_6]
      rw [show (dats m 0 c).leavesExact 7 t = owns (c : Thread nD τ) (ms0_7 t) fullShare ((dats m 0 c).after 7 t) from by
        unfold Dat.leavesExact; rw [liveAt0_7_C t (fun k => absurd ((hcond0_0 t).mp k) (by omega)) (fun k => absurd ((hcond0_1 t).mp k) (by omega)) ((hcond0_2 t).mpr h)], after0_7]
      rw [show (dats m 0 c).leavesExact 8 t = owns (c : Thread nD τ) (ms0_8 t) fullShare ((dats m 0 c).after 8 t) from by
        unfold Dat.leavesExact; rw [liveAt0_8_C t (fun k => absurd ((hcond0_0 t).mp k) (by omega)) (fun k => absurd ((hcond0_1 t).mp k) (by omega)) ((hcond0_2 t).mpr h)], after0_8]
      rw [PhiS_castSucc m c t, PhiS_pos m c _ _ (by omega)]
      rw [after6_C m c t h, after7_C m c t h, after8_C m c t h, scr_keep m c t (by omega)]
      unfold outC6 outC7 outC8
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runC (F := F) m c t h (scrBefore m c t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      iintro ⟨H0, H1, H2, H3, H4, H5, ⟨%e6, H6⟩, ⟨%e7, H7⟩, ⟨%e8, H8⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverC6 m c t h (scrBefore m c t))
      isplitl [H7]
      · unfold owns; iexists _; isplitr
        swap; · iexact H7
        ipureintro; exact View.read_writes_of_cover _ _ _ _ _ (coverC7 m c t h (scrBefore m c t))
      unfold owns; iexists _; isplitr
      swap; · iexact H8
      ipureintro; exact View.read_writes_of_cover _ _ _ _ _ (coverC8 m c t h (scrBefore m c t))

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch's contents are forgotten. -/
theorem hout (c : Dev nD) : (dats m 0 c).Φ (Fin.last cfg0.N) ⊢ Pipeline.ΦA spec0 c := by
  have hl : (Fin.last cfg0.N).val ≠ 0 := by rw [Fin.val_last]; have : cfg0.N = 96 := N_0; omega
  rw [show (dats m 0 c).Φ (Fin.last cfg0.N) = PhiS m c (Fin.last cfg0.N).val (Nat.le_of_lt_succ (Fin.last cfg0.N).isLt) from rfl,
    PhiS_pos m c _ _ hl, PhiA0_eq]
  iintro ⟨HS0, Hg⟩
  isplitl [HS0]
  · iexists _; iexact HS0
  iexact Hg

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Kernel5Ideal`'s statement (Defs.lean) at any `F` -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel5Ideal.Gen

end
-- ==== Proof.QkvPayloads.lean ====
/- The arithmetic of the queries', keys' and values' projection read at one element: the normalised rows, the projection, and a head's
   normalisation and rotation. -/
module

public import proofs.«01_k».proof.Proof.QkvFrame
public import Idealize.ShloMosaic.Lib.Pipeline.ValueKit
public import Idealize.ShloMosaic.Lib.Pipeline.ReadBack
public import Idealize.ShloMosaic.Lib.Pointwise

@[expose] public section

set_option maxRecDepth 16384
noncomputable section

open Idealize.ShloMosaic Idealize.ShloMosaic.TcCoe Idealize.SL.Sem
open Idealize.ShloMosaic.Pipeline (Dat)

namespace Cert.Kernel5Ideal.RefValue

open Cert.Kernel5Ideal Cert.Kernel5Ideal.Gen

/-- One entry of a row divided by the root of its mean square, times the gain. -/
def nrm (xr gr : Fin 2048 → EReal) (d : Fin 2048) : EReal :=
  xr d * Ideal.rsqrt (Ideal.div (∑ e : Fin 2048, xr e * xr e) (Ideal.ofBits .f32 0x45000000#32) + Ideal.ofBits .f32 0x358637BD#32) * gr d

/-- The sum of a head's squares as the kernel takes it: the squares' leading parts and what is left of them. -/
def sqs (u : Fin 128 → EReal) : EReal :=
  (∑ e : Fin 128, u e * u e * Ideal.ofBits .bf16 0x3F80#16) + ∑ e : Fin 128, (u e * u e - u e * u e) * Ideal.ofBits .bf16 0x3F80#16

/-- One entry of a head divided by the root of its mean square, times the gain. -/
def hnrm (u g : Fin 128 → EReal) (e : Fin 128) : EReal :=
  u e * Ideal.rsqrt (sqs u * Ideal.ofBits .f32 0x3C000000#32 + Ideal.ofBits .f32 0x358637BD#32) * g e

/-- The entry half a head away. -/
def opp (e : Fin 128) : Fin 128 := ⟨(e.val + 128 - 64) % 128, Nat.mod_lt _ (by decide)⟩

/-- One entry of a normalised head, turned. -/
def hrot (u g k s : Fin 128 → EReal) (e : Fin 128) : EReal := hnrm u g e * k e + hnrm u g (opp e) * s e

theorem pay1_apply (x : Vec Ideal S512x2048 .f32) (g : Vec Ideal S1x2048 .f32) (r : Fin 512) (d : Fin 2048) :
    k0_pay1 x g (ix2 r d) = nrm (fun e => x (ix2 r e)) (fun e => g (ix2 (0 : Fin 1) e)) d := by
  unfold k0_pay1 nrm
  pointwise

theorem pay2_apply (h : Vec Ideal S512x2048 .bf16) (w : Vec Ideal S2048x512 .bf16) (r o : Fin 512) :
    k0_pay2 h w (ix2 r o) = ∑ d : Fin 2048, h (ix2 r d) * w (ix2 d o) := by
  unfold k0_pay2
  pointwise

theorem pay8_apply (u : FVec Ideal S512x512 .f32) (g : Vec Ideal S1x1x128 .f32) (k s : Vec Ideal S512x128 .f32) (r : Fin 512) (e : Fin 128) :
    k0_pay8 u g k s (ix2 r e) = hrot (fun z => u (ix2 r (⟨z.val, lt_trans z.isLt (by decide)⟩ : Fin 512))) (fun z => g (ix3 (0 : Fin 1) (0 : Fin 1) z))
      (fun z => k (ix2 r z)) (fun z => s (ix2 r z)) e := by
  unfold k0_pay8 k0_pay7 k0_pay6 k0_pay5 k0_pay4 hrot hnrm sqs opp
  pointwise

theorem pay11_apply (u : FVec Ideal S512x512 .f32) (g : Vec Ideal S1x1x128 .f32) (k s : Vec Ideal S512x128 .f32) (r : Fin 512) (e : Fin 128) :
    k0_pay11 (k0_pay4 g) (k0_pay5 k) (k0_pay6 s) (k0_pay9 u) (k0_pay10 u) (ix2 r e)
      = hrot (fun z => u (ix2 r (⟨128 + z.val, lt_trans (Nat.add_lt_add_left z.isLt 128) (by decide)⟩ : Fin 512))) (fun z => g (ix3 (0 : Fin 1) (0 : Fin 1) z))
      (fun z => k (ix2 r z)) (fun z => s (ix2 r z)) e := by
  unfold k0_pay11 k0_pay10 k0_pay9 k0_pay7 k0_pay6 k0_pay5 k0_pay4 hrot hnrm sqs opp
  pointwise

theorem pay12_apply (u : FVec Ideal S512x512 .f32) (g : Vec Ideal S1x1x128 .f32) (k s : Vec Ideal S512x128 .f32) (r : Fin 512) (e : Fin 128) :
    k0_pay12 u (k0_pay4 g) (k0_pay5 k) (k0_pay6 s) k0_pay7 (ix2 r e)
      = hrot (fun z => u (ix2 r (⟨256 + z.val, lt_trans (Nat.add_lt_add_left z.isLt 256) (by decide)⟩ : Fin 512))) (fun z => g (ix3 (0 : Fin 1) (0 : Fin 1) z))
      (fun z => k (ix2 r z)) (fun z => s (ix2 r z)) e := by
  unfold k0_pay12 k0_pay7 k0_pay6 k0_pay5 k0_pay4 hrot hnrm sqs opp
  pointwise

theorem pay3_apply (u : FVec Ideal S512x512 .f32) (g : Vec Ideal S1x1x128 .f32) (k s : Vec Ideal S512x128 .f32) (r : Fin 512) (e : Fin 128) :
    k0_pay3 (k0_pay4 g) (k0_pay5 k) (k0_pay6 s) (k0_pay13 u) (k0_pay14 u k0_pay7) (Scalar.ofBits .f32 0x3C000000#32) (ix2 r e)
      = hrot (fun z => u (ix2 r (⟨384 + z.val, Nat.add_lt_add_left z.isLt 384⟩ : Fin 512))) (fun z => g (ix3 (0 : Fin 1) (0 : Fin 1) z))
      (fun z => k (ix2 r z)) (fun z => s (ix2 r z)) e := by
  unfold k0_pay3 k0_pay14 k0_pay13 k0_pay7 k0_pay6 k0_pay5 k0_pay4 hrot hnrm sqs opp
  pointwise

theorem pay15_apply (u : FVec Ideal S512x512 .f32) (r o : Fin 512) : k0_pay15 u (ix2 r o) = u (ix2 r o) := by
  unfold k0_pay15
  pointwise

theorem pay19_apply (u : FVec Ideal S512x512 .f32) (r : Fin 512) (e : Fin 128) :
    k0_pay19 u (ix2 r e) = u (ix2 r (⟨e.val, lt_trans e.isLt (by decide)⟩ : Fin 512)) := by
  unfold k0_pay19 k0_pay18
  pointwise

theorem pay23_apply (u : FVec Ideal S512x512 .f32) (r : Fin 512) (e : Fin 128) :
    k0_pay23 u (ix2 r e) = u (ix2 r (⟨128 + e.val, lt_trans (Nat.add_lt_add_left e.isLt 128) (by decide)⟩ : Fin 512)) := by
  unfold k0_pay23 k0_pay22
  pointwise

theorem pay27_apply (u : FVec Ideal S512x512 .f32) (r : Fin 512) (e : Fin 128) :
    k0_pay27 u (ix2 r e) = u (ix2 r (⟨256 + e.val, lt_trans (Nat.add_lt_add_left e.isLt 256) (by decide)⟩ : Fin 512)) := by
  unfold k0_pay27 k0_pay26
  pointwise

theorem pay31_apply (u : FVec Ideal S512x512 .f32) (r : Fin 512) (e : Fin 128) :
    k0_pay31 u (ix2 r e) = u (ix2 r (⟨384 + e.val, Nat.add_lt_add_left e.isLt 384⟩ : Fin 512)) := by
  unfold k0_pay31 k0_pay30
  pointwise

theorem pay16_apply (r : Fin 512) (e : Fin 128) : (k0_pay16 (F := Ideal)) (ix2 r e) = Ideal.ofBits .bf16 0x3F80#16 := by
  unfold k0_pay16
  pointwise

theorem pay20_apply (u : FVec Ideal S512x512 .f32) (r : Fin 512) (e : Fin 128) :
    k0_pay20 u (ix4 (0 : Fin 1) (0 : Fin 1) e r) = u (ix2 r (⟨e.val, lt_trans e.isLt (by decide)⟩ : Fin 512)) := by
  unfold k0_pay20 k0_pay18
  pointwise

theorem pay24_apply (u : FVec Ideal S512x512 .f32) (r : Fin 512) (e : Fin 128) :
    k0_pay24 u (ix4 (0 : Fin 1) (0 : Fin 1) e r) = u (ix2 r (⟨128 + e.val, lt_trans (Nat.add_lt_add_left e.isLt 128) (by decide)⟩ : Fin 512)) := by
  unfold k0_pay24 k0_pay22
  pointwise

theorem pay28_apply (u : FVec Ideal S512x512 .f32) (r : Fin 512) (e : Fin 128) :
    k0_pay28 u (ix4 (0 : Fin 1) (0 : Fin 1) e r) = u (ix2 r (⟨256 + e.val, lt_trans (Nat.add_lt_add_left e.isLt 256) (by decide)⟩ : Fin 512)) := by
  unfold k0_pay28 k0_pay26
  pointwise

theorem pay32_apply (u : FVec Ideal S512x512 .f32) (r : Fin 512) (e : Fin 128) :
    k0_pay32 u (ix4 (0 : Fin 1) (0 : Fin 1) e r) = u (ix2 r (⟨384 + e.val, Nat.add_lt_add_left e.isLt 384⟩ : Fin 512)) := by
  unfold k0_pay32 k0_pay30
  pointwise

theorem pay21_apply (i : S1x1x16x512.Idx) : (k0_pay21 (F := Ideal)) i = Ideal.ofBits .bf16 0x3F80#16 := rfl

end Cert.Kernel5Ideal.RefValue

end
-- ==== Proof.QkvBlock.lean ====
/- What one grid point of the projection leaves: the normalised rows in the scratch, and the output blocks from the scratch. -/
module

public import proofs.«01_k».proof.Proof.QkvPayloads

@[expose] public section

set_option maxRecDepth 16384
noncomputable section

open Idealize.ShloMosaic Idealize.ShloMosaic.TcCoe Idealize.ShloMosaic.Tactic Idealize.SL.Sem
open Idealize.ShloMosaic.Pipeline (Dat)

namespace Cert.Kernel5Ideal.RefValue

open Cert.Kernel5Ideal Cert.Kernel5Ideal.Gen

/-- Four heads side by side, each normalised and turned. -/
def HEADS (u : FVec Ideal S512x512 .f32) (g : Vec Ideal S1x1x128 .f32) (k s : Vec Ideal S512x128 .f32) : Vec Ideal S512x512 .bf16 := fun y =>
  hrot (fun z => u (ix2 (y 0) (⟨128 * ((y 1).val / 128) + z.val, by have : (y 1).val < 512 := (y 1).isLt; have := z.isLt; omega⟩ : Fin 512)))
    (fun z => g (ix3 (0 : Fin 1) (0 : Fin 1) z)) (fun z => k (ix2 (y 0) z)) (fun z => s (ix2 (y 0) z)) ⟨(y 1).val % 128, Nat.mod_lt _ (by decide)⟩

/-- Four heads of values, each with a head of ones after it. -/
def VAS (u : FVec Ideal S512x512 .f32) : Vec Ideal S512x1024 .bf16 := fun y =>
  if h : (y 1).val % 256 < 128 then u (ix2 (y 0) (⟨128 * ((y 1).val / 256) + (y 1).val % 256, by have : (y 1).val < 1024 := (y 1).isLt; omega⟩ : Fin 512)) else (1 : EReal)

/-- Four heads of values transposed, each with sixteen rows of ones after it. -/
def VTS (u : FVec Ideal S512x512 .f32) : Vec Ideal S1x4x144x512 .bf16 := fun y =>
  if h : (y 2).val < 128 then u (ix2 (y 3) (⟨128 * (y 1).val + (y 2).val, by have : (y 1).val < 4 := (y 1).isLt; omega⟩ : Fin 512)) else (1 : EReal)

theorem HEADS_at (u : FVec Ideal S512x512 .f32) (g : Vec Ideal S1x1x128 .f32) (k s : Vec Ideal S512x128 .f32) (y : S512x512.Idx) (r : Fin 512) (e : Fin 128)
    (a : ℕ) (f : Fin 128 → Fin 512) (hf : ∀ z, (f z).val = 128 * a + z.val) (h0 : (y 0).val = r.val) (h1 : (y 1).val = 128 * a + e.val) :
    hrot (fun z => u (ix2 r (f z))) (fun z => g (ix3 (0 : Fin 1) (0 : Fin 1) z)) (fun z => k (ix2 r z)) (fun z => s (ix2 r z)) e = HEADS u g k s y := by
  have he := e.isLt
  obtain rfl : r = y 0 := Fin.ext h0.symm
  unfold HEADS
  have hz : (fun z => u (ix2 (y 0) (f z)))
      = fun z => u (ix2 (y 0) (⟨128 * ((y 1).val / 128) + z.val, by have : (y 1).val < 512 := (y 1).isLt; have := z.isLt; omega⟩ : Fin 512)) := by
    funext z
    refine congrArg (fun q => u (ix2 (y 0) q)) (Fin.ext ?_)
    rw [hf]
    show 128 * a + z.val = 128 * ((y 1).val / 128) + z.val
    omega
  have hee : e = ⟨(y 1).val % 128, Nat.mod_lt _ (by decide)⟩ := Fin.ext (by show e.val = (y 1).val % 128; omega)
  rw [hz]
  exact congrArg (hrot _ _ _ _) hee

/-- The four stores of turned heads, read as one array. -/
theorem canon_heads (u : FVec Ideal S512x512 .f32) (g : Vec Ideal S1x1x128 .f32) (k s : Vec Ideal S512x128 .f32) (y : S512x512.Idx) :
    View.canon [⟨Rect.unit (s := S512x512) ![0, 384] ![512, 128] inb_S512x512_S512x128_0_384,
        k0_pay3 (k0_pay4 g) (k0_pay5 k) (k0_pay6 s) (k0_pay13 u) (k0_pay14 u k0_pay7) (Scalar.ofBits .f32 0x3C000000#32)⟩,
      ⟨Rect.unit (s := S512x512) ![0, 256] ![512, 128] inb_S512x512_S512x128_0_256, k0_pay12 u (k0_pay4 g) (k0_pay5 k) (k0_pay6 s) k0_pay7⟩,
      ⟨Rect.unit (s := S512x512) ![0, 128] ![512, 128] inb_S512x512_S512x128_0_128, k0_pay11 (k0_pay4 g) (k0_pay5 k) (k0_pay6 s) (k0_pay9 u) (k0_pay10 u)⟩,
      ⟨Rect.unit (s := S512x512) ![0, 0] ![512, 128] inb_S512x512_S512x128_0_0, k0_pay8 u g k s⟩] y = HEADS u g k s y := by
  canon_tiles x h using (View.cover_of_tiledBy _ ![512, 128] (by sl_kernel_rfl) y)
  · obtain ⟨r, d, rfl⟩ : ∃ (r : Fin 512) (d : Fin 128), x = ix2 r d := ⟨x 0, x 1, by funext z; match z with | ⟨0, _⟩ => rfl | ⟨1, _⟩ => rfl⟩
    exact (pay3_apply _ _ _ _ r d).trans (HEADS_at u g k s y r d 3 _ (fun z => rfl) h0 h1)
  · obtain ⟨r, d, rfl⟩ : ∃ (r : Fin 512) (d : Fin 128), x = ix2 r d := ⟨x 0, x 1, by funext z; match z with | ⟨0, _⟩ => rfl | ⟨1, _⟩ => rfl⟩
    exact (pay12_apply _ _ _ _ r d).trans (HEADS_at u g k s y r d 2 _ (fun z => rfl) h0 h1)
  · obtain ⟨r, d, rfl⟩ : ∃ (r : Fin 512) (d : Fin 128), x = ix2 r d := ⟨x 0, x 1, by funext z; match z with | ⟨0, _⟩ => rfl | ⟨1, _⟩ => rfl⟩
    exact (pay11_apply _ _ _ _ r d).trans (HEADS_at u g k s y r d 1 _ (fun z => rfl) h0 h1)
  · obtain ⟨r, d, rfl⟩ : ∃ (r : Fin 512) (d : Fin 128), x = ix2 r d := ⟨x 0, x 1, by funext z; match z with | ⟨0, _⟩ => rfl | ⟨1, _⟩ => rfl⟩
    exact (pay8_apply _ _ _ _ r d).trans (HEADS_at u g k s y r d 0 _ (fun z => (Nat.zero_add z.val).symm) h0 (h1.trans (Nat.zero_add d.val).symm))

theorem VAS_at (u : FVec Ideal S512x512 .f32) (y : S512x1024.Idx) (r q : Fin 512) (e : Fin 128) (a : ℕ) (h0 : (y 0).val = r.val) (h1 : (y 1).val = 256 * a + e.val)
    (hq : q.val = 128 * a + e.val) : u (ix2 r q) = VAS u y := by
  have he := e.isLt
  obtain rfl : r = y 0 := Fin.ext h0.symm
  unfold VAS
  rw [dif_pos (by omega)]
  refine congrArg (fun q => u (ix2 (y 0) q)) (Fin.ext ?_)
  show q.val = 128 * ((y 1).val / 256) + (y 1).val % 256
  omega

theorem VAS_one (u : FVec Ideal S512x512 .f32) (y : S512x1024.Idx) (e : Fin 128) (a : ℕ) (h1 : (y 1).val = 256 * a + 128 + e.val) : (1 : EReal) = VAS u y := by
  have he := e.isLt
  unfold VAS
  rw [dif_neg (by omega)]

theorem pay16_one (r : Fin 512) (e : Fin 128) : (k0_pay16 (F := Ideal)) (ix2 r e) = (1 : EReal) := by
  unfold k0_pay16
  pointwise

/-- The eight stores of values and ones, read as one array. -/
theorem canon_vas (u : FVec Ideal S512x512 .f32) (y : S512x1024.Idx) :
    View.canon [⟨Rect.unit (s := S512x1024) ![0, 896] ![512, 128] inb_S512x1024_S512x128_0_896, k0_pay16 (F := Ideal)⟩,
      ⟨Rect.unit (s := S512x1024) ![0, 768] ![512, 128] inb_S512x1024_S512x128_0_768, k0_pay31 u⟩,
      ⟨Rect.unit (s := S512x1024) ![0, 640] ![512, 128] inb_S512x1024_S512x128_0_640, k0_pay16 (F := Ideal)⟩,
      ⟨Rect.unit (s := S512x1024) ![0, 512] ![512, 128] inb_S512x1024_S512x128_0_512, k0_pay27 u⟩,
      ⟨Rect.unit (s := S512x1024) ![0, 384] ![512, 128] inb_S512x1024_S512x128_0_384, k0_pay16 (F := Ideal)⟩,
      ⟨Rect.unit (s := S512x1024) ![0, 256] ![512, 128] inb_S512x1024_S512x128_0_256, k0_pay23 u⟩,
      ⟨Rect.unit (s := S512x1024) ![0, 128] ![512, 128] inb_S512x1024_S512x128_0_128, k0_pay16 (F := Ideal)⟩,
      ⟨Rect.unit (s := S512x1024) ![0, 0] ![512, 128] inb_S512x1024_S512x128_0_0, k0_pay19 u⟩] y = VAS u y := by
  canon_tiles x h using (View.cover_of_tiledBy _ ![512, 128] (by sl_kernel_rfl) y)
  all_goals obtain ⟨r, d, rfl⟩ : ∃ (r : Fin 512) (d : Fin 128), x = ix2 r d := ⟨x 0, x 1, by funext z; match z with | ⟨0, _⟩ => rfl | ⟨1, _⟩ => rfl⟩
  · exact (pay16_one r d).trans (VAS_one u y d 3 h1)
  · exact (pay31_apply _ r d).trans (VAS_at u y r _ d 3 h0 h1 rfl)
  · exact (pay16_one r d).trans (VAS_one u y d 2 h1)
  · exact (pay27_apply _ r d).trans (VAS_at u y r _ d 2 h0 h1 rfl)
  · exact (pay16_one r d).trans (VAS_one u y d 1 h1)
  · exact (pay23_apply _ r d).trans (VAS_at u y r _ d 1 h0 h1 rfl)
  · exact (pay16_one r d).trans (VAS_one u y d 0 h1)
  · exact (pay19_apply _ r d).trans (VAS_at u y r _ d 0 h0 (h1.trans (Nat.zero_add d.val).symm) (Nat.zero_add d.val).symm)

theorem VTS_at (u : FVec Ideal S512x512 .f32) (y : S1x4x144x512.Idx) (r q : Fin 512) (e : Fin 128) (a : ℕ) (h1 : (y 1).val = a) (h2 : (y 2).val = e.val)
    (h3 : (y 3).val = r.val) (hq : q.val = 128 * a + e.val) : u (ix2 r q) = VTS u y := by
  have he := e.isLt
  obtain rfl : r = y 3 := Fin.ext h3.symm
  unfold VTS
  rw [dif_pos (by omega)]
  refine congrArg (fun q => u (ix2 (y 3) q)) (Fin.ext ?_)
  show q.val = 128 * (y 1).val + (y 2).val
  omega

theorem VTS_one (u : FVec Ideal S512x512 .f32) (y : S1x4x144x512.Idx) (e : Fin 16) (h2 : (y 2).val = 128 + e.val) : (1 : EReal) = VTS u y := by
  unfold VTS
  rw [dif_neg (by omega)]

theorem pay21_one (i : S1x1x16x512.Idx) : (k0_pay21 (F := Ideal)) i = (1 : EReal) := pay16_one 0 0

/-- The eight stores of transposed values and ones, read as one array. -/
theorem canon_vts (u : FVec Ideal S512x512 .f32) (y : S1x4x144x512.Idx) :
    View.canon [⟨Rect.unit (s := S1x4x144x512) ![0, 3, 128, 0] ![1, 1, 16, 512] inb_S1x4x144x512_S1x1x16x512_0_3_128_0, k0_pay33 (k0_pay17 (F := Ideal))⟩,
      ⟨Rect.unit (s := S1x4x144x512) ![0, 3, 0, 0] ![1, 1, 128, 512] inb_S1x4x144x512_S1x1x128x512_0_3_0_0, k0_pay32 u⟩,
      ⟨Rect.unit (s := S1x4x144x512) ![0, 2, 128, 0] ![1, 1, 16, 512] inb_S1x4x144x512_S1x1x16x512_0_2_128_0, k0_pay29 (k0_pay17 (F := Ideal))⟩,
      ⟨Rect.unit (s := S1x4x144x512) ![0, 2, 0, 0] ![1, 1, 128, 512] inb_S1x4x144x512_S1x1x128x512_0_2_0_0, k0_pay28 u⟩,
      ⟨Rect.unit (s := S1x4x144x512) ![0, 1, 128, 0] ![1, 1, 16, 512] inb_S1x4x144x512_S1x1x16x512_0_1_128_0, k0_pay25 (k0_pay17 (F := Ideal))⟩,
      ⟨Rect.unit (s := S1x4x144x512) ![0, 1, 0, 0] ![1, 1, 128, 512] inb_S1x4x144x512_S1x1x128x512_0_1_0_0, k0_pay24 u⟩,
      ⟨Rect.unit (s := S1x4x144x512) ![0, 0, 128, 0] ![1, 1, 16, 512] inb_S1x4x144x512_S1x1x16x512_0_0_128_0, k0_pay21 (F := Ideal)⟩,
      ⟨Rect.unit (s := S1x4x144x512) ![0, 0, 0, 0] ![1, 1, 128, 512] inb_S1x4x144x512_S1x1x128x512_0_0_0_0, k0_pay20 u⟩] y = VTS u y := by
  canon_tiles x h using (View.cover_of_tiledBy _ ![1, 1, 16, 512] (by sl_kernel_rfl) y)
  · exact (pay21_one _).trans (VTS_one u y (x 2) h2)
  · obtain ⟨d, r, rfl⟩ : ∃ (d : Fin 128) (r : Fin 512), x = ix4 (0 : Fin 1) (0 : Fin 1) d r := ⟨x 2, x 3, by funext z; match z with | ⟨0, _⟩ => exact Subsingleton.elim (α := Fin 1) _ _ | ⟨1, _⟩ => exact Subsingleton.elim (α := Fin 1) _ _ | ⟨2, _⟩ => rfl | ⟨3, _⟩ => rfl⟩
    exact (pay32_apply _ r d).trans (VTS_at u y r _ d 3 h1 h2 h3 rfl)
  · exact (pay21_one _).trans (VTS_one u y (x 2) h2)
  · obtain ⟨d, r, rfl⟩ : ∃ (d : Fin 128) (r : Fin 512), x = ix4 (0 : Fin 1) (0 : Fin 1) d r := ⟨x 2, x 3, by funext z; match z with | ⟨0, _⟩ => exact Subsingleton.elim (α := Fin 1) _ _ | ⟨1, _⟩ => exact Subsingleton.elim (α := Fin 1) _ _ | ⟨2, _⟩ => rfl | ⟨3, _⟩ => rfl⟩
    exact (pay28_apply _ r d).trans (VTS_at u y r _ d 2 h1 h2 h3 rfl)
  · exact (pay21_one _).trans (VTS_one u y (x 2) h2)
  · obtain ⟨d, r, rfl⟩ : ∃ (d : Fin 128) (r : Fin 512), x = ix4 (0 : Fin 1) (0 : Fin 1) d r := ⟨x 2, x 3, by funext z; match z with | ⟨0, _⟩ => exact Subsingleton.elim (α := Fin 1) _ _ | ⟨1, _⟩ => exact Subsingleton.elim (α := Fin 1) _ _ | ⟨2, _⟩ => rfl | ⟨3, _⟩ => rfl⟩
    exact (pay24_apply _ r d).trans (VTS_at u y r _ d 1 h1 h2 h3 rfl)
  · exact (pay21_one _).trans (VTS_one u y (x 2) h2)
  · obtain ⟨d, r, rfl⟩ : ∃ (d : Fin 128) (r : Fin 512), x = ix4 (0 : Fin 1) (0 : Fin 1) d r := ⟨x 2, x 3, by funext z; match z with | ⟨0, _⟩ => exact Subsingleton.elim (α := Fin 1) _ _ | ⟨1, _⟩ => exact Subsingleton.elim (α := Fin 1) _ _ | ⟨2, _⟩ => rfl | ⟨3, _⟩ => rfl⟩
    exact (pay20_apply _ r d).trans (VTS_at u y r _ d 0 h1 h2 h3 (Nat.zero_add d.val).symm)

variable (m : (ℓ : Loc nD τ sig) → Buf (Elt Ideal) ℓ)

/-- A whole scratch that holds `xs` reads as `xs`. -/
theorem scr_unread (H : (Memref.whole cc0_scratch0 : Memref sig .tc .vmem S512x2048 .bf16).IsWhole) (xs : Vec Ideal S512x2048 .bf16) :
    View.read (Elt Ideal) (View.whole cc0_scratch0) (H.unread xs) = xs := H.read_unread xs

theorem outAS_eq (c : Dev nD) (t : Fin cfg0.N) (h : t.val % 6 = 0) : outAS m c t h = k0_pay1 (iblk m c 0 t) (iblk m c 1 t) := by
  funext y
  unfold outAS
  frame_out
  unfold runA kernelRun0_A
  dsimp only
  frame_out

theorem outA6_eq (c : Dev nD) (t : Fin cfg0.N) (h : t.val % 6 = 0) :
    outA6 m c t h = HEADS (k0_pay2 (k0_pay1 (iblk m c 0 t) (iblk m c 1 t)) (iblk m c 2 t)) (iblk m c 3 t) (iblk m c 4 t) (iblk m c 5 t) := by
  funext y
  unfold outA6
  frame_out
  unfold runA kernelRun0_A
  dsimp only
  frame_out
  exact canon_heads _ _ _ _ y

theorem outB6_eq (c : Dev nD) (t : Fin cfg0.N) (h0 : ¬t.val % 6 = 0) (h1 : t.val % 6 ≤ 4) (xs : Vec Ideal S512x2048 .bf16) :
    outB6 m c t h0 h1 xs = HEADS (k0_pay2 xs (iblk m c 2 t)) (iblk m c 3 t) (iblk m c 4 t) (iblk m c 5 t) := by
  funext y
  unfold outB6
  frame_out
  unfold runB kernelRun0_B
  dsimp only
  frame_out
  rw [scr_unread]
  exact canon_heads _ _ _ _ y

theorem outC6_eq (c : Dev nD) (t : Fin cfg0.N) (h : t.val % 6 = 5) (xs : Vec Ideal S512x2048 .bf16) :
    outC6 m c t h xs = k0_pay15 (k0_pay2 xs (iblk m c 2 t)) := by
  funext y
  unfold outC6
  frame_out
  unfold runC kernelRun0_C
  dsimp only
  frame_out
  rw [scr_unread]

theorem outC7_eq (c : Dev nD) (t : Fin cfg0.N) (h : t.val % 6 = 5) (xs : Vec Ideal S512x2048 .bf16) :
    outC7 m c t h xs = VAS (k0_pay2 xs (iblk m c 2 t)) := by
  funext y
  unfold outC7
  frame_out
  unfold runC kernelRun0_C
  dsimp only
  frame_out
  rw [scr_unread]
  exact canon_vas _ y

theorem outC8_eq (c : Dev nD) (t : Fin cfg0.N) (h : t.val % 6 = 5) (xs : Vec Ideal S512x2048 .bf16) :
    outC8 m c t h xs = VTS (k0_pay2 xs (iblk m c 2 t)) := by
  funext y
  unfold outC8
  frame_out
  unfold runC kernelRun0_C
  dsimp only
  frame_out
  rw [scr_unread]
  exact canon_vts _ y

end Cert.Kernel5Ideal.RefValue

end
-- ==== Proof.QkvHost.lean ====
/- What the operations before the call leave in its arrays: the weights and gains with each head's pairs of entries separated, and the cosines and
   sines of the rotation's angles. -/
module

public import proofs.«01_k».proof.Proof.QkvPayloads
public import Idealize.ShloMosaic.Lib.KernelVsHost

@[expose] public section

set_option maxRecDepth 16384
noncomputable section

open Idealize.ShloMosaic Idealize.ShloMosaic.TcCoe Idealize.SL.Sem

namespace Cert.Kernel5Ideal.RefValue

open Cert.Kernel5Ideal Cert.Kernel5Ideal.Gen

/-- The weights with each query's and key's head's pairs separated. -/
def WQ (w : Vec Ideal S2048x3072 .bf16) : FVec Ideal S2048x3072 .bf16 :=
  concatenate S2048x3072 1 [⟨S2048x2560, shapeCast S2048x2560 (transpose S2048x20x2x64 [0, 1, 3, 2] (shapeCast S2048x20x64x2 (extractStridedSlice S2048x2560 ![0, 0] w slices_S2048x3072_S2048x2560_0_0) shapeCasts_S2048x2560_S2048x20x64x2) transposes_S2048x20x64x2_S2048x20x2x64_0_1_3_2) shapeCasts_S2048x20x2x64_S2048x2560⟩,
    ⟨S2048x512, extractStridedSlice S2048x512 ![0, 2560] w slices_S2048x3072_S2048x512_0_2560⟩] concatenates_S2048x2560_S2048x512_S2048x3072_d1

/-- A gain with its pairs separated. -/
def GD (g : Vec Ideal S128 .f32) : FVec Ideal S128 .f32 :=
  shapeCast S128 (transpose S1x2x64 [0, 2, 1] (shapeCast S1x64x2 g shapeCasts_S128_S1x64x2) transposes_S1x64x2_S1x2x64_0_2_1) shapeCasts_S1x2x64_S128

/-- The gains of the six groups of columns. -/
def GN (gq gk : Vec Ideal S128 .f32) : FVec Ideal S6x1x128 .f32 :=
  concatenate S6x1x128 0 [⟨S4x1x128, shapeCast S4x1x128 (broadcastInDim S4x1x1x1x1x128 ![0, 1, 2, 3, 4, 5] bcast_S1x1x1x1x1x128_S4x1x1x1x1x128_0_1_2_3_4_5 (shapeCast S1x1x1x1x1x128 (broadcastInDim S1x1x128 ![2] bcast_S128_S1x1x128_2 (mulf (GD gq) (broadcastInDim S128 ![] bcast_S_S128 (constant S_ .f32 0x3E0293EE#32)))) shapeCasts_S1x1x128_S1x1x1x1x1x128)) shapeCasts_S4x1x1x1x1x128_S4x1x128⟩,
    ⟨S1x1x128, broadcastInDim S1x1x128 ![2] bcast_S128_S1x1x128_2 (GD gk)⟩,
    ⟨S1x1x128, broadcastInDim S1x1x128 ![] bcast_S_S1x1x128 (constant (F := Ideal) S_ .f32 0x3F800000#32)⟩] concatenates_S4x1x128_S1x1x128_S1x1x128_S6x1x128_d0

/-- The frequencies. -/
def FRQ : FVec Ideal S32 .f32 :=
  Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32))))

/-- The angles of the 64 by 64 grid's positions. -/
def ANG : FVec Ideal S4096x64 .f32 :=
  concatenate S4096x64 1 [⟨S4096x32, mulf (broadcastInDim S4096x32 ![0, 1] bcast_S4096x1_S4096x32_0_1 (broadcastInDim S4096x1 ![0] bcast_S4096_S4096x1_0 (shapeCast S4096 (broadcastInDim S64x64 ![0] bcast_S64_S64x64_0 (sitofp .f32 (iotaInDim S64 32 0))) shapeCasts_S64x64_S4096))) (broadcastInDim S4096x32 ![0, 1] bcast_S1x32_S4096x32_0_1 (broadcastInDim S1x32 ![1] bcast_S32_S1x32_1 FRQ))⟩,
    ⟨S4096x32, mulf (broadcastInDim S4096x32 ![0, 1] bcast_S4096x1_S4096x32_0_1 (broadcastInDim S4096x1 ![0] bcast_S4096_S4096x1_0 (shapeCast S4096 (broadcastInDim S64x64 ![1] bcast_S64_S64x64_1 (sitofp .f32 (iotaInDim S64 32 0))) shapeCasts_S64x64_S4096))) (broadcastInDim S4096x32 ![0, 1] bcast_S1x32_S4096x32_0_1 (broadcastInDim S1x32 ![1] bcast_S32_S1x32_1 FRQ))⟩] concatenates_S4096x32_S4096x32_S4096x64_d1

/-- The cosines, twice. -/
def CC (a : FVec Ideal S4096x64 .f32) : FVec Ideal S4096x128 .f32 :=
  concatenate S4096x128 1 [⟨S4096x64, Host.cos a⟩, ⟨S4096x64, Host.cos a⟩] concatenates_S4096x64_S4096x64_S4096x128_d1

/-- The sines, first negated and then as they are. -/
def SS (a : FVec Ideal S4096x64 .f32) : FVec Ideal S4096x128 .f32 :=
  concatenate S4096x128 1 [⟨S4096x64, Host.negf (Host.sin a)⟩, ⟨S4096x64, Host.sin a⟩] concatenates_S4096x64_S4096x64_S4096x128_d1

variable (m : (ℓ : Loc nD τ sig) → Buf (Elt Ideal) ℓ)

theorem V_w (c : Dev nD) : V m c main_v5 = WQ (m ((c : Thread nD τ).loc main_arg2)) := by
  show StableHlo.after (hostOps0 (F := Ideal)) _ _ = _
  unfold hostOps0
  after_results_simp
  rfl

theorem V_g (c : Dev nD) : V m c main_v20 = GN (m ((c : Thread nD τ).loc main_arg3)) (m ((c : Thread nD τ).loc main_arg4)) := by
  show StableHlo.after (hostOps0 (F := Ideal)) _ _ = _
  unfold hostOps0
  after_results
  rfl

theorem V_c (c : Dev nD) : V m c main_v51 = CC ANG := by
  show StableHlo.after (hostOps0 (F := Ideal)) _ _ = _
  unfold hostOps0
  after_results_simp
  rfl

theorem V_s (c : Dev nD) : V m c main_v55 = SS ANG := by
  show StableHlo.after (hostOps0 (F := Ideal)) _ _ = _
  unfold hostOps0
  after_results_simp
  rfl

/-- Where a separated column of the weights comes from. -/
def src (o : Fin 3072) : Fin 3072 :=
  if o.val < 2560 then ⟨128 * (o.val / 128) + 2 * (o.val % 64) + o.val % 128 / 64, by have := o.isLt; omega⟩ else o

/-- Where a separated entry of a gain comes from. -/
def pr (e : Fin 128) : Fin 128 := ⟨2 * (e.val % 64) + e.val / 64, by have := e.isLt; omega⟩

theorem WQ_apply (w : Vec Ideal S2048x3072 .bf16) (d : Fin 2048) (o : Fin 3072) : WQ w (ix2 d o) = w (ix2 d (src o)) := by
  have ho := o.isLt
  unfold WQ src
  pointwise
  by_cases h : o.val < 2560
  · rw [dif_pos h, if_pos h]
    exact congrArg (fun q => w (ix2 d q)) (Fin.ext (by show o.val / 128 * 128 + o.val % 64 * 2 + o.val / 64 % 2 = 128 * (o.val / 128) + 2 * (o.val % 64) + o.val % 128 / 64; omega))
  · rw [dif_neg h, if_neg h]
    exact congrArg (fun q => w (ix2 d q)) (Fin.ext (by show 2560 + (o.val - 2560) = o.val; omega))

theorem GD_apply (g : Vec Ideal S128 .f32) (e : Fin 128) : GD g (ix1 e) = g (ix1 (pr e)) := by
  have he := e.isLt
  unfold GD pr
  pointwise
  exact congrArg (fun q => g (ix1 q)) (Fin.ext (by show e.val % 64 * 2 + e.val / 64 = 2 * (e.val % 64) + e.val / 64; omega))

theorem GN_apply (gq gk : Vec Ideal S128 .f32) (j : Fin 6) (e : Fin 128) : GN gq gk (ix3 j (0 : Fin 1) e)
    = if j.val < 4 then GD gq (ix1 e) * Ideal.ofBits .f32 0x3E0293EE#32 else if j.val = 4 then GD gk (ix1 e) else Ideal.ofBits .f32 0x3F800000#32 := by
  unfold GN
  pointwise
  by_cases h : j.val < 4
  · rw [dif_pos h, if_pos h]
  · rw [dif_neg h, if_neg h]
    by_cases h' : j.val = 4
    · rw [dif_pos (by omega), if_pos h']
    · rw [dif_neg (by have := j.isLt; omega), if_neg h']

theorem CC_apply (a : FVec Ideal S4096x64 .f32) (p : Fin 4096) (e : Fin 128) : CC a (ix2 p e) = Ideal.cos (a (ix2 p (⟨e.val % 64, Nat.mod_lt _ (by decide)⟩ : Fin 64))) := by
  have he := e.isLt
  unfold CC
  pointwise
  by_cases h : e.val < 64
  · rw [dif_pos h]
    exact congrArg (fun q => Ideal.cos (a (ix2 p q))) (Fin.ext (by show e.val = e.val % 64; omega))
  · rw [dif_neg h]
    exact congrArg (fun q => Ideal.cos (a (ix2 p q))) (Fin.ext (by show e.val - 64 = e.val % 64; omega))

theorem SS_apply (a : FVec Ideal S4096x64 .f32) (p : Fin 4096) (e : Fin 128) : SS a (ix2 p e)
    = if e.val < 64 then -Ideal.sin (a (ix2 p (⟨e.val % 64, Nat.mod_lt _ (by decide)⟩ : Fin 64))) else Ideal.sin (a (ix2 p (⟨e.val % 64, Nat.mod_lt _ (by decide)⟩ : Fin 64))) := by
  have he := e.isLt
  unfold SS
  pointwise
  by_cases h : e.val < 64
  · rw [dif_pos h, if_pos h]
    exact congrArg (fun q => -Ideal.sin (a (ix2 p q))) (Fin.ext (by show e.val = e.val % 64; omega))
  · rw [dif_neg h, if_neg h]
    exact congrArg (fun q => Ideal.sin (a (ix2 p q))) (Fin.ext (by show e.val - 64 = e.val % 64; omega))

end Cert.Kernel5Ideal.RefValue

end
-- ==== Proof.QkvValue.lean ====
/- The projection call's three results as whole arrays: every grid point's scratch holds its row block's normalised rows, and every block is read from it. -/
module

public import proofs.«01_k».proof.Proof.QkvBlock
public import proofs.«01_k».proof.Proof.QkvHost

@[expose] public section

set_option maxRecDepth 16384
noncomputable section

open Idealize.ShloMosaic Idealize.ShloMosaic.TcCoe Idealize.SL.Sem
open Idealize.ShloMosaic.Pipeline (Dat)

namespace Cert.Kernel5Ideal.RefValue

open Cert.Kernel5Ideal Cert.Kernel5Ideal.Gen

/-- A normalised row of the input. -/
def row (X : Vec Ideal S8192x2048 .f32) (g : Vec Ideal S1x2048 .f32) (r : Fin 8192) : Fin 2048 → EReal :=
  nrm (fun e => X (ix2 r e)) (fun e => g (ix2 (0 : Fin 1) e))

/-- One element of the projection. -/
def PRJ (X : Vec Ideal S8192x2048 .f32) (g : Vec Ideal S1x2048 .f32) (W : Vec Ideal S2048x3072 .bf16) (r : Fin 8192) (o : Fin 3072) : EReal :=
  ∑ d : Fin 2048, row X g r d * W (ix2 d o)

/-- The first result: the heads of queries and keys normalised and turned, then the values. -/
def PACK (X : Vec Ideal S8192x2048 .f32) (g : Vec Ideal S1x2048 .f32) (W : Vec Ideal S2048x3072 .bf16) (G : Vec Ideal S6x1x128 .f32) (C S : Vec Ideal S4096x128 .f32) :
    Vec Ideal S8192x3072 .bf16 := fun j =>
  if (j 1).val < 2560 then
    hrot (fun z => PRJ X g W (j 0) ⟨128 * ((j 1).val / 128) + z.val, by have : (j 1).val < 3072 := (j 1).isLt; have := z.isLt; omega⟩)
      (fun z => G (ix3 (⟨(j 1).val / 512, by have : (j 1).val < 3072 := (j 1).isLt; omega⟩ : Fin 6) (0 : Fin 1) z))
      (fun z => C (ix2 (⟨(j 0).val % 4096, Nat.mod_lt _ (by decide)⟩ : Fin 4096) z)) (fun z => S (ix2 (⟨(j 0).val % 4096, Nat.mod_lt _ (by decide)⟩ : Fin 4096) z))
      ⟨(j 1).val % 128, Nat.mod_lt _ (by decide)⟩
  else PRJ X g W (j 0) (j 1)

/-- The second result: every head of values with a head of ones after it. -/
def VAUG (X : Vec Ideal S8192x2048 .f32) (g : Vec Ideal S1x2048 .f32) (W : Vec Ideal S2048x3072 .bf16) : Vec Ideal S8192x1024 .bf16 := fun j =>
  if h : (j 1).val % 256 < 128 then
    PRJ X g W (j 0) ⟨2560 + 128 * ((j 1).val / 256) + (j 1).val % 256, by have : (j 1).val < 1024 := (j 1).isLt; omega⟩
  else (1 : EReal)

/-- The third result: the heads of values transposed, with sixteen rows of ones after each. -/
def VTR (X : Vec Ideal S8192x2048 .f32) (g : Vec Ideal S1x2048 .f32) (W : Vec Ideal S2048x3072 .bf16) : Vec Ideal S2x4x144x4096 .bf16 := fun j =>
  if h : (j 2).val < 128 then
    PRJ X g W ⟨4096 * (j 0).val + (j 3).val, by have : (j 0).val < 2 := (j 0).isLt; have : (j 3).val < 4096 := (j 3).isLt; omega⟩
      ⟨2560 + 128 * (j 1).val + (j 2).val, by have : (j 1).val < 4 := (j 1).isLt; omega⟩
  else (1 : EReal)

variable (m : (ℓ : Loc nD τ sig) → Buf (Elt Ideal) ℓ)

/-- The windows' block indices at every grid point. -/
theorem idx : ∀ t : Fin cfg0.N, win0_0.index t = ![t.val / 6, 0] ∧ win0_1.index t = ![0, 0] ∧ win0_2.index t = ![0, t.val % 6] ∧ win0_3.index t = ![t.val % 6, 0, 0]
    ∧ win0_4.index t = ![t.val / 6 % 8, 0] ∧ win0_5.index t = ![t.val / 6 % 8, 0] ∧ win0_6.index t = ![t.val / 6, t.val % 6] ∧ win0_7.index t = ![t.val / 6, 0]
    ∧ win0_8.index t = ![t.val / 6 / 8, 0, 0, t.val / 6 % 8] := by
  decide +kernel

theorem blk0 (c : Dev nD) (t : Fin cfg0.N) (q : Fin 512) (r : Fin 8192) (e : Fin 2048) (hr : r.val = 512 * (t.val / 6) + q.val) :
    (iblk m c 0 t : Vec Ideal S512x2048 .f32) (ix2 q e) = (m ((c : Thread nD τ).loc main_arg0) : Vec Ideal S8192x2048 .f32) (ix2 r e) := by
  have e0 := fun t => (idx t).1
  blk_ext [iblk, V, e0]

theorem blk1 (c : Dev nD) (t : Fin cfg0.N) (q : Fin 1) (e : Fin 2048) :
    (iblk m c 1 t : Vec Ideal S1x2048 .f32) (ix2 q e) = (m ((c : Thread nD τ).loc main_arg1) : Vec Ideal S1x2048 .f32) (ix2 q e) := by
  have e0 := fun t => (idx t).2.1
  blk_ext [iblk, V, e0]

theorem blk2 (c : Dev nD) (t : Fin cfg0.N) (q : Fin 512) (o : Fin 3072) (d : Fin 2048) (ho : o.val = 512 * (t.val % 6) + q.val) :
    (iblk m c 2 t : Vec Ideal S2048x512 .bf16) (ix2 d q) = WQ (m ((c : Thread nD τ).loc main_arg2)) (ix2 d o) := by
  have e0 := fun t => (idx t).2.2.1
  rw [← V_w m c]
  blk_ext [iblk, e0]

theorem blk3 (c : Dev nD) (t : Fin cfg0.N) (j : Fin 6) (e : Fin 128) (hj : j.val = t.val % 6) :
    (iblk m c 3 t : Vec Ideal S1x1x128 .f32) (ix3 (0 : Fin 1) (0 : Fin 1) e)
      = GN (m ((c : Thread nD τ).loc main_arg3)) (m ((c : Thread nD τ).loc main_arg4)) (ix3 j (0 : Fin 1) e) := by
  have e0 := fun t => (idx t).2.2.2.1
  rw [← V_g m c]
  blk_ext [iblk, e0]

theorem blk4 (c : Dev nD) (t : Fin cfg0.N) (q : Fin 512) (p : Fin 4096) (e : Fin 128) (hp : p.val = 512 * (t.val / 6 % 8) + q.val) :
    (iblk m c 4 t : Vec Ideal S512x128 .f32) (ix2 q e) = CC ANG (ix2 p e) := by
  have e0 := fun t => (idx t).2.2.2.2.1
  rw [← V_c m c]
  blk_ext [iblk, e0]

theorem blk5 (c : Dev nD) (t : Fin cfg0.N) (q : Fin 512) (p : Fin 4096) (e : Fin 128) (hp : p.val = 512 * (t.val / 6 % 8) + q.val) :
    (iblk m c 5 t : Vec Ideal S512x128 .f32) (ix2 q e) = SS ANG (ix2 p e) := by
  have e0 := fun t => (idx t).2.2.2.2.2.1
  rw [← V_s m c]
  blk_ext [iblk, e0]

/-- A scratch that holds a row block's normalised rows. -/
def Good (X : Vec Ideal S8192x2048 .f32) (g : Vec Ideal S1x2048 .f32) (k : ℕ) (S : Vec Ideal S512x2048 .bf16) : Prop :=
  ∀ (r : Fin 8192) (q : Fin 512) (d : Fin 2048), r.val = 512 * k + q.val → S (ix2 q d) = row X g r d

/-- A row block's first point stores the normalised rows. -/
theorem first_good (c : Dev nD) (t : Fin cfg0.N) :
    Good (m ((c : Thread nD τ).loc main_arg0)) (m ((c : Thread nD τ).loc main_arg1)) (t.val / 6) (k0_pay1 (iblk m c 0 t) (iblk m c 1 t)) := by
  intro r q d hr
  refine (pay1_apply _ _ q d).trans ?_
  unfold row
  rw [funext fun e => blk0 m c t q r e hr, funext fun e => blk1 m c t 0 e]

/-- Every point's scratch holds its row block's normalised rows: the later points leave it as it was. -/
theorem good (c : Dev nD) : ∀ (n : ℕ) (t : Fin cfg0.N), t.val = n →
    Good (m ((c : Thread nD τ).loc main_arg0)) (m ((c : Thread nD τ).loc main_arg1)) (t.val / 6) (scr m c t.val t.isLt) := by
  intro n
  induction n with
  | zero =>
    intro t ht
    rw [scr_A m c t (by rw [ht]), outAS_eq]
    exact first_good m c t
  | succ n ih =>
    intro t ht
    by_cases h : t.val % 6 = 0
    · rw [scr_A m c t h, outAS_eq]
      exact first_good m c t
    · rw [scr_keep m c t h, show t.val / 6 = (t.val - 1) / 6 by omega]
      exact ih ⟨t.val - 1, Nat.lt_of_le_of_lt (Nat.sub_le _ _) t.isLt⟩ (by show t.val - 1 = n; omega)

/-- The projection of a point's row block by its block of columns. -/
def proj (c : Dev nD) (t : Fin cfg0.N) : FVec Ideal S512x512 .f32 := k0_pay2 (scr m c t.val t.isLt) (iblk m c 2 t)

theorem proj_apply (c : Dev nD) (t : Fin cfg0.N) (q p : Fin 512) (r : Fin 8192) (o : Fin 3072) (hr : r.val = 512 * (t.val / 6) + q.val)
    (ho : o.val = 512 * (t.val % 6) + p.val) :
    proj m c t (ix2 q p) = PRJ (m ((c : Thread nD τ).loc main_arg0)) (m ((c : Thread nD τ).loc main_arg1)) (WQ (m ((c : Thread nD τ).loc main_arg2))) r o := by
  refine (pay2_apply _ _ q p).trans ?_
  unfold PRJ
  exact Finset.sum_congr rfl fun d _ => congrArg₂ (· * ·) (good m c t.val t rfl r q d hr) (blk2 m c t p o d ho)

/-- The first output's block at a point of queries or keys. -/
theorem after6_heads (c : Dev nD) (t : Fin cfg0.N) (h : ¬t.val % 6 = 5) :
    after6 m c t = HEADS (proj m c t) (iblk m c 3 t) (iblk m c 4 t) (iblk m c 5 t) := by
  unfold proj
  by_cases h0 : t.val % 6 = 0
  · rw [after6_A m c t h0, outA6_eq, scr_A m c t h0, outAS_eq]
  · rw [after6_B m c t h0 (by omega), outB6_eq, scr_keep m c t h0]

theorem after6_vals (c : Dev nD) (t : Fin cfg0.N) (h : t.val % 6 = 5) : after6 m c t = k0_pay15 (proj m c t) := by
  unfold proj
  rw [after6_C m c t h, outC6_eq, scr_keep m c t (by omega)]

theorem after7_vals (c : Dev nD) (t : Fin cfg0.N) (h : t.val % 6 = 5) : after7 m c t = VAS (proj m c t) := by
  unfold proj
  rw [after7_C m c t h, outC7_eq, scr_keep m c t (by omega)]

theorem after8_vals (c : Dev nD) (t : Fin cfg0.N) (h : t.val % 6 = 5) : after8 m c t = VTS (proj m c t) := by
  unfold proj
  rw [after8_C m c t h, outC8_eq, scr_keep m c t (by omega)]

theorem value6 (c : Dev nD) : (dats m 0 c).arrAt 6 cfg0.N
    = PACK (m ((c : Thread nD τ).loc main_arg0)) (m ((c : Thread nD τ).loc main_arg1)) (WQ (m ((c : Thread nD τ).loc main_arg2)))
        (GN (m ((c : Thread nD τ).loc main_arg3)) (m ((c : Thread nD τ).loc main_arg4))) (CC ANG) (SS ANG) := by
  refine (dats m 0 c).arrAt_eq_of_covers 6 _ (by decide +kernel) fun t hf y => ?_
  have e6 := fun t => (idx t).2.2.2.2.2.2.1
  blk_simp
  rw [after0_6]
  obtain ⟨q, p, rfl⟩ : ∃ (q p : Fin 512), (y : S512x512.Idx) = ix2 q p := ⟨y 0, y 1, by funext z; match z with | ⟨0, _⟩ => rfl | ⟨1, _⟩ => rfl⟩
  have ht : t.val < 96 := Nat.lt_of_lt_of_eq t.isLt N_0
  have hq := q.isLt
  have hp := p.isLt
  have hz : (win0_6.blk t).view.emb (ix2 q p) = (ix2 (⟨512 * (t.val / 6) + q.val, by omega⟩ : Fin 8192) (⟨512 * (t.val % 6) + p.val, by omega⟩ : Fin 3072) : S8192x3072.Idx) := by
    blk_ext [e6]
  rw [hz]
  unfold PACK
  by_cases h : t.val % 6 = 5
  · rw [after6_vals m c t h, if_neg (by show ¬512 * (t.val % 6) + p.val < 2560; omega)]
    exact (pay15_apply _ q p).trans (proj_apply m c t q p _ _ rfl rfl)
  · rw [after6_heads m c t h, if_pos (by show 512 * (t.val % 6) + p.val < 2560; omega)]
    unfold HEADS
    have h1 : (fun z : Fin 128 => proj m c t (ix2 ((ix2 q p : S512x512.Idx) 0)
          (⟨128 * (((ix2 q p : S512x512.Idx) 1).val / 128) + z.val, by have := z.isLt; show 128 * (p.val / 128) + z.val < 512; omega⟩ : Fin 512)))
        = fun z : Fin 128 => PRJ (m ((c : Thread nD τ).loc main_arg0)) (m ((c : Thread nD τ).loc main_arg1)) (WQ (m ((c : Thread nD τ).loc main_arg2)))
            (⟨512 * (t.val / 6) + q.val, by omega⟩ : Fin 8192) (⟨128 * ((512 * (t.val % 6) + p.val) / 128) + z.val, by have := z.isLt; omega⟩ : Fin 3072) :=
      funext fun z => proj_apply m c t q _ _ _ rfl
        (by show 128 * ((512 * (t.val % 6) + p.val) / 128) + z.val = 512 * (t.val % 6) + (128 * (p.val / 128) + z.val); omega)
    have h3 : (fun z : Fin 128 => (iblk m c 3 t : Vec Ideal S1x1x128 .f32) (ix3 (0 : Fin 1) (0 : Fin 1) z))
        = fun z => GN (m ((c : Thread nD τ).loc main_arg3)) (m ((c : Thread nD τ).loc main_arg4)) (ix3 (⟨(512 * (t.val % 6) + p.val) / 512, by omega⟩ : Fin 6) (0 : Fin 1) z) :=
      funext fun z => blk3 m c t _ z (by show (512 * (t.val % 6) + p.val) / 512 = t.val % 6; omega)
    have h4 : (fun z : Fin 128 => (iblk m c 4 t : Vec Ideal S512x128 .f32) (ix2 q z))
        = fun z => CC ANG (ix2 (⟨(512 * (t.val / 6) + q.val) % 4096, Nat.mod_lt _ (by decide)⟩ : Fin 4096) z) :=
      funext fun z => blk4 m c t q _ z (by show (512 * (t.val / 6) + q.val) % 4096 = 512 * (t.val / 6 % 8) + q.val; omega)
    have h5 : (fun z : Fin 128 => (iblk m c 5 t : Vec Ideal S512x128 .f32) (ix2 q z))
        = fun z => SS ANG (ix2 (⟨(512 * (t.val / 6) + q.val) % 4096, Nat.mod_lt _ (by decide)⟩ : Fin 4096) z) :=
      funext fun z => blk5 m c t q _ z (by show (512 * (t.val / 6) + q.val) % 4096 = 512 * (t.val / 6 % 8) + q.val; omega)
    have h6 : (⟨p.val % 128, Nat.mod_lt _ (by decide)⟩ : Fin 128) = ⟨(512 * (t.val % 6) + p.val) % 128, Nat.mod_lt _ (by decide)⟩ :=
      Fin.ext (by show p.val % 128 = (512 * (t.val % 6) + p.val) % 128; omega)
    refine (congrArg (fun u => hrot u _ _ _ _) h1).trans ?_
    refine (congrArg (fun u => hrot _ u _ _ _) h3).trans ?_
    refine (congrArg (fun u => hrot _ _ u _ _) h4).trans ?_
    refine (congrArg (fun u => hrot _ _ _ u _) h5).trans ?_
    exact congrArg (hrot _ _ _ _) h6

theorem value7 (c : Dev nD) : (dats m 0 c).arrAt 7 cfg0.N
    = VAUG (m ((c : Thread nD τ).loc main_arg0)) (m ((c : Thread nD τ).loc main_arg1)) (WQ (m ((c : Thread nD τ).loc main_arg2))) := by
  refine (dats m 0 c).arrAt_eq_of_covers 7 _ (by decide +kernel) fun t hf y => ?_
  have e7 := fun t => (idx t).2.2.2.2.2.2.2.1
  have h5 : t.val % 6 = 5 := (flush0_7 t).mp hf
  blk_simp
  rw [after0_7, after7_vals m c t h5]
  obtain ⟨q, p, rfl⟩ : ∃ (q : Fin 512) (p : Fin 1024), (y : S512x1024.Idx) = ix2 q p := ⟨y 0, y 1, by funext z; match z with | ⟨0, _⟩ => rfl | ⟨1, _⟩ => rfl⟩
  have ht : t.val < 96 := Nat.lt_of_lt_of_eq t.isLt N_0
  have hq := q.isLt
  have hp := p.isLt
  have hz : (win0_7.blk t).view.emb (ix2 q p) = (ix2 (⟨512 * (t.val / 6) + q.val, by omega⟩ : Fin 8192) p : S8192x1024.Idx) := by
    blk_ext [e7]
  rw [hz]
  unfold VAS VAUG
  by_cases h : p.val % 256 < 128
  · refine (dif_pos h).trans (Eq.trans ?_ (dif_pos h).symm)
    exact proj_apply m c t q _ _ _ rfl (by show 2560 + 128 * (p.val / 256) + p.val % 256 = 512 * (t.val % 6) + (128 * (p.val / 256) + p.val % 256); omega)
  · refine (dif_neg h).trans (Eq.symm (dif_neg ?_))
    exact h

theorem value8 (c : Dev nD) : (dats m 0 c).arrAt 8 cfg0.N
    = VTR (m ((c : Thread nD τ).loc main_arg0)) (m ((c : Thread nD τ).loc main_arg1)) (WQ (m ((c : Thread nD τ).loc main_arg2))) := by
  refine (dats m 0 c).arrAt_eq_of_covers 8 _ (by decide +kernel) fun t hf y => ?_
  have e8 := fun t => (idx t).2.2.2.2.2.2.2.2
  have h5 : t.val % 6 = 5 := (flush0_8 t).mp hf
  blk_simp
  rw [after0_8, after8_vals m c t h5]
  obtain ⟨k, d, q, rfl⟩ : ∃ (k : Fin 4) (d : Fin 144) (q : Fin 512), (y : S1x4x144x512.Idx) = ix4 (0 : Fin 1) k d q :=
    ⟨y 1, y 2, y 3, by funext z; match z with | ⟨0, _⟩ => exact Subsingleton.elim (α := Fin 1) _ _ | ⟨1, _⟩ => rfl | ⟨2, _⟩ => rfl | ⟨3, _⟩ => rfl⟩
  have ht : t.val < 96 := Nat.lt_of_lt_of_eq t.isLt N_0
  have hq := q.isLt
  have hk := k.isLt
  have hz : (win0_8.blk t).view.emb (ix4 (0 : Fin 1) k d q)
      = (ix4 (⟨t.val / 6 / 8, by omega⟩ : Fin 2) k d (⟨512 * (t.val / 6 % 8) + q.val, by omega⟩ : Fin 4096) : S2x4x144x4096.Idx) := by
    blk_ext [e8]
  rw [hz]
  unfold VTS VTR
  by_cases h : d.val < 128
  · refine (dif_pos h).trans (Eq.trans ?_ (dif_pos h).symm)
    exact proj_apply m c t q _ _ _ (by show 4096 * (t.val / 6 / 8) + (512 * (t.val / 6 % 8) + q.val) = 512 * (t.val / 6) + q.val; omega)
      (by show 2560 + 128 * k.val + d.val = 512 * (t.val % 6) + (128 * k.val + d.val); omega)
  · refine (dif_neg h).trans (Eq.symm (dif_neg ?_))
    exact h

end Cert.Kernel5Ideal.RefValue

end
-- ==== Proof.QkvRef.lean ====
/- The reference at an index, in stages: the normalised rows, their projection, the heads' norms, their rotation, and the three results. -/
module

public import proofs.«01_k».proof.Defs
public import proofs.«01_k».proof.Proof.QkvValue
public import proofs.«01_k».proof.Proof.Gen.Reference5Ideal.Run
public import Idealize.ShloMosaic.Lib.Pointwise
public import Idealize.ShloMosaic.Lib.KernelVsHost

@[expose] public section

set_option maxRecDepth 16384
noncomputable section

open Idealize.ShloMosaic Idealize.ShloMosaic.TcCoe Idealize.SL.Sem

namespace Cert.Reference5Ideal.RefValue

open Cert.Reference5Ideal Cert.Reference5Ideal.Gen Cert.Reference5Ideal.Value
variable (m : (ℓ : Loc nD τ sig) → Buf (Elt Ideal) ℓ)

/-- The normalised rows. -/
def NR (x : Vec Ideal S8192x2048 .f32) (g : Vec Ideal S1x2048 .f32) : FVec Ideal S2x4096x2048 .f32 :=
  mulf (mulf (shapeCast _ x shapeCasts_S8192x2048_S2x4096x2048) (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf (shapeCast _ x shapeCasts_S8192x2048_S2x4096x2048) (shapeCast _ x shapeCasts_S8192x2048_S2x4096x2048)) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ g shapeCasts_S1x2048_S2048)))

/-- Their projection. -/
def PROJ (h : FVec Ideal S2x4096x2048 .f32) (w : Vec Ideal S2048x3072 .bf16) : FVec Ideal S2x4096x3072 .f32 :=
  Host.dotGeneral dot_S2x4096x2048_S2048x3072_S2x4096x3072_2_0_01_1_n_n none h (extf .f32 w bitsLt_bf16_f32)

/-- The heads of queries. -/
def QR (p : FVec Ideal S2x4096x3072 .f32) : FVec Ideal S2x4096x16x128 .f32 :=
  shapeCast _ (extractStridedSlice S2x4096x2048 ![0, 0, 0] p slices_S2x4096x3072_S2x4096x2048_0_0_0) shapeCasts_S2x4096x2048_S2x4096x16x128

/-- The heads of keys. -/
def KR (p : FVec Ideal S2x4096x3072 .f32) : FVec Ideal S2x4096x4x128 .f32 :=
  shapeCast _ (extractStridedSlice S2x4096x512 ![0, 0, 2048] p slices_S2x4096x3072_S2x4096x512_0_0_2048) shapeCasts_S2x4096x512_S2x4096x4x128

/-- The heads of values. -/
def VR (p : FVec Ideal S2x4096x3072 .f32) : FVec Ideal S2x4096x4x128 .f32 :=
  shapeCast _ (extractStridedSlice S2x4096x512 ![0, 0, 2560] p slices_S2x4096x3072_S2x4096x512_0_0_2560) shapeCasts_S2x4096x512_S2x4096x4x128

/-- The queries normalised and scaled. -/
def QN (q : FVec Ideal S2x4096x16x128 .f32) (g : Vec Ideal S128 .f32) : FVec Ideal S2x4096x16x128 .f32 :=
  mulf (mulf (mulf q (broadcastInDim S2x4096x16x128 ![0, 1, 2, 3] bcast_S2x4096x16x1_S2x4096x16x128_0_1_2_3 (Host.rsqrt (addf (Host.divf (broadcastInDim S2x4096x16x1 ![0, 1, 2] bcast_S2x4096x16_S2x4096x16x1_0_1_2 (Host.reduceAdd (mulf q q) (constant S_ .f32 0x00000000#32) reducesTo_S2x4096x16x128_S2x4096x16_d3 h_S_)) (broadcastInDim S2x4096x16x1 ![] bcast_S_S2x4096x16x1 (constant S_ .f32 0x43000000#32))) (broadcastInDim S2x4096x16x1 ![] bcast_S_S2x4096x16x1 (constant S_ .f32 0x358637BD#32)))))) (broadcastInDim S2x4096x16x128 ![0, 1, 2, 3] bcast_S1x1x1x128_S2x4096x16x128_0_1_2_3 (broadcastInDim S1x1x1x128 ![3] bcast_S128_S1x1x1x128_3 g))) (broadcastInDim S2x4096x16x128 ![] bcast_S_S2x4096x16x128 (constant S_ .f32 0x3E0293EE#32))

/-- The keys normalised. -/
def KN (q : FVec Ideal S2x4096x4x128 .f32) (g : Vec Ideal S128 .f32) : FVec Ideal S2x4096x4x128 .f32 :=
  mulf (mulf q (broadcastInDim S2x4096x4x128 ![0, 1, 2, 3] bcast_S2x4096x4x1_S2x4096x4x128_0_1_2_3 (Host.rsqrt (addf (Host.divf (broadcastInDim S2x4096x4x1 ![0, 1, 2] bcast_S2x4096x4_S2x4096x4x1_0_1_2 (Host.reduceAdd (mulf q q) (constant S_ .f32 0x00000000#32) reducesTo_S2x4096x4x128_S2x4096x4_d3 h_S_)) (broadcastInDim S2x4096x4x1 ![] bcast_S_S2x4096x4x1 (constant S_ .f32 0x43000000#32))) (broadcastInDim S2x4096x4x1 ![] bcast_S_S2x4096x4x1 (constant S_ .f32 0x358637BD#32)))))) (broadcastInDim S2x4096x4x128 ![0, 1, 2, 3] bcast_S1x1x1x128_S2x4096x4x128_0_1_2_3 (broadcastInDim S1x1x1x128 ![3] bcast_S128_S1x1x1x128_3 g))

/-- The angles of the grid's positions. -/
def ANGR  : FVec Ideal S4096x64 .f32 :=
  concatenate S4096x64 1 [⟨S4096x32, (mulf (broadcastInDim S4096x32 ![0, 1] bcast_S4096x1_S4096x32_0_1 (broadcastInDim S4096x1 ![0] bcast_S4096_S4096x1_0 (shapeCast _ (broadcastInDim S64x64 ![0] bcast_S64_S64x64_0 (sitofp .f32 (iotaInDim S64 32 0))) shapeCasts_S64x64_S4096))) (broadcastInDim S4096x32 ![0, 1] bcast_S1x32_S4096x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32))))))))⟩, ⟨S4096x32, (mulf (broadcastInDim S4096x32 ![0, 1] bcast_S4096x1_S4096x32_0_1 (broadcastInDim S4096x1 ![0] bcast_S4096_S4096x1_0 (shapeCast _ (broadcastInDim S64x64 ![1] bcast_S64_S64x64_1 (sitofp .f32 (iotaInDim S64 32 0))) shapeCasts_S64x64_S4096))) (broadcastInDim S4096x32 ![0, 1] bcast_S1x32_S4096x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32))))))))⟩] concatenates_S4096x32_S4096x32_S4096x64_d1

/-- The queries turned. -/
def TQ (n : FVec Ideal S2x4096x16x128 .f32) (a : FVec Ideal S4096x64 .f32) : FVec Ideal S2x4096x16x128 .f32 :=
  concatenate S2x4096x16x128 3 [⟨S2x4096x16x64, (subf (mulf (Host.slice S2x4096x16x64 ![0, 0, 0, 0] ![1, 1, 1, 2] n slicesBy_S2x4096x16x128_S2x4096x16x64_0s1_0s1_0s1_0s2) (broadcastInDim S2x4096x16x64 ![0, 1, 2, 3] bcast_S1x4096x1x64_S2x4096x16x64_0_1_2_3 (broadcastInDim S1x4096x1x64 ![1, 2, 3] bcast_S4096x1x64_S1x4096x1x64_1_2_3 (broadcastInDim S4096x1x64 ![0, 2] bcast_S4096x64_S4096x1x64_0_2 (Host.cos a))))) (mulf (Host.slice S2x4096x16x64 ![0, 0, 0, 1] ![1, 1, 1, 2] n slicesBy_S2x4096x16x128_S2x4096x16x64_0s1_0s1_0s1_1s2) (broadcastInDim S2x4096x16x64 ![0, 1, 2, 3] bcast_S1x4096x1x64_S2x4096x16x64_0_1_2_3 (broadcastInDim S1x4096x1x64 ![1, 2, 3] bcast_S4096x1x64_S1x4096x1x64_1_2_3 (broadcastInDim S4096x1x64 ![0, 2] bcast_S4096x64_S4096x1x64_0_2 (Host.sin a))))))⟩, ⟨S2x4096x16x64, (addf (mulf (Host.slice S2x4096x16x64 ![0, 0, 0, 0] ![1, 1, 1, 2] n slicesBy_S2x4096x16x128_S2x4096x16x64_0s1_0s1_0s1_0s2) (broadcastInDim S2x4096x16x64 ![0, 1, 2, 3] bcast_S1x4096x1x64_S2x4096x16x64_0_1_2_3 (broadcastInDim S1x4096x1x64 ![1, 2, 3] bcast_S4096x1x64_S1x4096x1x64_1_2_3 (broadcastInDim S4096x1x64 ![0, 2] bcast_S4096x64_S4096x1x64_0_2 (Host.sin a))))) (mulf (Host.slice S2x4096x16x64 ![0, 0, 0, 1] ![1, 1, 1, 2] n slicesBy_S2x4096x16x128_S2x4096x16x64_0s1_0s1_0s1_1s2) (broadcastInDim S2x4096x16x64 ![0, 1, 2, 3] bcast_S1x4096x1x64_S2x4096x16x64_0_1_2_3 (broadcastInDim S1x4096x1x64 ![1, 2, 3] bcast_S4096x1x64_S1x4096x1x64_1_2_3 (broadcastInDim S4096x1x64 ![0, 2] bcast_S4096x64_S4096x1x64_0_2 (Host.cos a))))))⟩] concatenates_S2x4096x16x64_S2x4096x16x64_S2x4096x16x128_d3

/-- The keys turned. -/
def TK (n : FVec Ideal S2x4096x4x128 .f32) (a : FVec Ideal S4096x64 .f32) : FVec Ideal S2x4096x4x128 .f32 :=
  concatenate S2x4096x4x128 3 [⟨S2x4096x4x64, (subf (mulf (Host.slice S2x4096x4x64 ![0, 0, 0, 0] ![1, 1, 1, 2] n slicesBy_S2x4096x4x128_S2x4096x4x64_0s1_0s1_0s1_0s2) (broadcastInDim S2x4096x4x64 ![0, 1, 2, 3] bcast_S1x4096x1x64_S2x4096x4x64_0_1_2_3 (broadcastInDim S1x4096x1x64 ![1, 2, 3] bcast_S4096x1x64_S1x4096x1x64_1_2_3 (broadcastInDim S4096x1x64 ![0, 2] bcast_S4096x64_S4096x1x64_0_2 (Host.cos a))))) (mulf (Host.slice S2x4096x4x64 ![0, 0, 0, 1] ![1, 1, 1, 2] n slicesBy_S2x4096x4x128_S2x4096x4x64_0s1_0s1_0s1_1s2) (broadcastInDim S2x4096x4x64 ![0, 1, 2, 3] bcast_S1x4096x1x64_S2x4096x4x64_0_1_2_3 (broadcastInDim S1x4096x1x64 ![1, 2, 3] bcast_S4096x1x64_S1x4096x1x64_1_2_3 (broadcastInDim S4096x1x64 ![0, 2] bcast_S4096x64_S4096x1x64_0_2 (Host.sin a))))))⟩, ⟨S2x4096x4x64, (addf (mulf (Host.slice S2x4096x4x64 ![0, 0, 0, 0] ![1, 1, 1, 2] n slicesBy_S2x4096x4x128_S2x4096x4x64_0s1_0s1_0s1_0s2) (broadcastInDim S2x4096x4x64 ![0, 1, 2, 3] bcast_S1x4096x1x64_S2x4096x4x64_0_1_2_3 (broadcastInDim S1x4096x1x64 ![1, 2, 3] bcast_S4096x1x64_S1x4096x1x64_1_2_3 (broadcastInDim S4096x1x64 ![0, 2] bcast_S4096x64_S4096x1x64_0_2 (Host.sin a))))) (mulf (Host.slice S2x4096x4x64 ![0, 0, 0, 1] ![1, 1, 1, 2] n slicesBy_S2x4096x4x128_S2x4096x4x64_0s1_0s1_0s1_1s2) (broadcastInDim S2x4096x4x64 ![0, 1, 2, 3] bcast_S1x4096x1x64_S2x4096x4x64_0_1_2_3 (broadcastInDim S1x4096x1x64 ![1, 2, 3] bcast_S4096x1x64_S1x4096x1x64_1_2_3 (broadcastInDim S4096x1x64 ![0, 2] bcast_S4096x64_S4096x1x64_0_2 (Host.cos a))))))⟩] concatenates_S2x4096x4x64_S2x4096x4x64_S2x4096x4x128_d3

/-- The first result. -/
def FST (q : FVec Ideal S2x4096x16x128 .f32) (k v : FVec Ideal S2x4096x4x128 .f32) : FVec Ideal S8192x3072 .bf16 :=
  truncf .bf16 (concatenate S8192x3072 1 [⟨S8192x2048, shapeCast S8192x2048 q shapeCasts_S2x4096x16x128_S8192x2048⟩, ⟨S8192x512, shapeCast S8192x512 k shapeCasts_S2x4096x4x128_S8192x512⟩,
    ⟨S8192x512, shapeCast S8192x512 v shapeCasts_S2x4096x4x128_S8192x512⟩] concatenates_S8192x2048_S8192x512_S8192x512_S8192x3072_d1) bitsLt_bf16_f32

/-- The second result. -/
def SND (v : FVec Ideal S2x4096x4x128 .f32) : FVec Ideal S8192x1024 .bf16 :=
  truncf .bf16 (shapeCast _ (concatenate S2x4096x4x256 3 [⟨S2x4096x4x128, v⟩, ⟨S2x4096x4x128, (broadcastInDim S2x4096x4x128 ![] bcast_S_S2x4096x4x128 (constant (F := Ideal) S_ .f32 0x3F800000#32))⟩] concatenates_S2x4096x4x128_S2x4096x4x128_S2x4096x4x256_d3) shapeCasts_S2x4096x4x256_S8192x1024) bitsLt_bf16_f32

/-- The third result. -/
def TRD (v : FVec Ideal S2x4096x4x128 .f32) : FVec Ideal S2x4x144x4096 .bf16 :=
  truncf .bf16 (concatenate S2x4x144x4096 2 [⟨S2x4x128x4096, (transpose S2x4x128x4096 [0, 2, 3, 1] v transposes_S2x4096x4x128_S2x4x128x4096_0_2_3_1)⟩, ⟨S2x4x16x4096, (broadcastInDim S2x4x16x4096 ![] bcast_S_S2x4x16x4096 (constant (F := Ideal) S_ .f32 0x3F800000#32))⟩] concatenates_S2x4x128x4096_S2x4x16x4096_S2x4x144x4096_d2) bitsLt_bf16_f32

/-- The projection of the arguments. -/
def PRO (x : Vec Ideal S8192x2048 .f32) (g : Vec Ideal S1x2048 .f32) (w : Vec Ideal S2048x3072 .bf16) : FVec Ideal S2x4096x3072 .f32 := PROJ (NR x g) w

/-- The first result of the arguments. -/
def OUT (x : Vec Ideal S8192x2048 .f32) (g : Vec Ideal S1x2048 .f32) (w : Vec Ideal S2048x3072 .bf16) (gq gk : Vec Ideal S128 .f32) : FVec Ideal S8192x3072 .bf16 :=
  FST (TQ (QN (QR (PRO x g w)) gq) ANGR) (TK (KN (KR (PRO x g w)) gk) ANGR) (VR (PRO x g w))

theorem res0_eq (c : Dev nD) : res_out0 m c = OUT (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := rfl

theorem ang_eq : ANGR = Cert.Kernel5Ideal.RefValue.ANG := rfl

open Cert.Kernel5Ideal.RefValue (nrm row PRJ)

theorem nr_apply (x g) (a : Fin 2) (l : Fin 4096) (d : Fin 2048) (r : Fin 8192) (hr : r.val = 4096 * a.val + l.val) :
    NR x g (ix3 a l d) = row x g r d := by
  have hx : a.val * 4096 + l.val < 8192 := by clear hr; omega
  obtain rfl : r = ⟨a.val * 4096 + l.val, hx⟩ := Fin.ext (by show r.val = a.val * 4096 + l.val; omega)
  unfold NR row nrm
  pointwise

theorem proj_apply (h w) (a : Fin 2) (l : Fin 4096) (o : Fin 3072) : PROJ h w (ix3 a l o) = ∑ d : Fin 2048, h (ix3 a l d) * w (ix2 d o) := by
  unfold PROJ
  pointwise

theorem pro_apply (x g w) (a : Fin 2) (l : Fin 4096) (o : Fin 3072) (r : Fin 8192) (hr : r.val = 4096 * a.val + l.val) :
    PRO x g w (ix3 a l o) = PRJ x g w r o := by
  unfold PRO PRJ
  rw [proj_apply]
  exact Finset.sum_congr rfl fun d _ => congrArg (· * w (ix2 d o)) (nr_apply x g a l d r hr)

theorem qr_apply (p) (a : Fin 2) (l : Fin 4096) (h : Fin 16) (z : Fin 128) (o : Fin 3072) (ho : o.val = 128 * h.val + z.val) :
    QR p (ix4 a l h z) = p (ix3 a l o) := by
  unfold QR
  pointwise
  exact congrArg (fun q => p (ix3 a l q)) (Fin.ext (by show h.val * 128 + z.val = o.val; omega))

theorem kr_apply (p) (a : Fin 2) (l : Fin 4096) (h : Fin 4) (z : Fin 128) (o : Fin 3072) (ho : o.val = 2048 + 128 * h.val + z.val) :
    KR p (ix4 a l h z) = p (ix3 a l o) := by
  unfold KR
  pointwise
  exact congrArg (fun q => p (ix3 a l q)) (Fin.ext (by show 2048 + (h.val * 128 + z.val) = o.val; omega))

theorem vr_apply (p) (a : Fin 2) (l : Fin 4096) (h : Fin 4) (z : Fin 128) (o : Fin 3072) (ho : o.val = 2560 + 128 * h.val + z.val) :
    VR p (ix4 a l h z) = p (ix3 a l o) := by
  unfold VR
  pointwise
  exact congrArg (fun q => p (ix3 a l q)) (Fin.ext (by show 2560 + (h.val * 128 + z.val) = o.val; omega))

/-- One entry of a head divided by the root of its mean square, times the gain. -/
def rnrm (v g : Fin 128 → EReal) (z : Fin 128) : EReal :=
  v z * Ideal.rsqrt (Ideal.div (∑ e : Fin 128, v e * v e) (Ideal.ofBits .f32 0x43000000#32) + Ideal.ofBits .f32 0x358637BD#32) * g z

theorem qn_apply (q g) (a : Fin 2) (l : Fin 4096) (h : Fin 16) (z : Fin 128) :
    QN q g (ix4 a l h z) = rnrm (fun e => q (ix4 a l h e)) (fun e => g (ix1 e)) z * Ideal.ofBits .f32 0x3E0293EE#32 := by
  unfold QN rnrm
  pointwise

theorem kn_apply (q g) (a : Fin 2) (l : Fin 4096) (h : Fin 4) (z : Fin 128) :
    KN q g (ix4 a l h z) = rnrm (fun e => q (ix4 a l h e)) (fun e => g (ix1 e)) z := by
  unfold KN rnrm
  pointwise

/-- The even entry of a pair, and the odd one. -/
def ev (e : Fin 128) : Fin 128 := ⟨2 * (e.val % 64), by omega⟩
def od (e : Fin 128) : Fin 128 := ⟨2 * (e.val % 64) + 1, by omega⟩

/-- An entry of a head turned: the first half of the head holds the pairs' first entries. -/
def turn (v : Fin 128 → EReal) (a : Fin 64 → EReal) (e : Fin 128) : EReal :=
  if e.val < 64 then v (ev e) * Ideal.cos (a ⟨e.val % 64, Nat.mod_lt _ (by decide)⟩) - v (od e) * Ideal.sin (a ⟨e.val % 64, Nat.mod_lt _ (by decide)⟩)
  else v (ev e) * Ideal.sin (a ⟨e.val % 64, Nat.mod_lt _ (by decide)⟩) + v (od e) * Ideal.cos (a ⟨e.val % 64, Nat.mod_lt _ (by decide)⟩)

theorem tq_apply (n ang) (a : Fin 2) (l : Fin 4096) (h : Fin 16) (e : Fin 128) :
    TQ n ang (ix4 a l h e) = turn (fun z => n (ix4 a l h z)) (fun z => ang (ix2 l z)) e := by
  have he := e.isLt
  unfold TQ turn ev od
  pointwise
  by_cases hlt : e.val < 64
  · rw [dif_pos hlt, if_pos hlt]
    simp only [Nat.mod_eq_of_lt hlt, Nat.add_comm 1]
  · rw [dif_neg hlt, if_neg hlt]
    have hm : e.val - 64 = e.val % 64 := by omega
    simp only [hm, Nat.add_comm 1]

theorem tk_apply (n ang) (a : Fin 2) (l : Fin 4096) (h : Fin 4) (e : Fin 128) :
    TK n ang (ix4 a l h e) = turn (fun z => n (ix4 a l h z)) (fun z => ang (ix2 l z)) e := by
  have he := e.isLt
  unfold TK turn ev od
  pointwise
  by_cases hlt : e.val < 64
  · rw [dif_pos hlt, if_pos hlt]
    simp only [Nat.mod_eq_of_lt hlt, Nat.add_comm 1]
  · rw [dif_neg hlt, if_neg hlt]
    have hm : e.val - 64 = e.val % 64 := by omega
    simp only [hm, Nat.add_comm 1]

/-- Equal coordinates read the same element. -/
theorem at4 {n : ℕ} (f : Fin 2 → Fin 4096 → Fin n → Fin 128 → EReal) {a a' : Fin 2} {l l' : Fin 4096} {h h' : Fin n} {e e' : Fin 128}
    (ha : a.val = a'.val) (hl : l.val = l'.val) (hh : h.val = h'.val) (he : e.val = e'.val) : f a l h e = f a' l' h' e' := by
  obtain rfl := Fin.ext ha
  obtain rfl := Fin.ext hl
  obtain rfl := Fin.ext hh
  obtain rfl := Fin.ext he
  rfl

section
variable (q : FVec Ideal S2x4096x16x128 .f32) (k v : FVec Ideal S2x4096x4x128 .f32) (a : Fin 2) (l : Fin 4096) (r : Fin 8192) (hr : r.val = 4096 * a.val + l.val)
include hr

theorem fst_q (h : Fin 16) (e : Fin 128) (o : Fin 3072) (ho : o.val = 128 * h.val + e.val) : FST q k v (ix2 r o) = q (ix4 a l h e) := by
  have hh := h.isLt
  have he := e.isLt
  have hl := l.isLt
  unfold FST
  pointwise
  rw [dif_pos (by omega)]
  exact at4 (fun a l h e => q (ix4 a l h e)) (by show r.val / 4096 = a.val; omega) (by show r.val % 4096 = l.val; omega) (by show o.val / 128 = h.val; omega)
    (by show o.val % 128 = e.val; omega)

theorem fst_k (h : Fin 4) (e : Fin 128) (o : Fin 3072) (ho : o.val = 2048 + 128 * h.val + e.val) : FST q k v (ix2 r o) = k (ix4 a l h e) := by
  have hh := h.isLt
  have he := e.isLt
  have hl := l.isLt
  unfold FST
  pointwise
  rw [dif_neg (by omega), dif_pos (by omega)]
  exact at4 (fun a l h e => k (ix4 a l h e)) (by show r.val / 4096 = a.val; omega) (by show r.val % 4096 = l.val; omega) (by show (o.val - 2048) / 128 = h.val; omega)
    (by show (o.val - 2048) % 128 = e.val; omega)

theorem fst_v (h : Fin 4) (e : Fin 128) (o : Fin 3072) (ho : o.val = 2560 + 128 * h.val + e.val) : FST q k v (ix2 r o) = v (ix4 a l h e) := by
  have hh := h.isLt
  have he := e.isLt
  have hl := l.isLt
  unfold FST
  pointwise
  rw [dif_neg (by omega), dif_neg (by omega)]
  exact at4 (fun a l h e => v (ix4 a l h e)) (by show r.val / 4096 = a.val; omega) (by show r.val % 4096 = l.val; omega)
    (by show (o.val - 2048 - 512) / 128 = h.val; omega) (by show (o.val - 2048 - 512) % 128 = e.val; omega)

theorem snd_v (h : Fin 4) (e : Fin 128) (o : Fin 1024) (ho : o.val = 256 * h.val + e.val) : SND v (ix2 r o) = v (ix4 a l h e) := by
  have hh := h.isLt
  have he := e.isLt
  have hl := l.isLt
  unfold SND
  pointwise
  rw [dif_pos (by omega)]
  exact at4 (fun a l h e => v (ix4 a l h e)) (by show r.val / 4096 = a.val; omega) (by show r.val % 4096 = l.val; omega)
    (by show o.val / 256 = h.val; omega) (by show o.val % 256 = e.val; omega)

end

theorem snd_one (v) (r : Fin 8192) (o : Fin 1024) (h : ¬o.val % 256 < 128) : SND v (ix2 r o) = (1 : EReal) := by
  have ho := o.isLt
  unfold SND
  pointwise
  rw [dif_neg h]

theorem trd_v (v) (a : Fin 2) (k : Fin 4) (d : Fin 144) (l : Fin 4096) (h : d.val < 128) : TRD v (ix4 a k d l) = v (ix4 a l k (⟨d.val, h⟩ : Fin 128)) := by
  unfold TRD
  pointwise
  rw [dif_pos h]

theorem trd_one (v) (a : Fin 2) (k : Fin 4) (d : Fin 144) (l : Fin 4096) (h : ¬d.val < 128) : TRD v (ix4 a k d l) = (1 : EReal) := by
  unfold TRD
  pointwise
  rw [dif_neg h]

end Cert.Reference5Ideal.RefValue

end
-- ==== Proof.QkvMath.lean ====
/- The arithmetic of a head: the two sums of squares, the pairs' order, and the rotation; and which values are real. -/
module

public import proofs.«01_k».proof.Proof.QkvRef
public import proofs.«01_k».proof.Proof.Softmax

@[expose] public section

set_option maxRecDepth 16384
noncomputable section

open Idealize.ShloMosaic Idealize.ShloMosaic.TcCoe Idealize.SL.Sem

namespace Cert.Qkv

open Cert.Kernel5Ideal.RefValue Cert.Reference5Ideal.RefValue

theorem ofBits_128 : Ideal.ofBits .f32 0x43000000#32 = ((128 : ℝ) : EReal) := by
  simp [Ideal.ofBits, Ideal.ieee]
  rw [← EReal.coe_mul]
  norm_num

theorem ofBits_2048 : Ideal.ofBits .f32 0x45000000#32 = ((2048 : ℝ) : EReal) := by
  simp [Ideal.ofBits, Ideal.ieee]
  rw [← EReal.coe_mul]
  norm_num

theorem ofBits_inv128 : Ideal.ofBits .f32 0x3C000000#32 = ((1 / 128 : ℝ) : EReal) := by
  simp [Ideal.ofBits, Ideal.ieee]
  rw [← EReal.coe_mul]
  norm_num

theorem ofBits_eps : ∃ z : ℝ, 0 < z ∧ Ideal.ofBits .f32 0x358637BD#32 = (z : EReal) := by
  refine ⟨8796093 / 2 ^ 43, by norm_num, ?_⟩
  simp [Ideal.ofBits, Ideal.ieee]
  rw [← EReal.coe_mul]
  norm_num

theorem ofBits_inf : Ideal.ofBits .f32 0x7F800000#32 = ⊤ := by
  simp [Ideal.ofBits, Ideal.ieee]

/-- The separated order of a head's entries is a permutation. -/
theorem pr_bij : Function.Bijective pr := by
  refine (Finite.injective_iff_bijective).1 fun x y h => Fin.ext ?_
  have h' : 2 * (x.val % 64) + x.val / 64 = 2 * (y.val % 64) + y.val / 64 := congrArg Fin.val h
  have hx := x.isLt
  have hy := y.isLt
  omega

/-- The sum of a head's squares does not depend on the order of its entries, and what is left of a real square is nothing. -/
theorem sqs_eq (v : Fin 128 → ℝ) (u : Fin 128 → EReal) (hu : ∀ z, u z = (v (pr z) : EReal)) :
    sqs u * Ideal.ofBits .f32 0x3C000000#32 = Ideal.div (∑ e : Fin 128, (v e : EReal) * (v e : EReal)) (Ideal.ofBits .f32 0x43000000#32) := by
  have h1 : ∑ e : Fin 128, u e * u e * Ideal.ofBits .bf16 0x3F80#16 = ((∑ e : Fin 128, v e * v e : ℝ) : EReal) := by
    rw [Softmax.coe_sum]
    refine Eq.trans ?_ (pr_bij.sum_comp (fun e => ((v e * v e : ℝ) : EReal)))
    exact Finset.sum_congr rfl fun e _ => by rw [hu, Softmax.ofBits_one_bf16, mul_one, EReal.coe_mul]
  have h2 : ∑ e : Fin 128, (u e * u e - u e * u e) * Ideal.ofBits .bf16 0x3F80#16 = 0 :=
    Finset.sum_eq_zero fun e _ => by rw [hu, ← EReal.coe_mul, ← EReal.coe_sub, sub_self, EReal.coe_zero, zero_mul]
  unfold sqs
  rw [h1, h2, add_zero, ofBits_128, ofBits_inv128]
  simp only [← EReal.coe_mul, ← Softmax.coe_sum]
  rw [Softmax.div_coe_coe _ _ (by norm_num), mul_one_div]

/-- A head's normalised entry, in the separated order and in its own. -/
theorem hnrm_eq (v : Fin 128 → ℝ) (u g G : Fin 128 → EReal) (s : EReal) (hu : ∀ z, u z = (v (pr z) : EReal)) (hg : ∀ z, g z = G (pr z) * s) (z : Fin 128) :
    hnrm u g z = rnrm (fun e => (v e : EReal)) G (pr z) * s := by
  unfold hnrm rnrm
  rw [sqs_eq v u hu, hu, hg, mul_assoc, mul_assoc, mul_assoc]

/-- A head turned, in the separated order and in its own. -/
theorem hrot_eq (v : Fin 128 → ℝ) (u g G C S : Fin 128 → EReal) (a : Fin 64 → EReal) (s : EReal) (hu : ∀ z, u z = (v (pr z) : EReal)) (hg : ∀ z, g z = G (pr z) * s)
    (hC : ∀ z, C z = Ideal.cos (a ⟨z.val % 64, Nat.mod_lt _ (by decide)⟩))
    (hS : ∀ z, S z = if z.val < 64 then -Ideal.sin (a ⟨z.val % 64, Nat.mod_lt _ (by decide)⟩) else Ideal.sin (a ⟨z.val % 64, Nat.mod_lt _ (by decide)⟩)) (e : Fin 128) :
    hrot u g C S e = turn (fun z => rnrm (fun e => (v e : EReal)) G z * s) a e := by
  have he := e.isLt
  unfold hrot turn
  rw [hnrm_eq v u g G s hu hg, hnrm_eq v u g G s hu hg, hC, hS]
  by_cases h : e.val < 64
  · have h1 : pr e = ev e := Fin.ext (by show 2 * (e.val % 64) + e.val / 64 = 2 * (e.val % 64); omega)
    have h2 : pr (opp e) = od e := Fin.ext (by
      show 2 * ((e.val + 128 - 64) % 128 % 64) + (e.val + 128 - 64) % 128 / 64 = 2 * (e.val % 64) + 1; omega)
    rw [if_pos h, if_pos h, h1, h2, mul_neg, sub_eq_add_neg]
  · have h1 : pr e = od e := Fin.ext (by show 2 * (e.val % 64) + e.val / 64 = 2 * (e.val % 64) + 1; omega)
    have h2 : pr (opp e) = ev e := Fin.ext (by
      show 2 * ((e.val + 128 - 64) % 128 % 64) + (e.val + 128 - 64) % 128 / 64 = 2 * (e.val % 64); omega)
    rw [if_neg h, if_neg h, h1, h2, add_comm]

/-- A normalised row of reals is real. -/
theorem nrm_real (x g : Fin 2048 → EReal) (hx : ∀ e, ∃ z : ℝ, x e = z) (hg : ∀ e, ∃ z : ℝ, g e = z) (d : Fin 2048) : ∃ z : ℝ, nrm x g d = z := by
  choose X hX using hx
  choose G hG using hg
  obtain ⟨ε, hε, he⟩ := ofBits_eps
  have hs : 0 ≤ ∑ e : Fin 2048, X e * X e := Finset.sum_nonneg fun e _ => mul_self_nonneg _
  have hp : 0 < (∑ e : Fin 2048, X e * X e) / 2048 + ε := by positivity
  unfold nrm
  simp only [hX, hG, he, ofBits_2048, ← EReal.coe_mul, ← Softmax.coe_sum]
  rw [Softmax.div_coe_coe _ _ (by norm_num), ← EReal.coe_add]
  have hr : Ideal.rsqrt (((∑ e : Fin 2048, X e * X e) / 2048 + ε : ℝ) : EReal) = (((Real.sqrt ((∑ e : Fin 2048, X e * X e) / 2048 + ε))⁻¹ : ℝ) : EReal) := by
    show (if _ < 0 then ⊥ else if _ = 0 then ⊤ else _) = _
    rw [if_neg (not_lt.2 hp.le), if_neg hp.ne']
  rw [hr, ← EReal.coe_mul, ← EReal.coe_mul]
  exact ⟨_, rfl⟩

/-- A product of real rows and columns is real. -/
theorem prj_real (X g W) (hX : ∀ r e, ∃ z : ℝ, (X : Vec Ideal Cert.Kernel5Ideal.S8192x2048 .f32) (ix2 r e) = (z : EReal))
    (hg : ∀ e, ∃ z : ℝ, (g : Vec Ideal Cert.Kernel5Ideal.S1x2048 .f32) (ix2 (0 : Fin 1) e) = (z : EReal))
    (hW : ∀ d o, ∃ z : ℝ, (W : Vec Ideal Cert.Kernel5Ideal.S2048x3072 .bf16) (ix2 d o) = (z : EReal)) (r : Fin 8192) (o : Fin 3072) :
    ∃ z : ℝ, PRJ X g W r o = z := by
  have hn := fun d => nrm_real (fun e => X (ix2 r e)) (fun e => g (ix2 (0 : Fin 1) e)) (hX r) hg d
  choose N hN using hn
  choose w hw using hW
  unfold PRJ row
  simp only [hN, hw, ← EReal.coe_mul, ← Softmax.coe_sum]
  exact ⟨_, rfl⟩

end Cert.Qkv

end
-- ==== Proof.QkvClaims.lean ====
/- The claims about the queries', keys' and values' projection: what the precondition says of its arguments, the three results' agreement, and the claims
   themselves. -/
module

public import proofs.«01_k».proof.Proof.QkvMath
public import proofs.«01_k».proof.Proof.QkvFrameBits
public import proofs.«01_k».proof.Proof.Gen.Pre_finite_projection
public import Idealize.ShloMosaic.Lib.Claim
public import Idealize.ShloMosaic.Lib.ReduceAll

@[expose] public section

set_option maxRecDepth 16384
noncomputable section

open Idealize.ShloMosaic Idealize.ShloMosaic.TcCoe Idealize.SL.Sem
open Idealize.ShloMosaic.Pipeline (Dat)

namespace Cert.Pre_finite_projection

open Cert.Pre_finite_projection.Gen

/-- An element whose absolute value compares below infinity is real. -/
theorem real_of_cmp (x b : EReal) (hb : b = ⊤) (h : Ideal.cmp .olt (max x (-x)) b = 1#1) : ∃ z : ℝ, x = z := by
  rw [hb] at h
  by_cases hlt : max x (-x) < ⊤
  · exact Softmax.real_of_abs_lt hlt
  · simp [Ideal.cmp, hlt] at h

/-- The rows, the gain and the weights are real. -/
theorem decode (x : FVec Ideal S8192x2048 .f32) (g : FVec Ideal S1x2048 .f32) (w : FVec Ideal S2048x3072 .bf16) (gq gk : FVec Ideal S128 .f32)
    (h : fn x g w gq gk = fun _ => 1#1) :
    (∀ (r : Fin 8192) (e : Fin 2048), ∃ z : ℝ, x (ix2 r e) = z) ∧ (∀ e : Fin 2048, ∃ z : ℝ, g (ix2 (0 : Fin 1) e) = z)
      ∧ ∀ (d : Fin 2048) (o : Fin 3072), ∃ z : ℝ, w (ix2 d o) = z := by
  have h0 := congrFun h (fun a => a.elim0)
  unfold fn at h0
  dsimp only at h0
  obtain ⟨h1, h2⟩ := IntOp.andi_eq_one.1 h0
  obtain ⟨h3, h4⟩ := IntOp.andi_eq_one.1 h1
  haveI : Subsingleton S_.Idx := ⟨fun a b => funext fun k => k.elim0⟩
  exact ⟨fun r e => real_of_cmp _ _ Qkv.ofBits_inf (Host.reduce_andi_all _ _ _ _ _ h3 (ix2 r e)),
    fun e => real_of_cmp _ _ Qkv.ofBits_inf (Host.reduce_andi_all _ _ _ _ _ h4 (ix2 (0 : Fin 1) e)),
    fun d o => real_of_cmp _ _ Softmax.ofBits_inf_bf16 (Host.reduce_andi_all _ _ _ _ _ h2 (ix2 d o))⟩

end Cert.Pre_finite_projection

namespace Cert.Proof.Qkv

open Cert.Qkv Cert.Kernel5Ideal.RefValue Cert.Reference5Ideal.RefValue

section
variable (X : Vec Ideal Cert.Kernel5Ideal.S8192x2048 .f32) (g : Vec Ideal Cert.Kernel5Ideal.S1x2048 .f32) (W : Vec Ideal Cert.Kernel5Ideal.S2048x3072 .bf16)
  (gq gk : Vec Ideal Cert.Kernel5Ideal.S128 .f32)

/-- The kernel's columns are the weights' own, in the separated order. -/
theorem prj_src (r : Fin 8192) (o : Fin 3072) : PRJ X g (WQ W) r o = PRJ X g W r (src o) := by
  unfold PRJ
  exact Finset.sum_congr rfl fun d _ => congrArg (row X g r d * ·) (WQ_apply W d o)

/-- A column of values is the weights' own. -/
theorem prj_val (r : Fin 8192) (o : Fin 3072) (ho : 2560 ≤ o.val) : PRJ X g (WQ W) r o = PRJ X g W r o := by
  rw [prj_src]
  unfold src
  rw [if_neg (by omega)]

section
variable (hX : ∀ r e, ∃ z : ℝ, X (ix2 r e) = (z : EReal)) (hg : ∀ e, ∃ z : ℝ, g (ix2 (0 : Fin 1) e) = (z : EReal))
  (hW : ∀ d o, ∃ z : ℝ, W (ix2 d o) = (z : EReal)) (a : Fin 2) (l : Fin 4096) (r : Fin 8192) (hr : r.val = 4096 * a.val + l.val)
include hX hg hW hr

/-- A turned head of the first result: `b` is the head's number among the heads of queries and keys. -/
theorem head_eq (b : ℕ) (hb : b < 20) (o : Fin 3072) (e : Fin 128) (ho : o.val = 128 * b + e.val) (G : Fin 128 → EReal) (s : EReal)
    (hG : ∀ (j : Fin 6) (z : Fin 128), j.val = b / 4 → GN gq gk (ix3 j (0 : Fin 1) z) = G (pr z) * s) :
    turn (fun z => rnrm (fun y => PRJ X g W r ⟨128 * b + y.val, by have := y.isLt; omega⟩) G z * s) (fun z => ANG (ix2 l z)) e
      = PACK X g (WQ W) (GN gq gk) (CC ANG) (SS ANG) (ix2 r o) := by
  have he := e.isLt
  have hl := l.isLt
  have hr' := fun o => prj_real X g W hX hg hW r o
  choose P hP using hr'
  unfold PACK
  rw [if_pos (by show o.val < 2560; omega)]
  have hv : (fun y : Fin 128 => PRJ X g W r ⟨128 * b + y.val, by have := y.isLt; omega⟩)
      = fun y : Fin 128 => ((P ⟨128 * b + y.val, by have := y.isLt; omega⟩ : ℝ) : EReal) := funext fun y => hP _
  rw [hv]
  have hee : (⟨o.val % 128, Nat.mod_lt _ (by decide)⟩ : Fin 128) = e := Fin.ext (by show o.val % 128 = e.val; omega)
  have hp : (⟨r.val % 4096, Nat.mod_lt _ (by decide)⟩ : Fin 4096) = l := Fin.ext (by show r.val % 4096 = l.val; omega)
  refine Eq.trans ?_ (congrArg (hrot _ _ _ _) hee.symm)
  refine (hrot_eq (fun y : Fin 128 => P ⟨128 * b + y.val, by have := y.isLt; omega⟩) _ _ G _ _ (fun z => ANG (ix2 l z)) s ?_ ?_ ?_ ?_ e).symm
  · intro z
    have hz := z.isLt
    refine (prj_src X g W r _).trans ?_
    rw [← hP]
    refine congrArg (PRJ X g W r) (Fin.ext ?_)
    unfold src
    rw [if_pos (by show 128 * (o.val / 128) + z.val < 2560; omega)]
    show 128 * ((128 * (o.val / 128) + z.val) / 128) + 2 * ((128 * (o.val / 128) + z.val) % 64) + (128 * (o.val / 128) + z.val) % 128 / 64
      = 128 * b + (2 * (z.val % 64) + z.val / 64)
    omega
  · intro z
    exact hG _ z (by show o.val / 512 = b / 4; omega)
  · intro z
    refine (CC_apply ANG _ z).trans ?_
    show Ideal.cos (ANG (ix2 (⟨r.val % 4096, Nat.mod_lt _ (by decide)⟩ : Fin 4096) _)) = _
    rw [hp]
  · intro z
    refine (SS_apply ANG _ z).trans ?_
    show (if _ then -Ideal.sin (ANG (ix2 (⟨r.val % 4096, Nat.mod_lt _ (by decide)⟩ : Fin 4096) _)) else Ideal.sin (ANG (ix2 (⟨r.val % 4096, Nat.mod_lt _ (by decide)⟩ : Fin 4096) _))) = _
    rw [hp]

/-- The first results agree at every column. -/
theorem out_eq (o : Fin 3072) : OUT X g W gq gk (ix2 r o) = PACK X g (WQ W) (GN gq gk) (CC ANG) (SS ANG) (ix2 r o) := by
  have ho := o.isLt
  unfold OUT
  rw [ang_eq]
  by_cases h1 : o.val < 2048
  · rw [fst_q _ _ _ a l r hr (⟨o.val / 128, by omega⟩ : Fin 16) (⟨o.val % 128, Nat.mod_lt _ (by decide)⟩ : Fin 128) o
      (by show o.val = 128 * (o.val / 128) + o.val % 128; omega), tq_apply]
    refine Eq.trans ?_ (head_eq X g W gq gk hX hg hW a l r hr (o.val / 128) (by omega) o ⟨o.val % 128, Nat.mod_lt _ (by decide)⟩
      (by show o.val = 128 * (o.val / 128) + o.val % 128; omega) (fun z => gq (ix1 z)) (Ideal.ofBits .f32 0x3E0293EE#32) ?_)
    · refine congrArg (fun f => turn f _ _) (funext fun z => (qn_apply _ _ a l _ z).trans ?_)
      refine congrArg (fun f => rnrm f _ z * Ideal.ofBits .f32 0x3E0293EE#32) (funext fun y => ?_)
      exact (qr_apply _ a l _ y ⟨128 * (o.val / 128) + y.val, by have := y.isLt; omega⟩ rfl).trans (pro_apply X g W a l _ r hr)
    · intro j z hj
      rw [GN_apply, if_pos (by omega), GD_apply]
  · by_cases h2 : o.val < 2560
    · rw [fst_k _ _ _ a l r hr (⟨o.val / 128 - 16, by omega⟩ : Fin 4) (⟨o.val % 128, Nat.mod_lt _ (by decide)⟩ : Fin 128) o
        (by show o.val = 2048 + 128 * (o.val / 128 - 16) + o.val % 128; omega), tk_apply]
      refine Eq.trans ?_ (head_eq X g W gq gk hX hg hW a l r hr (o.val / 128) (by omega) o ⟨o.val % 128, Nat.mod_lt _ (by decide)⟩
        (by show o.val = 128 * (o.val / 128) + o.val % 128; omega) (fun z => gk (ix1 z)) 1 ?_)
      · refine congrArg (fun f => turn f _ _) (funext fun z => (kn_apply _ _ a l _ z).trans ?_)
        rw [mul_one]
        refine congrArg (fun f => rnrm f _ z) (funext fun y => ?_)
        exact (kr_apply _ a l _ y ⟨128 * (o.val / 128) + y.val, by have := y.isLt; omega⟩
          (by show 128 * (o.val / 128) + y.val = 2048 + 128 * (o.val / 128 - 16) + y.val; omega)).trans (pro_apply X g W a l _ r hr)
      · intro j z hj
        rw [GN_apply, if_neg (by omega), if_pos (by omega), GD_apply, mul_one]
    · rw [fst_v _ _ _ a l r hr (⟨o.val / 128 - 20, by omega⟩ : Fin 4) (⟨o.val % 128, Nat.mod_lt _ (by decide)⟩ : Fin 128) o
        (by show o.val = 2560 + 128 * (o.val / 128 - 20) + o.val % 128; omega)]
      unfold PACK
      rw [if_neg (by show ¬o.val < 2560; exact h2)]
      refine (vr_apply _ a l _ _ o (by show o.val = 2560 + 128 * (o.val / 128 - 20) + o.val % 128; omega)).trans ?_
      exact (pro_apply X g W a l o r hr).trans (prj_val X g W r o (by omega)).symm

end

/-- The second results agree. -/
theorem snd_eq (a : Fin 2) (l : Fin 4096) (r : Fin 8192) (hr : r.val = 4096 * a.val + l.val) (o : Fin 1024) :
    SND (VR (PRO X g W)) (ix2 r o) = VAUG X g (WQ W) (ix2 r o) := by
  have ho := o.isLt
  unfold VAUG
  by_cases h : o.val % 256 < 128
  · refine Eq.trans ?_ (dif_pos h).symm
    rw [snd_v _ a l r hr (⟨o.val / 256, by omega⟩ : Fin 4) (⟨o.val % 256, h⟩ : Fin 128) o (by show o.val = 256 * (o.val / 256) + o.val % 256; omega)]
    refine (vr_apply _ a l _ _ (⟨2560 + 128 * (o.val / 256) + o.val % 256, by omega⟩ : Fin 3072) rfl).trans ?_
    exact (pro_apply X g W a l _ r hr).trans (prj_val X g W r _ (by show 2560 ≤ 2560 + 128 * (o.val / 256) + o.val % 256; omega)).symm
  · refine (snd_one _ r o h).trans (Eq.symm (dif_neg ?_))
    exact h

/-- The third results agree. -/
theorem trd_eq (a : Fin 2) (k : Fin 4) (d : Fin 144) (l : Fin 4096) : TRD (VR (PRO X g W)) (ix4 a k d l) = VTR X g (WQ W) (ix4 a k d l) := by
  have ha := a.isLt
  have hk := k.isLt
  have hl := l.isLt
  unfold VTR
  by_cases h : d.val < 128
  · refine Eq.trans ?_ (dif_pos h).symm
    rw [trd_v _ a k d l h]
    refine (vr_apply _ a l _ _ (⟨2560 + 128 * k.val + d.val, by omega⟩ : Fin 3072) rfl).trans ?_
    exact (pro_apply X g W a l _ ⟨4096 * a.val + l.val, by omega⟩ rfl).trans (prj_val X g W _ _ (by show 2560 ≤ 2560 + 128 * k.val + d.val; omega)).symm
  · refine (trd_one _ a k d l h).trans (Eq.symm (dif_neg ?_))
    exact h

end

theorem frame_p : Cert.quiescent_Kernel5 := fun m g _ => Cert.Kernel5.Gen.frame m g
theorem frame_pi : Cert.quiescent_Kernel5Ideal := fun m g _ => Cert.Kernel5Ideal.Gen.frame m g
theorem frame_pi_pre : Cert.quiescent_Kernel5Ideal_pre_finite_projection := fun m g _ => Cert.Kernel5Ideal.Gen.frame m g
theorem frame_ri : Cert.quiescent_Reference5Ideal := fun m g _ =>
  (θ_run Cert.Reference5Ideal.defs _ _).mono (fun r h => ⟨fun c => (h c).2.2.2, sem_eq_zero_of_no_sems (by decide) r.2⟩) (Cert.Reference5Ideal.Value.run m g)
theorem frame_ri_pre : Cert.quiescent_Reference5Ideal_pre_finite_projection := fun m g _ => frame_ri m g trivial

theorem algebraic : Cert.algebraic_Kernel5Ideal_Reference5Ideal_pre_finite_projection := by
  intro m g m' g' hpre hargs
  refine ⟨fun c => (Cert.Kernel5Ideal.Gen.dats m 0 c).arrAt 6 Cert.Kernel5Ideal.cfg0.N, fun c => (Cert.Kernel5Ideal.Gen.dats m 0 c).arrAt 7 Cert.Kernel5Ideal.cfg0.N,
    fun c => (Cert.Kernel5Ideal.Gen.dats m 0 c).arrAt 8 Cert.Kernel5Ideal.cfg0.N, ?_, ?_⟩
  · exact (θ_run _ _ _).mono (fun r hr c => ⟨(hr.1 c).1 6, (hr.1 c).1 7, (hr.1 c).1 8, hr.2 c⟩)
      (θ_run_and (Cert.Kernel5Ideal.Gen.run_main m g) (Cert.Kernel5Ideal.Gen.unchanged m g))
  · refine (θ_run Cert.Reference5Ideal.defs _ _).mono (fun r h c => ⟨(h c).1.trans ?_, (h c).2.1.trans ?_, (h c).2.2.1.trans ?_, (h c).2.2.2⟩)
      (Cert.Reference5Ideal.Value.run m' g')
    · have e := Cert.Pre_finite_projection.decode _ _ _ _ _ (hpre c)
      refine Eq.trans ?_ (value6 m c).symm
      refine (res0_eq m' c).trans ?_
      obtain ⟨a0, a1, a2, a3, a4⟩ := hargs c
      rw [a0, a1, a2, a3, a4]
      funext i
      obtain ⟨r, o, rfl⟩ : ∃ (r : Fin 8192) (o : Fin 3072), i = ix2 r o := ⟨i 0, i 1, by funext z; match z with | ⟨0, _⟩ => rfl | ⟨1, _⟩ => rfl⟩
      have hr := r.isLt
      exact out_eq _ _ _ _ _ e.1 e.2.1 e.2.2 (⟨r.val / 4096, by omega⟩ : Fin 2) (⟨r.val % 4096, Nat.mod_lt _ (by decide)⟩ : Fin 4096) r
        (by show r.val = 4096 * (r.val / 4096) + r.val % 4096; omega) o
    · refine Eq.trans ?_ (value7 m c).symm
      obtain ⟨a0, a1, a2, a3, a4⟩ := hargs c
      rw [a0, a1, a2]
      funext i
      obtain ⟨r, o, rfl⟩ : ∃ (r : Fin 8192) (o : Fin 1024), i = ix2 r o := ⟨i 0, i 1, by funext z; match z with | ⟨0, _⟩ => rfl | ⟨1, _⟩ => rfl⟩
      have hr := r.isLt
      exact snd_eq _ _ _ (⟨r.val / 4096, by omega⟩ : Fin 2) (⟨r.val % 4096, Nat.mod_lt _ (by decide)⟩ : Fin 4096) r
        (by show r.val = 4096 * (r.val / 4096) + r.val % 4096; omega) o
    · refine Eq.trans ?_ (value8 m c).symm
      obtain ⟨a0, a1, a2, a3, a4⟩ := hargs c
      rw [a0, a1, a2]
      funext i
      obtain ⟨a, k, d, l, rfl⟩ : ∃ (a : Fin 2) (k : Fin 4) (d : Fin 144) (l : Fin 4096), i = ix4 a k d l :=
        ⟨i 0, i 1, i 2, i 3, by funext z; match z with | ⟨0, _⟩ => rfl | ⟨1, _⟩ => rfl | ⟨2, _⟩ => rfl | ⟨3, _⟩ => rfl⟩
      exact trd_eq _ _ _ a k d l

end Cert.Proof.Qkv

end
-- ==== Proof.FilterHost.lean ====
/- The filter call's host operations: the table of the lags' features, its rows in the call's order, and the padding of the features and of the first
   layer's weights. -/
module

public import proofs.«01_k».proof.Defs
public import proofs.«01_k».proof.Proof.Gen.Kernel6Ideal.Frame
public import proofs.«01_k».proof.Proof.Gen.Reference6Ideal.Run
public import Idealize.ShloMosaic.Lib.Claim
public import Idealize.ShloMosaic.Lib.KernelVsHost
public import Idealize.ShloMosaic.Lib.Pipeline.ValueKit
public import Idealize.ShloMosaic.Lib.Pipeline.ReadBack
public import Idealize.ShloMosaic.Lib.Pointwise

@[expose] public section

set_option maxRecDepth 16384
noncomputable section

open Idealize.ShloMosaic Idealize.ShloMosaic.TcCoe Idealize.SL.Sem

namespace Cert.Reference6Ideal.Lags

open Cert.Reference6Ideal Cert.Reference6Ideal.Gen

/-- The lags, from zero to one. -/
def TIMES : FVec Ideal S4096x1 .f32 :=
  broadcastInDim S4096x1 ![0] bcast_S4096_S4096x1_0 (concatenate S4096 0 [⟨S4095, addf
      (mulf (broadcastInDim S4095 ![0] bcast_S1_S4095_0 (shapeCast _ (id (constant S_ .f32 0x00000000#32)) shapeCasts_S_S1)) (subf (broadcastInDim S4095 ![] bcast_S_S4095 (constant S_ .f32 0x3F800000#32)) (Host.divf (sitofp .f32 (iotaInDim S4095 32 0)) (broadcastInDim S4095 ![] bcast_S_S4095 (constant S_ .f32 0x457FF000#32)))))
      (mulf (broadcastInDim S4095 ![0] bcast_S1_S4095_0 (shapeCast _ (id (constant S_ .f32 0x3F800000#32)) shapeCasts_S_S1)) (Host.divf (sitofp .f32 (iotaInDim S4095 32 0)) (broadcastInDim S4095 ![] bcast_S_S4095 (constant S_ .f32 0x457FF000#32))))⟩,
    ⟨S1, broadcastInDim S1 ![] bcast_S_S1 (id (constant S_ .f32 0x3F800000#32))⟩] concatenates_S4095_S1_S4096_d0)

/-- The sixteen bands' frequencies. -/
def BANDS : FVec Ideal S16 .f32 :=
  concatenate S16 0 [⟨S15, addf
      (mulf (broadcastInDim S15 ![0] bcast_S1_S15_0 (shapeCast _ (id (constant S_ .f32 0x38D1B717#32)) shapeCasts_S_S1)) (subf (broadcastInDim S15 ![] bcast_S_S15 (constant S_ .f32 0x3F800000#32)) (Host.divf (sitofp .f32 (iotaInDim S15 32 0)) (broadcastInDim S15 ![] bcast_S_S15 (constant S_ .f32 0x41700000#32)))))
      (mulf (broadcastInDim S15 ![0] bcast_S1_S15_0 (shapeCast _ (sitofp .f32 (constantI S_ 32 15#32)) shapeCasts_S_S1)) (Host.divf (sitofp .f32 (iotaInDim S15 32 0)) (broadcastInDim S15 ![] bcast_S_S15 (constant S_ .f32 0x41700000#32))))⟩,
    ⟨S1, broadcastInDim S1 ![] bcast_S_S1 (sitofp .f32 (constantI S_ 32 15#32))⟩] concatenates_S15_S1_S16_d0

/-- The angle of each lag in each band. -/
def ANGLES : FVec Ideal S4096x16 .f32 :=
  mulf (broadcastInDim S4096x16 ![0, 1] bcast_S1x16_S4096x16_0_1 (broadcastInDim S1x16 ![1] bcast_S16_S1x16_1 BANDS))
    (broadcastInDim S4096x16 ![0, 1] bcast_S4096x1_S4096x16_0_1 (Host.divf (mulf (broadcastInDim S4096x1 ![] bcast_S_S4096x1 (constant S_ .f32 0x40C90FDB#32)) (broadcastInDim S4096x1 ![0] bcast_S4096_S4096x1_0 (sitofp .f32 (iotaInDim S4096 32 0)))) (broadcastInDim S4096x1 ![] bcast_S_S4096x1 (constant S_ .f32 0x45800000#32))))

/-- The features of each lag: the lag, and the cosine and the negated sine of its angles. -/
def TABLE : FVec Ideal S4096x33 .f32 :=
  concatenate S4096x33 1 [⟨S4096x1, TIMES⟩, ⟨S4096x16, Host.cos ANGLES⟩, ⟨S4096x16, Host.negf (Host.sin ANGLES)⟩] concatenates_S4096x1_S4096x16_S4096x16_S4096x33_d1

end Cert.Reference6Ideal.Lags

namespace Cert.Kernel6Ideal.RefValue

open Cert.Kernel6Ideal Cert.Kernel6Ideal.Gen
open Cert.Reference6Ideal.Lags (TABLE)

/-- The features with their rows in the call's order, and columns of zeros after them. -/
def FEAT : FVec Ideal S4096x128 .f32 :=
  pad S4096x128 ![0, 0] ![0, 95] ![0, 0]
    (shapeCast S4096x33 (transpose S128x32x33 [1, 0, 2] (shapeCast S32x128x33 (TABLE : FVec Ideal S4096x33 .f32) shapeCasts_S4096x33_S32x128x33) transposes_S32x128x33_S128x32x33_1_0_2) shapeCasts_S128x32x33_S4096x33)
    (sitofp (F := Ideal) .f32 (constantI S_ 32 0#32)) pads_S4096x33_S4096x128_000_0950 h_S_

/-- The first layer's weights with rows of zeros after them. -/
def WPAD (w : Vec Ideal S33x64 .f32) : FVec Ideal S128x64 .f32 :=
  pad S128x64 ![0, 0] ![95, 0] ![0, 0] w (sitofp (F := Ideal) .f32 (constantI S_ 32 0#32)) pads_S33x64_S128x64_0950_000 h_S_

variable (m : (ℓ : Loc nD τ sig) → Buf (Elt Ideal) ℓ)

theorem V_z (c : Dev nD) : V m c main_v26 = FEAT := by
  show StableHlo.after (List.flatten [hostOps0 (F := Ideal), hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil,
    List.append_nil, List.cons_append, List.nil_append, StableHlo.TRef.binary, StableHlo.TRef.nullary, StableHlo.TRef.reshape, StableHlo.TRef.unary,
    StableHlo.TRef.toBuf, StableHlo.TRef.ofBuf, cast_eq]
  after_results_simp <;> (try dsimp only [Matrix.cons_val]) <;> (try after_results_simp) <;> rfl

theorem V_w (c : Dev nD) : V m c main_v27 = WPAD (m ((c : Thread nD τ).loc main_arg0)) := by
  show StableHlo.after (List.flatten [hostOps0 (F := Ideal), hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil,
    List.append_nil, List.cons_append, List.nil_append, StableHlo.TRef.binary, StableHlo.TRef.nullary, StableHlo.TRef.reshape, StableHlo.TRef.unary,
    StableHlo.TRef.toBuf, StableHlo.TRef.ofBuf, cast_eq]
  after_results_simp <;> rfl

theorem V_b (c : Dev nD) : V m c main_v28 = broadcastInDim S1x64 ![1] bcast_S64_S1x64_1 (m ((c : Thread nD τ).loc main_arg1)) := by
  show StableHlo.after (List.flatten [hostOps0 (F := Ideal), hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil,
    List.append_nil, List.cons_append, List.nil_append, StableHlo.TRef.binary, StableHlo.TRef.nullary, StableHlo.TRef.reshape, StableHlo.TRef.unary,
    StableHlo.TRef.toBuf, StableHlo.TRef.ofBuf, cast_eq]
  after_results_simp <;> rfl

theorem V_bin (c : Dev nD) : V m c main_v29 = broadcastInDim S2x1x64 ![0, 2] bcast_S2x64_S2x1x64_0_2 (m ((c : Thread nD τ).loc main_arg3)) := by
  show StableHlo.after (List.flatten [hostOps0 (F := Ideal), hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil,
    List.append_nil, List.cons_append, List.nil_append, StableHlo.TRef.binary, StableHlo.TRef.nullary, StableHlo.TRef.reshape, StableHlo.TRef.unary,
    StableHlo.TRef.toBuf, StableHlo.TRef.ofBuf, cast_eq]
  after_results_simp <;> rfl

theorem V_f (c : Dev nD) : V m c main_v30 = broadcastInDim S1x64 ![1] bcast_S64_S1x64_1 (m ((c : Thread nD τ).loc main_arg4)) := by
  show StableHlo.after (List.flatten [hostOps0 (F := Ideal), hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil,
    List.append_nil, List.cons_append, List.nil_append, StableHlo.TRef.binary, StableHlo.TRef.nullary, StableHlo.TRef.reshape, StableHlo.TRef.unary,
    StableHlo.TRef.toBuf, StableHlo.TRef.ofBuf, cast_eq]
  after_results_simp <;> rfl

/-- The lag of a row in the call's order. -/
def lag (r : Fin 4096) : Fin 4096 := ⟨128 * (r.val % 32) + r.val / 32, by have := r.isLt; omega⟩

theorem FEAT_in (r : Fin 4096) (k : Fin 33) : FEAT (ix2 r (⟨k.val, by have := k.isLt; omega⟩ : Fin 128)) = TABLE (ix2 (lag r) k) := by
  have hr := r.isLt
  have hk := k.isLt
  unfold FEAT
  refine (pad_apply_of_inside _ _ _ _ _ _ _ _ (ix2 r k) (fun a => by match a with | ⟨0, _⟩ => simp [ix2] | ⟨1, _⟩ => simp [ix2])).trans ?_
  pointwise
  refine congrArg TABLE ?_
  funext z
  match z with
  | ⟨0, _⟩ => exact Fin.ext (by show _ = 128 * (r.val % 32) + r.val / 32; simp; omega)
  | ⟨1, _⟩ => exact Fin.ext (by simp)

theorem FEAT_out (r : Fin 4096) (k : Fin 128) (h : 33 ≤ k.val) : FEAT (ix2 r k) = 0 := by
  unfold FEAT
  refine (pad_apply_of_not_inside _ _ _ _ _ _ _ _ (1 : Fin 2) (by simp [ix2]; omega)).trans ?_
  show (((0#32 : BitVec 32).toInt : ℝ) : EReal) = 0
  simp

theorem WPAD_in (w : Vec Ideal S33x64 .f32) (k : Fin 33) (q : Fin 64) : WPAD w (ix2 (⟨k.val, by have := k.isLt; omega⟩ : Fin 128) q) = w (ix2 k q) := by
  unfold WPAD
  exact pad_apply_of_inside _ _ _ _ _ _ _ _ (ix2 k q) (fun a => by match a with | ⟨0, _⟩ => simp [ix2] | ⟨1, _⟩ => simp [ix2])

/-- A product over the padded columns is a product over the features. -/
theorem sum_pad (w : Vec Ideal S33x64 .f32) (r : Fin 4096) (q : Fin 64) :
    (∑ k : Fin 128, FEAT (ix2 r k) * WPAD w (ix2 k q)) = ∑ k : Fin 33, TABLE (ix2 (lag r) k) * w (ix2 k q) := by
  refine (Fin.sum_univ_add (a := 33) (b := 95) (fun k : Fin 128 => FEAT (ix2 r k) * WPAD w (ix2 k q))).trans ?_
  have h0 : (∑ k : Fin 95, FEAT (ix2 r (Fin.natAdd 33 k : Fin 128)) * WPAD w (ix2 (Fin.natAdd 33 k : Fin 128) q)) = 0 := by
    refine Finset.sum_eq_zero fun k _ => ?_
    rw [FEAT_out r _ (Nat.le_add_right 33 k.val), zero_mul]
  refine (congrArg₂ (· + ·) (Finset.sum_congr rfl fun k _ => ?_) h0).trans (add_zero _)
  exact congrArg₂ (· * ·) (FEAT_in r k) (WPAD_in w k q)

end Cert.Kernel6Ideal.RefValue

end
-- ==== Proof.FilterClaims.lean ====
/- The claims about the filter's network: each row of the call's result is three layers of sines of its lag's features, and so is the reference's. -/
module

public import proofs.«01_k».proof.Proof.FilterHost
public import proofs.«01_k».proof.Proof.Gen.Kernel6.Frame

@[expose] public section

set_option maxRecDepth 16384
noncomputable section

open Idealize.ShloMosaic Idealize.ShloMosaic.TcCoe Idealize.SL.Sem
open Idealize.ShloMosaic.Pipeline (Dat)

namespace Cert.Kernel6Ideal.RefValue

open Cert.Kernel6Ideal Cert.Kernel6Ideal.Gen
open Cert.Reference6Ideal.Lags (TABLE)

/-- The sine of a frequency times a row's product with the weights plus the bias. -/
def act (f b s : EReal) : EReal := Ideal.sin (f * (s + b))

/-- The second and the third layer over a row of the first. -/
def deep (u : Fin 64 → EReal) (w : Fin 2 → Fin 64 → Fin 64 → EReal) (b : Fin 2 → Fin 64 → EReal) (f : Fin 64 → EReal) (q : Fin 64) : EReal :=
  act (f q) (b 1 q) (∑ j : Fin 64, act (f j) (b 0 j) (∑ k : Fin 64, u k * w 0 k j) * w 1 j q)

/-- The call's result from its five arguments. -/
def NET (w1 : Vec Ideal S33x64 .f32) (b1 : Vec Ideal S64 .f32) (w : Vec Ideal S2x64x64 .f32) (b : Vec Ideal S2x64 .f32) (f : Vec Ideal S64 .f32) :
    Vec Ideal S4096x64 .f32 := fun i =>
  deep (fun p => act (f (ix1 p)) (b1 (ix1 p)) (∑ k : Fin 33, TABLE (ix2 (lag (i 0)) k) * w1 (ix2 k p)))
    (fun l k j => w (ix3 l k j)) (fun l j => b (ix2 l j)) (fun j => f (ix1 j)) (i 1)

theorem pay_apply (v0 : Vec Ideal S1x64 .f32) (v2 : Vec Ideal S512x128 .f32) (v4 : Vec Ideal S128x64 .f32) (v7 : Vec Ideal S1x64 .f32) (v14 : Vec Ideal S1x64x64 .f32)
    (v17 : Vec Ideal S1x1x64 .f32) (v24 : Vec Ideal S1x64x64 .f32) (v27 : Vec Ideal S1x1x64 .f32) (p : Fin 512) (q : Fin 64) :
    k0_pay1 v0 v2 v4 v7 v14 v17 v24 v27 (ix2 p q)
      = act (v0 (ix2 (0 : Fin 1) q)) (v27 (ix3 (0 : Fin 1) (0 : Fin 1) q)) (∑ j : Fin 64,
          act (v0 (ix2 (0 : Fin 1) j)) (v17 (ix3 (0 : Fin 1) (0 : Fin 1) j)) (∑ k : Fin 64,
            act (v0 (ix2 (0 : Fin 1) k)) (v7 (ix2 (0 : Fin 1) k)) (∑ e : Fin 128, v2 (ix2 p e) * v4 (ix2 e k)) * v14 (ix3 (0 : Fin 1) k j)) * v24 (ix3 (0 : Fin 1) j q)) := by
  unfold k0_pay1 act
  pointwise

/-- What a grid point leaves in its block. -/
theorem block (x0 : Vec Ideal S512x128 .f32) (x1 : Vec Ideal S128x64 .f32) (x2 : Vec Ideal S1x64 .f32) (x3 : Vec Ideal S2x64x64 .f32) (x4 : Vec Ideal S2x1x64 .f32)
    (x5 : Vec Ideal S1x64 .f32) (y : S512x64.Idx) : out0_6 x0 x1 x2 x3 x4 x5 y
      = deep (fun p => act (x5 (ix2 (0 : Fin 1) p)) (x2 (ix2 (0 : Fin 1) p)) (∑ k : Fin 128, x0 (ix2 (y 0) k) * x1 (ix2 k p)))
          (fun l k j => x3 (ix3 l k j)) (fun l j => x4 (ix3 l (0 : Fin 1) j)) (fun j => x5 (ix2 (0 : Fin 1) j)) (y 1) := by
  obtain ⟨p, q, rfl⟩ : ∃ (p : Fin 512) (q : Fin 64), y = ix2 p q := ⟨y 0, y 1, by funext z; match z with | ⟨0, _⟩ => rfl | ⟨1, _⟩ => rfl⟩
  have h3 : ∀ (k j : Fin 64), View.ld x3 r0_3 (ix3 (0 : Fin 1) k j) = x3 (ix3 (0 : Fin 2) k j) := fun k j =>
    View.ld_unit_apply_of _ _ _ _ _ _ (fun a => by match a with | ⟨0, _⟩ => rfl | ⟨1, _⟩ => exact (Nat.zero_add _).symm | ⟨2, _⟩ => exact (Nat.zero_add _).symm)
  have h5 : ∀ (k j : Fin 64), View.ld x3 r0_5 (ix3 (0 : Fin 1) k j) = x3 (ix3 (1 : Fin 2) k j) := fun k j =>
    View.ld_unit_apply_of _ _ _ _ _ _ (fun a => by match a with | ⟨0, _⟩ => rfl | ⟨1, _⟩ => exact (Nat.zero_add _).symm | ⟨2, _⟩ => exact (Nat.zero_add _).symm)
  have h4 : ∀ j : Fin 64, View.ld x4 r0_4 (ix3 (0 : Fin 1) (0 : Fin 1) j) = x4 (ix3 (0 : Fin 2) (0 : Fin 1) j) := fun j =>
    View.ld_unit_apply_of _ _ _ _ _ _ (fun a => by match a with | ⟨0, _⟩ => rfl | ⟨1, _⟩ => rfl | ⟨2, _⟩ => exact (Nat.zero_add _).symm)
  have h6 : ∀ j : Fin 64, View.ld x4 r0_6 (ix3 (0 : Fin 1) (0 : Fin 1) j) = x4 (ix3 (1 : Fin 2) (0 : Fin 1) j) := fun j =>
    View.ld_unit_apply_of _ _ _ _ _ _ (fun a => by match a with | ⟨0, _⟩ => rfl | ⟨1, _⟩ => rfl | ⟨2, _⟩ => exact (Nat.zero_add _).symm)
  unfold out0_6
  frame_out
  refine (pay_apply _ _ _ _ _ _ _ _ p q).trans ?_
  simp only [View.ld_unit_zero, h3, h4, h5, h6]
  rfl

/-- The windows' block indices at every grid point. -/
theorem idx : ∀ t : Fin cfg0.N, win0_0.index t = ![t.val, 0] ∧ win0_1.index t = ![0, 0] ∧ win0_2.index t = ![0, 0] ∧ win0_3.index t = ![0, 0, 0]
    ∧ win0_4.index t = ![0, 0, 0] ∧ win0_5.index t = ![0, 0] ∧ win0_6.index t = ![t.val, 0] := by
  decide +kernel

variable (m : (ℓ : Loc nD τ sig) → Buf (Elt Ideal) ℓ)

/-- The windows' blocks at a grid point, entry by entry. -/
theorem blk_z (c : Dev nD) (t : Fin cfg0.N) (p : Fin 512) (k : Fin 128) (r : Fin 4096) (hr : r.val = 512 * t.val + p.val) :
    iblk m c 0 t (ix2 p k) = FEAT (ix2 r k) := by
  have e0 := fun t => (idx t).1
  rw [← V_z m c]
  blk_ext [iblk, e0, hr]

theorem blk_w (c : Dev nD) (t : Fin cfg0.N) (k : Fin 128) (q : Fin 64) : iblk m c 1 t (ix2 k q) = WPAD (m ((c : Thread nD τ).loc main_arg0)) (ix2 k q) := by
  have e1 := fun t => (idx t).2.1
  rw [← V_w m c]
  blk_ext [iblk, e1]

theorem blk_b (c : Dev nD) (t : Fin cfg0.N) (q : Fin 64) : iblk m c 2 t (ix2 (0 : Fin 1) q) = m ((c : Thread nD τ).loc main_arg1) (ix1 q) := by
  have e2 := fun t => (idx t).2.2.1
  have h : iblk m c 2 t (ix2 (0 : Fin 1) q) = V m c main_v28 (ix2 (0 : Fin 1) q) := by blk_ext [iblk, e2]
  rw [h, V_b m c]
  pointwise

theorem blk_win (c : Dev nD) (t : Fin cfg0.N) (l : Fin 2) (k j : Fin 64) : iblk m c 3 t (ix3 l k j) = m ((c : Thread nD τ).loc main_arg2) (ix3 l k j) := by
  have e3 := fun t => (idx t).2.2.2.1
  rw [← V_main_arg2 m c]
  blk_ext [iblk, e3]

theorem blk_bin (c : Dev nD) (t : Fin cfg0.N) (l : Fin 2) (j : Fin 64) : iblk m c 4 t (ix3 l (0 : Fin 1) j) = m ((c : Thread nD τ).loc main_arg3) (ix2 l j) := by
  have e4 := fun t => (idx t).2.2.2.2.1
  have h : iblk m c 4 t (ix3 l (0 : Fin 1) j) = V m c main_v29 (ix3 l (0 : Fin 1) j) := by blk_ext [iblk, e4]
  rw [h, V_bin m c]
  pointwise

theorem blk_f (c : Dev nD) (t : Fin cfg0.N) (q : Fin 64) : iblk m c 5 t (ix2 (0 : Fin 1) q) = m ((c : Thread nD τ).loc main_arg4) (ix1 q) := by
  have e5 := fun t => (idx t).2.2.2.2.2.1
  have h : iblk m c 5 t (ix2 (0 : Fin 1) q) = V m c main_v30 (ix2 (0 : Fin 1) q) := by blk_ext [iblk, e5]
  rw [h, V_f m c]
  pointwise

theorem deep_congr {u u' : Fin 64 → EReal} {w w' : Fin 2 → Fin 64 → Fin 64 → EReal} {b b' : Fin 2 → Fin 64 → EReal} {f f' : Fin 64 → EReal} (q : Fin 64)
    (hu : ∀ p, u p = u' p) (hw : ∀ l k j, w l k j = w' l k j) (hb : ∀ l j, b l j = b' l j) (hf : ∀ j, f j = f' j) : deep u w b f q = deep u' w' b' f' q := by
  obtain rfl : u = u' := funext hu
  obtain rfl : w = w' := funext fun l => funext fun k => funext fun j => hw l k j
  obtain rfl : b = b' := funext fun l => funext fun j => hb l j
  obtain rfl : f = f' := funext hf
  rfl

/-- A grid point's block is its rows of the call's result. -/
theorem block_at (c : Dev nD) (t : Fin cfg0.N) (y : S512x64.Idx) (r : Fin 4096) (hr : r.val = 512 * t.val + (y 0).val) :
    out0_6 (iblk m c 0 t) (iblk m c 1 t) (iblk m c 2 t) (iblk m c 3 t) (iblk m c 4 t) (iblk m c 5 t) y
      = NET (m ((c : Thread nD τ).loc main_arg0)) (m ((c : Thread nD τ).loc main_arg1)) (m ((c : Thread nD τ).loc main_arg2)) (m ((c : Thread nD τ).loc main_arg3))
          (m ((c : Thread nD τ).loc main_arg4)) (ix2 r (y 1)) := by
  refine (block _ _ _ _ _ _ y).trans ?_
  unfold NET
  refine deep_congr _ (fun p => ?_) (fun l k j => blk_win m c t l k j) (fun l j => blk_bin m c t l j) (fun j => blk_f m c t j)
  refine (congrArg₂ (fun a b => act a b _) (blk_f m c t p) (blk_b m c t p)).trans (congrArg (act _ _) ?_)
  exact (Finset.sum_congr rfl fun k _ => congrArg₂ (fun a b : EReal => a * b) (blk_z m c t (y 0) k r hr) (blk_w m c t k p)).trans (sum_pad _ r p)

theorem value (c : Dev nD) : (dats m 0 c).arrAt 6 cfg0.N
    = NET (m ((c : Thread nD τ).loc main_arg0)) (m ((c : Thread nD τ).loc main_arg1)) (m ((c : Thread nD τ).loc main_arg2)) (m ((c : Thread nD τ).loc main_arg3))
        (m ((c : Thread nD τ).loc main_arg4)) := by
  refine (dats m 0 c).arrAt_eq_of_covers 6 _ (by decide +kernel) fun t hf y => ?_
  have e6 := fun t => (idx t).2.2.2.2.2.2
  have ht : t.val < 8 := t.isLt
  have hy : (y 0).val < 512 := (y 0).isLt
  blk_simp
  rw [after0_6]
  refine (block_at m c t y ⟨512 * t.val + (y 0).val, by omega⟩ rfl).trans ?_
  blk_ext [e6]

/-- The call's run: its result holds its blocks, and its arguments are unchanged. -/
theorem run_blocks (g : Dev nD → PrngReg) : θ_run (defs (F := Ideal)) (onTc (τ := τ) (main (F := Ideal))) ⟨m, fun _ => 0, g⟩ (fun r => ∀ c : Dev nD,
    r.2.mem ((c.tc : Thread nD τ).loc main_v31) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 6, h.2 c⟩) (θ_run_and (run_main m g) (unchanged m g))

end Cert.Kernel6Ideal.RefValue

namespace Cert.Proof.Filter

theorem frame_p : Cert.quiescent_Kernel6 := fun m g _ => Cert.Kernel6.Gen.frame m g
theorem frame_pi : Cert.quiescent_Kernel6Ideal := fun m g _ => Cert.Kernel6Ideal.Gen.frame m g
theorem frame_ri : Cert.quiescent_Reference6Ideal := fun m g _ =>
  (θ_run Cert.Reference6Ideal.defs _ _).mono (fun r h => ⟨fun c => (h c).2, sem_eq_zero_of_no_sems (by decide) r.2⟩) (Cert.Reference6Ideal.Value.run m g)

section

open Cert.Reference6Ideal Cert.Reference6Ideal.Gen
open Cert.Kernel6Ideal.RefValue (act deep lag NET)

theorem ref_apply (z : FVec Ideal S4096x33 .f32) (w1 : FVec Ideal S33x64 .f32) (b1 : FVec Ideal S64 .f32) (w : FVec Ideal S2x64x64 .f32) (b : FVec Ideal S2x64 .f32)
    (f : FVec Ideal S64 .f32) (r : Fin 4096) (q : Fin 64) :
    shapeCast S4096x64 (transpose S128x32x64 [1, 0, 2] (shapeCast S32x128x64 (Host.sin (mulf (broadcastInDim S4096x64 ![0, 1] bcast_S1x64_S4096x64_0_1 (broadcastInDim S1x64 ![1] bcast_S64_S1x64_1 f))
      (addf (Host.dotGeneral dot_S4096x64_S64x64_S4096x64_1_0_0_1_n_n none
        (Host.sin (mulf (broadcastInDim S4096x64 ![0, 1] bcast_S1x64_S4096x64_0_1 (broadcastInDim S1x64 ![1] bcast_S64_S1x64_1 f))
          (addf (Host.dotGeneral dot_S4096x64_S64x64_S4096x64_1_0_0_1_n_n none
            (Host.sin (mulf (broadcastInDim S4096x64 ![0, 1] bcast_S1x64_S4096x64_0_1 (broadcastInDim S1x64 ![1] bcast_S64_S1x64_1 f))
              (addf (Host.dotGeneral dot_S4096x33_S33x64_S4096x64_1_0_0_1_n_n none z w1) (broadcastInDim S4096x64 ![0, 1] bcast_S1x64_S4096x64_0_1 (broadcastInDim S1x64 ![1] bcast_S64_S1x64_1 b1)))))
            (shapeCast S64x64 (extractStridedSlice S1x64x64 ![0, 0, 0] w slices_S2x64x64_S1x64x64_0_0_0) shapeCasts_S1x64x64_S64x64))
          (broadcastInDim S4096x64 ![0, 1] bcast_S1x64_S4096x64_0_1 (broadcastInDim S1x64 ![1] bcast_S64_S1x64_1 (shapeCast S64 (extractStridedSlice S1x64 ![0, 0] b slices_S2x64_S1x64_0_0) shapeCasts_S1x64_S64))))))
        (shapeCast S64x64 (extractStridedSlice S1x64x64 ![1, 0, 0] w slices_S2x64x64_S1x64x64_1_0_0) shapeCasts_S1x64x64_S64x64))
      (broadcastInDim S4096x64 ![0, 1] bcast_S1x64_S4096x64_0_1 (broadcastInDim S1x64 ![1] bcast_S64_S1x64_1 (shapeCast S64 (extractStridedSlice S1x64 ![1, 0] b slices_S2x64_S1x64_1_0) shapeCasts_S1x64_S64))))))
      shapeCasts_S4096x64_S32x128x64) transposes_S32x128x64_S128x32x64_1_0_2) shapeCasts_S128x32x64_S4096x64 (ix2 r q)
      = deep (fun p => act (f (ix1 p)) (b1 (ix1 p)) (∑ k : Fin 33, z (ix2 (lag r) k) * w1 (ix2 k p))) (fun l k j => w (ix3 l k j)) (fun l j => b (ix2 l j)) (fun j => f (ix1 j)) q := by
  have hr := r.isLt
  have hq := q.isLt
  have hl : ∀ x : FVec Ideal S4096x64 .f32, shapeCast S4096x64 (transpose S128x32x64 [1, 0, 2] (shapeCast S32x128x64 x shapeCasts_S4096x64_S32x128x64)
      transposes_S32x128x64_S128x32x64_1_0_2) shapeCasts_S128x32x64_S4096x64 (ix2 r q) = x (ix2 (lag r) q) := fun x => by
    pointwise
    refine congrArg x ?_
    funext z
    match z with
    | ⟨0, _⟩ => exact Fin.ext (by show _ = 128 * (r.val % 32) + r.val / 32; simp; omega)
    | ⟨1, _⟩ => exact Fin.ext (by simp)
  refine (hl _).trans ?_
  unfold deep act
  pointwise

end

theorem algebraic : Cert.algebraic_Kernel6Ideal_Reference6Ideal := by
  intro m g m' g' _ hargs
  refine ⟨fun c => (Cert.Kernel6Ideal.Gen.dats m 0 c).arrAt 6 Cert.Kernel6Ideal.cfg0.N, ?_, ?_⟩
  · exact Cert.Kernel6Ideal.RefValue.run_blocks m g
  · refine (θ_run Cert.Reference6Ideal.defs _ _).mono (fun r h c => ⟨(h c).1.trans ?_, (h c).2⟩) (Cert.Reference6Ideal.Value.run m' g')
    refine Eq.trans ?_ (Cert.Kernel6Ideal.RefValue.value m c).symm
    obtain ⟨a0, a1, a2, a3, a4⟩ := hargs c
    unfold Cert.Reference6Ideal.Value.res_main_v54
    rw [a0, a1, a2, a3, a4]
    funext y
    obtain ⟨t, o, rfl⟩ : ∃ (t : Fin 4096) (o : Fin 64), y = ix2 t o :=
      ⟨y 0, y 1, by funext z; match z with | ⟨0, _⟩ => rfl | ⟨1, _⟩ => rfl⟩
    exact ref_apply Cert.Reference6Ideal.Lags.TABLE _ _ _ _ _ t o

end Cert.Proof.Filter

end
-- ==== Proof.SpectraHost.lean ====
/- The spectra's call's host operations: the table of the transform along the 128 remaining points, over real parts above imaginary ones, and its
   transpose. -/
module

public import proofs.«01_k».proof.Defs
public import proofs.«01_k».proof.Proof.ExpertsMath
public import proofs.«01_k».proof.Proof.Gen.Kernel7Ideal.Value
public import proofs.«01_k».proof.Proof.Gen.Reference7Ideal.Run
public import Idealize.ShloMosaic.Lib.Claim
public import Idealize.ShloMosaic.Lib.KernelVsHost
public import Idealize.ShloMosaic.Lib.Pipeline.ValueKit
public import Idealize.ShloMosaic.Lib.Pipeline.ReadBack
public import Idealize.ShloMosaic.Lib.Pointwise

@[expose] public section

set_option maxRecDepth 16384
noncomputable section

open Idealize.ShloMosaic Idealize.ShloMosaic.TcCoe Idealize.SL.Sem

namespace Cert.Reference7Ideal.Turns

open Cert.Reference7Ideal Cert.Reference7Ideal.Gen

/-- The number of points, as the remainder's divisor. -/
def POINTS : IVec S_ 32 :=
  select (cmpi .eq (id (constantI S_ 32 128#32)) (constantI S_ 32 0#32)) (constantI S_ 32 1#32) (id (constantI S_ 32 128#32))

/-- The remainders of the products of two points. -/
def REM : IVec S128x128 32 :=
  Host.remsi (muli (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0)))) (broadcastInDim S128x128 ![] bcast_S_S128x128 POINTS)

/-- The angles of the transform. -/
def ANG : FVec Ideal S128x128 .f32 :=
  mulf (sitofp .f32 (select (andi (cmpi .ne (cmpi .slt REM (broadcastInDim S128x128 ![] bcast_S_S128x128 (constantI S_ 32 0#32))) (broadcastInDim S128x128 ![] bcast_S_S128x128 (cmpi .slt POINTS (constantI S_ 32 0#32)))) (cmpi .ne REM (broadcastInDim S128x128 ![] bcast_S_S128x128 (constantI S_ 32 0#32)))) (addi REM (broadcastInDim S128x128 ![] bcast_S_S128x128 POINTS)) REM)) (broadcastInDim S128x128 ![] bcast_S_S128x128 (constant S_ .f32 0x3D490FDB#32))

def COS : FVec Ideal S128x128 .f32 := Host.cos ANG
def SIN : FVec Ideal S128x128 .f32 := Host.sin ANG
def NSIN : FVec Ideal S128x128 .f32 := Host.negf SIN

end Cert.Reference7Ideal.Turns

namespace Cert.Kernel7Ideal.RefValue

open Cert.Kernel7Ideal Cert.Kernel7Ideal.Gen
open Cert.Reference7Ideal.Turns (COS SIN NSIN)

/-- The transform's table over real parts above imaginary ones. -/
def FT : FVec Ideal S256x256 .f32 :=
  concatenate S256x256 0 [⟨S128x256, concatenate S128x256 1 [⟨S128x128, (COS : FVec Ideal S128x128 .f32)⟩, ⟨S128x128, (SIN : FVec Ideal S128x128 .f32)⟩] concatenates_S128x128_S128x128_S128x256_d1⟩,
    ⟨S128x256, concatenate S128x256 1 [⟨S128x128, (NSIN : FVec Ideal S128x128 .f32)⟩, ⟨S128x128, (COS : FVec Ideal S128x128 .f32)⟩] concatenates_S128x128_S128x128_S128x256_d1⟩]
    concatenates_S128x256_S128x256_S256x256_d0

variable (m : (ℓ : Loc nD τ sig) → Buf (Elt Ideal) ℓ)

set_option maxHeartbeats 4000000 in
theorem V_f (c : Dev nD) : V m c main_v70 = truncf .bf16 FT bitsLt_bf16_f32 := by
  show StableHlo.after (List.flatten [hostOps0 (F := Ideal), hostOps0_1, hostOps0_2, hostOps0_3, hostOps0_4, hostOps0_5, hostOps0_6]) _ _ = _
  simp only [hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.ternary, StableHlo.TRef.unary,
    StableHlo.TRef.toBuf, StableHlo.TRef.ofBuf, cast_eq]
  after_results_simp <;> (try dsimp only [Matrix.cons_val]) <;> (try after_results_simp) <;> rfl

set_option maxHeartbeats 4000000 in
theorem V_g (c : Dev nD) : V m c main_v71 = truncf .bf16 (transpose S256x256 [1, 0] FT transposes_S256x256_S256x256_1_0) bitsLt_bf16_f32 := by
  show StableHlo.after (List.flatten [hostOps0 (F := Ideal), hostOps0_1, hostOps0_2, hostOps0_3, hostOps0_4, hostOps0_5, hostOps0_6]) _ _ = _
  simp only [hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.ternary, StableHlo.TRef.unary,
    StableHlo.TRef.toBuf, StableHlo.TRef.ofBuf, cast_eq]
  after_results_simp <;> (try dsimp only [Matrix.cons_val]) <;> (try after_results_simp) <;> rfl

end Cert.Kernel7Ideal.RefValue

end
-- ==== Proof.SpectraBlock.lean ====
/- What a grid point of the spectra's call leaves: the product of the sequences' transform with the filter's, and its transform back, for one column. -/
module

public import proofs.«01_k».proof.Proof.SpectraHost

@[expose] public section

set_option maxRecDepth 16384
noncomputable section

open Idealize.ShloMosaic Idealize.ShloMosaic.TcCoe Idealize.SL.Sem

namespace Cert.Kernel7Ideal.RefValue

open Cert.Kernel7Ideal Cert.Kernel7Ideal.Gen
open Cert.Reference7Ideal.Turns (COS SIN NSIN)
open Cert.Experts (loW hiW)

/-- The rows of the upper and of the lower half. -/
def up (j : Fin 128) : Fin 256 := ⟨j.val, by have := j.isLt; omega⟩
def dn (j : Fin 128) : Fin 256 := ⟨128 + j.val, by have := j.isLt; omega⟩

theorem up_or_dn (p : Fin 256) : (∃ j, p = up j) ∨ ∃ j, p = dn j := by
  have := p.isLt
  by_cases h : p.val < 128
  · exact Or.inl ⟨⟨p.val, h⟩, rfl⟩
  · exact Or.inr ⟨⟨p.val - 128, by omega⟩, Fin.ext (by show p.val = 128 + (p.val - 128); omega)⟩

/-- One column's real parts above its imaginary ones. -/
def stack (x y : Fin 128 → EReal) (k : Fin 256) : EReal :=
  if h : k.val < 128 then x ⟨k.val, h⟩ else y ⟨k.val - 128, by have := k.isLt; omega⟩

theorem stack_up (x y : Fin 128 → EReal) (j : Fin 128) : stack x y (up j) = x j := dif_pos j.isLt

theorem stack_dn (x y : Fin 128 → EReal) (j : Fin 128) : stack x y (dn j) = y j := by
  unfold stack dn
  rw [dif_neg (by simp)]
  exact congrArg y (Fin.ext (by simp))

/-- A product over both halves is the sum of the products over each. -/
theorem sum_stack (f : Fin 256 → EReal) (x y : Fin 128 → EReal) :
    (∑ k : Fin 256, f k * stack x y k) = (∑ k : Fin 128, f (up k) * x k) + ∑ k : Fin 128, f (dn k) * y k := by
  refine (Fin.sum_univ_add (a := 128) (b := 128) (fun k : Fin 256 => f k * stack x y k)).trans ?_
  exact congrArg₂ (fun a b : EReal => a + b) (Finset.sum_congr rfl fun k _ => congrArg (f (up k) * ·) (stack_up x y k))
    (Finset.sum_congr rfl fun k _ => congrArg (f (dn k) * ·) (stack_dn x y k))

/-- A table's product with one column of words. -/
def tr (f : Fin 256 → Fin 256 → EReal) (w : Fin 128 → BitVec 32) (p : Fin 256) : EReal :=
  ∑ k : Fin 256, f p k * stack (fun j => loW (w j)) (fun j => hiW (w j)) k

/-- The filter's transform: its forward half's plus the conjugate of its backward half's, both scaled. -/
def kre (f : Fin 256 → Fin 256 → EReal) (u v : Fin 128 → BitVec 32) (s : EReal) (j : Fin 128) : EReal := (tr f u (up j) + tr f v (up j)) * s
def kim (f : Fin 256 → Fin 256 → EReal) (u v : Fin 128 → BitVec 32) (s : EReal) (j : Fin 128) : EReal := (tr f u (dn j) - tr f v (dn j)) * s

/-- One column of the call's result. -/
def col (f g : Fin 256 → Fin 256 → EReal) (a u v : Fin 128 → BitVec 32) (s : EReal) (p : Fin 256) : EReal :=
  ∑ k : Fin 256, g p k * stack
    (fun j => tr f a (up j) * kre f u v s j - tr f a (dn j) * kim f u v s j)
    (fun j => tr f a (up j) * kim f u v s j + tr f a (dn j) * kre f u v s j) k

theorem pay3_apply (v0 : Vec Ideal S256x256 .bf16) (v2 : Vec Ideal S1x128x2048 .i32) (p : Fin 256) (d : Fin 2048) :
    k0_pay3 v0 v2 (ix2 p d) = tr (fun p k => v0 (ix2 p k)) (fun k => v2 (ix3 (0 : Fin 1) k d)) p := by
  unfold k0_pay3 k0_pay2 tr stack loW hiW
  pointwise

theorem pay4_apply (v0 : Vec Ideal S256x256 .bf16) (v2 : Vec Ideal S1x128x2048 .i32) (p : Fin 256) (d : Fin 2048) :
    k0_pay4 v0 v2 (ix2 p d) = tr (fun p k => v0 (ix2 p k)) (fun k => v2 (ix3 (0 : Fin 1) k d)) p := pay3_apply v0 v2 p d

theorem upper (x : Vec Ideal S256x2048 .f32) (j : Fin 128) (d : Fin 2048) :
    extractStridedSlice S128x2048 ![0, 0] x slices_S256x2048_o0_0_S128x2048 (ix2 j d) = x (ix2 (up j) d) := by
  unfold up
  pointwise
  try rfl

theorem lower (x : Vec Ideal S256x2048 .f32) (j : Fin 128) (d : Fin 2048) :
    extractStridedSlice S128x2048 ![128, 0] x slices_S256x2048_o128_0_S128x2048 (ix2 j d) = x (ix2 (dn j) d) := by
  unfold dn
  pointwise
  try rfl

theorem pay5_apply (v0 : Vec Ideal S256x256 .bf16) (v2 v13 : Vec Ideal S1x128x2048 .i32) (v24 : Vec Ideal S1x2048 .f32) (j : Fin 128) (d : Fin 2048) :
    k0_pay5 v0 v2 v13 v24 (ix2 j d)
      = kre (fun p k => v0 (ix2 p k)) (fun k => v2 (ix3 (0 : Fin 1) k d)) (fun k => v13 (ix3 (0 : Fin 1) k d)) (v24 (ix2 (0 : Fin 1) d)) j := by
  have e1 := (upper (k0_pay3 v0 v2) j d).trans (pay3_apply v0 v2 (up j) d)
  have e2 := (upper (k0_pay4 v0 v13) j d).trans (pay4_apply v0 v13 (up j) d)
  unfold k0_pay5 kre
  refine congrArg₂ (fun a b : EReal => a * b) (congrArg₂ (fun a b : EReal => a + b) e1 e2) ?_
  pointwise

theorem pay6_apply (v0 : Vec Ideal S256x256 .bf16) (v2 v13 : Vec Ideal S1x128x2048 .i32) (v24 : Vec Ideal S1x2048 .f32) (j : Fin 128) (d : Fin 2048) :
    k0_pay6 v0 v2 v13 v24 (ix2 j d)
      = kim (fun p k => v0 (ix2 p k)) (fun k => v2 (ix3 (0 : Fin 1) k d)) (fun k => v13 (ix3 (0 : Fin 1) k d)) (v24 (ix2 (0 : Fin 1) d)) j := by
  have e1 := (lower (k0_pay3 v0 v2) j d).trans (pay3_apply v0 v2 (dn j) d)
  have e2 := (lower (k0_pay4 v0 v13) j d).trans (pay4_apply v0 v13 (dn j) d)
  unfold k0_pay6 kim
  refine congrArg₂ (fun a b : EReal => a * b) (congrArg₂ (fun a b : EReal => a - b) e1 e2) ?_
  pointwise

/-- The product of the spectra and its transform back. -/
def BACK (x : FVec Ideal S256x2048 .f32) (kr ki : FVec Ideal S128x2048 .f32) (g : Vec Ideal S256x256 .bf16) : FVec Ideal S1x256x2048 .bf16 :=
  shapeCast S1x256x2048 (truncf .bf16 (matmul dot_S256x256_S256x2048_S256x2048_1_0_0_1_n_n none (shapeCast S256x256 g shapeCasts_S256x256_S256x256 : FVec Ideal S256x256 .bf16)
    (truncf .bf16 (concatenate S256x2048 0
      [⟨S128x2048, subf (mulf (extractStridedSlice S128x2048 ![0, 0] x slices_S256x2048_o0_0_S128x2048) kr) (mulf (extractStridedSlice S128x2048 ![128, 0] x slices_S256x2048_o128_0_S128x2048) ki)⟩,
       ⟨S128x2048, addf (mulf (extractStridedSlice S128x2048 ![0, 0] x slices_S256x2048_o0_0_S128x2048) ki) (mulf (extractStridedSlice S128x2048 ![128, 0] x slices_S256x2048_o128_0_S128x2048) kr)⟩]
      concatenates_S128x2048_S128x2048_S256x2048_d0) bitsLt_bf16_f32)
    (constant S256x2048 .f32 0x00000000#32)) bitsLt_bf16_f32) shapeCasts_S256x2048_S1x256x2048

theorem back_apply (x : FVec Ideal S256x2048 .f32) (kr ki : FVec Ideal S128x2048 .f32) (g : Vec Ideal S256x256 .bf16) (p : Fin 256) (d : Fin 2048) :
    BACK x kr ki g (ix3 (0 : Fin 1) p d) = ∑ k : Fin 256, g (ix2 p k) * stack
      (fun j => x (ix2 (up j) d) * kr (ix2 j d) - x (ix2 (dn j) d) * ki (ix2 j d))
      (fun j => x (ix2 (up j) d) * ki (ix2 j d) + x (ix2 (dn j) d) * kr (ix2 j d)) k := by
  unfold BACK stack up dn
  pointwise

theorem pay1_eq (v0 : Vec Ideal S256x256 .bf16) (kr ki : FVec Ideal S128x2048 .f32) (a : Vec Ideal S1x128x2048 .i32) (g : Vec Ideal S256x256 .bf16) :
    k0_pay1 (k0_pay2 v0) kr ki (k0_pay7 (F := Ideal) a) k0_pay8 g = BACK (k0_pay3 v0 a) kr ki g := rfl

/-- What a grid point leaves in its block. -/
theorem block (x0 x1 x2 : Vec Ideal S1x128x2048 .i32) (x3 : Vec Ideal S1x2048 .f32) (x4 x5 : Vec Ideal S256x256 .bf16) (p : Fin 256) (d : Fin 2048) :
    out0_6 x0 x1 x2 x3 x4 x5 (ix3 (0 : Fin 1) p d)
      = col (fun p k => x4 (ix2 p k)) (fun p k => x5 (ix2 p k)) (fun k => x0 (ix3 (0 : Fin 1) k d)) (fun k => x1 (ix3 (0 : Fin 1) k d))
          (fun k => x2 (ix3 (0 : Fin 1) k d)) (x3 (ix2 (0 : Fin 1) d)) p := by
  unfold out0_6
  frame_out
  rw [pay1_eq]
  refine (back_apply _ _ _ _ p d).trans ?_
  unfold col
  simp only [pay3_apply, pay5_apply, pay6_apply]

end Cert.Kernel7Ideal.RefValue

end
-- ==== Proof.SpectraClaims.lean ====
/- The claims about the product of the spectra: each column of the call's result is the product of the sequences' transform with the filter's,
   transformed back, and so is the reference's. -/
module

public import proofs.«01_k».proof.Proof.SpectraBlock
public import proofs.«01_k».proof.Proof.Gen.Kernel7.Frame

@[expose] public section

set_option maxRecDepth 16384
noncomputable section

open Idealize.ShloMosaic Idealize.ShloMosaic.TcCoe Idealize.SL.Sem
open Idealize.ShloMosaic.Pipeline (Dat)

namespace Cert.Kernel7Ideal.RefValue

open Cert.Kernel7Ideal Cert.Kernel7Ideal.Gen
open Cert.Reference7Ideal.Turns (COS SIN NSIN)

/-- The transform's table and its transpose, entry by entry. -/
def ft (p k : Fin 256) : EReal := FT (ix2 p k)
def gt (p k : Fin 256) : EReal := FT (ix2 k p)

theorem FT_uu (j k : Fin 128) : FT (ix2 (up j) (up k)) = COS (ix2 j k) := by
  unfold FT up
  pointwise

theorem FT_ud (j k : Fin 128) : FT (ix2 (up j) (dn k)) = SIN (ix2 j k) := by
  unfold FT up dn
  pointwise

theorem FT_du (j k : Fin 128) : FT (ix2 (dn j) (up k)) = NSIN (ix2 j k) := by
  unfold FT up dn
  pointwise

theorem FT_dd (j k : Fin 128) : FT (ix2 (dn j) (dn k)) = COS (ix2 j k) := by
  unfold FT dn
  pointwise

/-- The call's result from its three arguments. -/
def SPECTRA (a : Vec Ideal S64x128x2048 .i32) (af : Vec Ideal S64x128x4096 .i32) (s : Vec Ideal S1x2048 .f32) : Vec Ideal S64x256x2048 .bf16 := fun i =>
  col ft gt (fun k => a (ix3 (i 0) k (i 2))) (fun k => af (ix3 (i 0) k (⟨(i 2).val, by have : (i 2).val < 2048 := (i 2).isLt; omega⟩ : Fin 4096)))
    (fun k => af (ix3 (i 0) k (⟨2048 + (i 2).val, by have : (i 2).val < 2048 := (i 2).isLt; omega⟩ : Fin 4096))) (s (ix2 (0 : Fin 1) (i 2))) (i 1)

/-- The windows' block indices at every grid point. -/
theorem idx : ∀ t : Fin cfg0.N, win0_0.index t = ![t.val, 0, 0] ∧ win0_1.index t = ![t.val, 0, 0] ∧ win0_2.index t = ![t.val, 0, 1] ∧ win0_3.index t = ![0, 0]
    ∧ win0_4.index t = ![0, 0] ∧ win0_5.index t = ![0, 0] ∧ win0_6.index t = ![t.val, 0, 0] := by
  decide +kernel

variable (m : (ℓ : Loc nD τ sig) → Buf (Elt Ideal) ℓ)

/-- The windows' blocks at a grid point, entry by entry. -/
theorem blk_a (c : Dev nD) (t : Fin cfg0.N) (n : Fin 64) (hn : n.val = t.val) (k : Fin 128) (d : Fin 2048) :
    iblk m c 0 t (ix3 (0 : Fin 1) k d) = m ((c : Thread nD τ).loc main_arg0) (ix3 n k d) := by
  have e0 := fun t => (idx t).1
  rw [← V_main_arg0 m c]
  blk_ext [iblk, e0, hn]

theorem blk_u (c : Dev nD) (t : Fin cfg0.N) (n : Fin 64) (hn : n.val = t.val) (k : Fin 128) (d : Fin 2048) (e : Fin 4096) (he : e.val = d.val) :
    iblk m c 1 t (ix3 (0 : Fin 1) k d) = m ((c : Thread nD τ).loc main_arg1) (ix3 n k e) := by
  have e1 := fun t => (idx t).2.1
  rw [← V_main_arg1 m c]
  blk_ext [iblk, e1, hn, he]

theorem blk_v (c : Dev nD) (t : Fin cfg0.N) (n : Fin 64) (hn : n.val = t.val) (k : Fin 128) (d : Fin 2048) (e : Fin 4096) (he : e.val = 2048 + d.val) :
    iblk m c 2 t (ix3 (0 : Fin 1) k d) = m ((c : Thread nD τ).loc main_arg1) (ix3 n k e) := by
  have e2 := fun t => (idx t).2.2.1
  rw [← V_main_arg1 m c]
  blk_ext [iblk, e2, hn, he]

theorem blk_s (c : Dev nD) (t : Fin cfg0.N) (d : Fin 2048) :
    iblk m c 3 t (ix2 (0 : Fin 1) d) = m ((c : Thread nD τ).loc main_arg2) (ix2 (0 : Fin 1) d) := by
  have e3 := fun t => (idx t).2.2.2.1
  rw [← V_main_arg2 m c]
  blk_ext [iblk, e3]

theorem blk_f (c : Dev nD) (t : Fin cfg0.N) (p k : Fin 256) : iblk m c 4 t (ix2 p k) = ft p k := by
  have e4 := fun t => (idx t).2.2.2.2.1
  have h : iblk m c 4 t (ix2 p k) = V m c main_v70 (ix2 p k) := by blk_ext [iblk, e4]
  rw [h, V_f m c]
  rfl

theorem blk_g (c : Dev nD) (t : Fin cfg0.N) (p k : Fin 256) : iblk m c 5 t (ix2 p k) = gt p k := by
  have e5 := fun t => (idx t).2.2.2.2.2.1
  have h : iblk m c 5 t (ix2 p k) = V m c main_v71 (ix2 p k) := by blk_ext [iblk, e5]
  rw [h, V_g m c]
  unfold gt
  pointwise

theorem col_congr {f f' g g' : Fin 256 → Fin 256 → EReal} {a a' u u' v v' : Fin 128 → BitVec 32} {s s' : EReal} (p : Fin 256)
    (hf : ∀ p k, f p k = f' p k) (hg : ∀ p k, g p k = g' p k) (ha : ∀ k, a k = a' k) (hu : ∀ k, u k = u' k) (hv : ∀ k, v k = v' k) (hs : s = s') :
    col f g a u v s p = col f' g' a' u' v' s' p := by
  obtain rfl : f = f' := funext fun p => funext fun k => hf p k
  obtain rfl : g = g' := funext fun p => funext fun k => hg p k
  obtain rfl : a = a' := funext ha
  obtain rfl : u = u' := funext hu
  obtain rfl : v = v' := funext hv
  rw [hs]

/-- A grid point's block is its part of the call's result. -/
theorem block_at (c : Dev nD) (t : Fin cfg0.N) (y : S1x256x2048.Idx) (n : Fin 64) (hn : n.val = t.val) :
    out0_6 (iblk m c 0 t) (iblk m c 1 t) (iblk m c 2 t) (iblk m c 3 t) (iblk m c 4 t) (iblk m c 5 t) y
      = SPECTRA (m ((c : Thread nD τ).loc main_arg0)) (m ((c : Thread nD τ).loc main_arg1)) (m ((c : Thread nD τ).loc main_arg2)) (ix3 n (y 1) (y 2)) := by
  obtain ⟨p, d, rfl⟩ : ∃ (p : Fin 256) (d : Fin 2048), y = ix3 (0 : Fin 1) p d :=
    ⟨y 1, y 2, by funext z; match z with | ⟨0, _⟩ => exact Subsingleton.elim (α := Fin 1) _ _ | ⟨1, _⟩ => rfl | ⟨2, _⟩ => rfl⟩
  refine (block _ _ _ _ _ _ p d).trans ?_
  unfold SPECTRA
  exact col_congr p (fun p k => blk_f m c t p k) (fun p k => blk_g m c t p k) (fun k => blk_a m c t n hn k d)
    (fun k => blk_u m c t n hn k d _ rfl) (fun k => blk_v m c t n hn k d _ rfl) (blk_s m c t d)

theorem value (c : Dev nD) : (dats m 0 c).arrAt 6 cfg0.N
    = SPECTRA (m ((c : Thread nD τ).loc main_arg0)) (m ((c : Thread nD τ).loc main_arg1)) (m ((c : Thread nD τ).loc main_arg2)) := by
  refine (dats m 0 c).arrAt_eq_of_covers 6 _ (by decide +kernel) fun t hf y => ?_
  have e6 := fun t => (idx t).2.2.2.2.2.2
  have ht : t.val < 64 := t.isLt
  blk_simp
  rw [after0_6]
  refine (block_at m c t y ⟨t.val, ht⟩ rfl).trans ?_
  blk_ext [e6]

end Cert.Kernel7Ideal.RefValue

namespace Cert.Proof.Spectra

theorem frame_p : Cert.quiescent_Kernel7 := fun m g _ => Cert.Kernel7.Gen.frame m g
theorem frame_pi : Cert.quiescent_Kernel7Ideal := fun m g _ => Cert.Kernel7Ideal.Gen.frame m g
theorem frame_ri : Cert.quiescent_Reference7Ideal := fun m g _ =>
  (θ_run Cert.Reference7Ideal.defs _ _).mono (fun r h => ⟨fun c => (h c).2, sem_eq_zero_of_no_sems (by decide) r.2⟩) (Cert.Reference7Ideal.Value.run m g)

section

open Cert.Reference7Ideal Cert.Reference7Ideal.Gen
open Cert.Reference7Ideal.Turns (COS SIN NSIN)
open Cert.Kernel7Ideal.RefValue (up dn up_or_dn stack stack_up stack_dn sum_stack tr kre kim col ft gt FT_uu FT_ud FT_du FT_dd SPECTRA)
open Cert.Experts (loW hiW)

/-- The real and the imaginary part of every word. -/
def LO (w : IVec S64x128x2048 32) : FVec Ideal S64x128x2048 .f32 :=
  bitcastToFloat (F := Ideal) .f32 (Host.shli w (broadcastInDim S64x128x2048 ![] bcast_S_S64x128x2048 (constantI S_ 32 16#32)))
def HI (w : IVec S64x128x2048 32) : FVec Ideal S64x128x2048 .f32 :=
  bitcastToFloat (F := Ideal) .f32 (andi w (broadcastInDim S64x128x2048 ![] bcast_S_S64x128x2048 (constantI S_ 32 4294901760#32)))

/-- The sum of two products with a table along the points: over the table's second axis, and over its first. -/
def FWD (x y : FVec Ideal S64x128x2048 .f32) (c s : FVec Ideal S128x128 .f32) : FVec Ideal S64x128x2048 .f32 :=
  addf (transpose S64x128x2048 [0, 2, 1] (Host.dotGeneral dot_S64x128x2048_S128x128_S64x2048x128_1_1_02_0_n_n none x c) transposes_S64x2048x128_S64x128x2048_0_2_1)
    (transpose S64x128x2048 [0, 2, 1] (Host.dotGeneral dot_S64x128x2048_S128x128_S64x2048x128_1_1_02_0_n_n none y s) transposes_S64x2048x128_S64x128x2048_0_2_1)
def BWD (x y : FVec Ideal S64x128x2048 .f32) (c s : FVec Ideal S128x128 .f32) : FVec Ideal S64x128x2048 .f32 :=
  addf (transpose S64x128x2048 [0, 2, 1] (Host.dotGeneral dot_S64x128x2048_S128x128_S64x2048x128_1_0_02_1_n_n none x c) transposes_S64x2048x128_S64x128x2048_0_2_1)
    (transpose S64x128x2048 [0, 2, 1] (Host.dotGeneral dot_S64x128x2048_S128x128_S64x2048x128_1_0_02_1_n_n none y s) transposes_S64x2048x128_S64x128x2048_0_2_1)

theorem fwd_apply (x y : FVec Ideal S64x128x2048 .f32) (c s : FVec Ideal S128x128 .f32) (n : Fin 64) (j : Fin 128) (d : Fin 2048) :
    FWD x y c s (ix3 n j d) = (∑ k : Fin 128, x (ix3 n k d) * c (ix2 j k)) + ∑ k : Fin 128, y (ix3 n k d) * s (ix2 j k) := by
  unfold FWD
  pointwise

theorem bwd_apply (x y : FVec Ideal S64x128x2048 .f32) (c s : FVec Ideal S128x128 .f32) (n : Fin 64) (j : Fin 128) (d : Fin 2048) :
    BWD x y c s (ix3 n j d) = (∑ k : Fin 128, x (ix3 n k d) * c (ix2 k j)) + ∑ k : Fin 128, y (ix3 n k d) * s (ix2 k j) := by
  unfold BWD
  pointwise

theorem lo_apply (w : IVec S64x128x2048 32) (i : S64x128x2048.Idx) : LO w i = loW (w i) := by
  unfold LO
  rw [hostShli_eq_shli]
  rfl

theorem hi_apply (w : IVec S64x128x2048 32) (i : S64x128x2048.Idx) : HI w i = hiW (w i) := rfl

/-- The transform's real and imaginary parts are the table's upper and lower rows. -/
theorem fwd_up (w : IVec S64x128x2048 32) (n : Fin 64) (j : Fin 128) (d : Fin 2048) :
    FWD (LO w) (HI w) COS SIN (ix3 n j d) = tr ft (fun k => w (ix3 n k d)) (up j) := by
  refine (fwd_apply _ _ _ _ n j d).trans (Eq.trans ?_ (sum_stack (ft (up j)) _ _).symm)
  refine congrArg₂ (fun a b : EReal => a + b) (Finset.sum_congr rfl fun k _ => ?_) (Finset.sum_congr rfl fun k _ => ?_)
  · exact (mul_comm _ _).trans (congrArg₂ (fun a b : EReal => a * b) (FT_uu j k).symm (lo_apply w _))
  · exact (mul_comm _ _).trans (congrArg₂ (fun a b : EReal => a * b) (FT_ud j k).symm (hi_apply w _))

theorem fwd_dn (w : IVec S64x128x2048 32) (n : Fin 64) (j : Fin 128) (d : Fin 2048) :
    FWD (LO w) (HI w) NSIN COS (ix3 n j d) = tr ft (fun k => w (ix3 n k d)) (dn j) := by
  refine (fwd_apply _ _ _ _ n j d).trans (Eq.trans ?_ (sum_stack (ft (dn j)) _ _).symm)
  refine congrArg₂ (fun a b : EReal => a + b) (Finset.sum_congr rfl fun k _ => ?_) (Finset.sum_congr rfl fun k _ => ?_)
  · exact (mul_comm _ _).trans (congrArg₂ (fun a b : EReal => a * b) (FT_du j k).symm (lo_apply w _))
  · exact (mul_comm _ _).trans (congrArg₂ (fun a b : EReal => a * b) (FT_dd j k).symm (hi_apply w _))

/-- So are the transform back's the transposed table's. -/
theorem bwd_up (x y : FVec Ideal S64x128x2048 .f32) (n : Fin 64) (j : Fin 128) (d : Fin 2048) :
    BWD x y COS NSIN (ix3 n j d) = ∑ k : Fin 256, gt (up j) k * stack (fun k => x (ix3 n k d)) (fun k => y (ix3 n k d)) k := by
  refine (bwd_apply _ _ _ _ n j d).trans (Eq.trans ?_ (sum_stack (gt (up j)) _ _).symm)
  refine congrArg₂ (fun a b : EReal => a + b) (Finset.sum_congr rfl fun k _ => ?_) (Finset.sum_congr rfl fun k _ => ?_)
  · exact (mul_comm _ _).trans (congrArg (fun a : EReal => a * x (ix3 n k d)) (FT_uu k j).symm)
  · exact (mul_comm _ _).trans (congrArg (fun a : EReal => a * y (ix3 n k d)) (FT_du k j).symm)

theorem bwd_dn (x y : FVec Ideal S64x128x2048 .f32) (n : Fin 64) (j : Fin 128) (d : Fin 2048) :
    BWD x y SIN COS (ix3 n j d) = ∑ k : Fin 256, gt (dn j) k * stack (fun k => x (ix3 n k d)) (fun k => y (ix3 n k d)) k := by
  refine (bwd_apply _ _ _ _ n j d).trans (Eq.trans ?_ (sum_stack (gt (dn j)) _ _).symm)
  refine congrArg₂ (fun a b : EReal => a + b) (Finset.sum_congr rfl fun k _ => ?_) (Finset.sum_congr rfl fun k _ => ?_)
  · exact (mul_comm _ _).trans (congrArg (fun a : EReal => a * x (ix3 n k d)) (FT_ud k j).symm)
  · exact (mul_comm _ _).trans (congrArg (fun a : EReal => a * y (ix3 n k d)) (FT_dd k j).symm)

/-- The filter's forward and backward halves. -/
def FIRST (w : IVec S64x128x4096 32) : IVec S64x128x2048 32 := extractStridedSlice S64x128x2048 ![0, 0, 0] w slices_S64x128x4096_S64x128x2048_0_0_0
def SECOND (w : IVec S64x128x4096 32) : IVec S64x128x2048 32 := extractStridedSlice S64x128x2048 ![0, 0, 2048] w slices_S64x128x4096_S64x128x2048_0_0_2048

/-- The scale at every point. -/
def SCALE (s : FVec Ideal S1x2048 .f32) : FVec Ideal S64x128x2048 .f32 :=
  broadcastInDim S64x128x2048 ![0, 1, 2] bcast_S1x1x2048_S64x128x2048_0_1_2 (broadcastInDim S1x1x2048 ![1, 2] bcast_S1x2048_S1x1x2048_1_2 s)

def KR (w : IVec S64x128x4096 32) (s : FVec Ideal S1x2048 .f32) : FVec Ideal S64x128x2048 .f32 :=
  mulf (addf (FWD (LO (FIRST w)) (HI (FIRST w)) COS SIN) (FWD (LO (SECOND w)) (HI (SECOND w)) COS SIN)) (SCALE s)
def KI (w : IVec S64x128x4096 32) (s : FVec Ideal S1x2048 .f32) : FVec Ideal S64x128x2048 .f32 :=
  mulf (subf (FWD (LO (FIRST w)) (HI (FIRST w)) NSIN COS) (FWD (LO (SECOND w)) (HI (SECOND w)) NSIN COS)) (SCALE s)

def YR (a : IVec S64x128x2048 32) (w : IVec S64x128x4096 32) (s : FVec Ideal S1x2048 .f32) : FVec Ideal S64x128x2048 .f32 :=
  subf (mulf (FWD (LO a) (HI a) COS SIN) (KR w s)) (mulf (FWD (LO a) (HI a) NSIN COS) (KI w s))
def YI (a : IVec S64x128x2048 32) (w : IVec S64x128x4096 32) (s : FVec Ideal S1x2048 .f32) : FVec Ideal S64x128x2048 .f32 :=
  addf (mulf (FWD (LO a) (HI a) COS SIN) (KI w s)) (mulf (FWD (LO a) (HI a) NSIN COS) (KR w s))

/-- The reference's result from its three arguments. -/
def REF (a : IVec S64x128x2048 32) (w : IVec S64x128x4096 32) (s : FVec Ideal S1x2048 .f32) : FVec Ideal S64x256x2048 .bf16 :=
  truncf .bf16 (concatenate S64x256x2048 1 [⟨S64x128x2048, BWD (YR a w s) (YI a w s) COS NSIN⟩, ⟨S64x128x2048, BWD (YR a w s) (YI a w s) SIN COS⟩]
    concatenates_S64x128x2048_S64x128x2048_S64x256x2048_d1) bitsLt_bf16_f32

theorem ref_up (a : IVec S64x128x2048 32) (w : IVec S64x128x4096 32) (s : FVec Ideal S1x2048 .f32) (n : Fin 64) (j : Fin 128) (d : Fin 2048) :
    REF a w s (ix3 n (up j) d) = BWD (YR a w s) (YI a w s) COS NSIN (ix3 n j d) := by
  unfold REF up
  pointwise

theorem ref_dn (a : IVec S64x128x2048 32) (w : IVec S64x128x4096 32) (s : FVec Ideal S1x2048 .f32) (n : Fin 64) (j : Fin 128) (d : Fin 2048) :
    REF a w s (ix3 n (dn j) d) = BWD (YR a w s) (YI a w s) SIN COS (ix3 n j d) := by
  unfold REF dn
  pointwise

theorem first_apply (w : IVec S64x128x4096 32) (n : Fin 64) (k : Fin 128) (d : Fin 2048) :
    FIRST w (ix3 n k d) = w (ix3 n k (⟨d.val, by have := d.isLt; omega⟩ : Fin 4096)) := by
  unfold FIRST
  pointwise

theorem second_apply (w : IVec S64x128x4096 32) (n : Fin 64) (k : Fin 128) (d : Fin 2048) :
    SECOND w (ix3 n k d) = w (ix3 n k (⟨2048 + d.val, by have := d.isLt; omega⟩ : Fin 4096)) := by
  unfold SECOND
  pointwise

theorem scale_apply (s : FVec Ideal S1x2048 .f32) (n : Fin 64) (k : Fin 128) (d : Fin 2048) : SCALE s (ix3 n k d) = s (ix2 (0 : Fin 1) d) := by
  unfold SCALE
  pointwise

section

variable (a : IVec S64x128x2048 32) (w : IVec S64x128x4096 32) (s : FVec Ideal S1x2048 .f32) (n : Fin 64) (j : Fin 128) (d : Fin 2048)

theorem kr_apply : KR w s (ix3 n j d) = kre ft (fun k => FIRST w (ix3 n k d)) (fun k => SECOND w (ix3 n k d)) (s (ix2 (0 : Fin 1) d)) j :=
  congrArg₂ (fun a b : EReal => a * b) (congrArg₂ (fun a b : EReal => a + b) (fwd_up (FIRST w) n j d) (fwd_up (SECOND w) n j d)) (scale_apply s n j d)

theorem ki_apply : KI w s (ix3 n j d) = kim ft (fun k => FIRST w (ix3 n k d)) (fun k => SECOND w (ix3 n k d)) (s (ix2 (0 : Fin 1) d)) j :=
  congrArg₂ (fun a b : EReal => a * b) (congrArg₂ (fun a b : EReal => a - b) (fwd_dn (FIRST w) n j d) (fwd_dn (SECOND w) n j d)) (scale_apply s n j d)

theorem yr_apply : YR a w s (ix3 n j d) = tr ft (fun k => a (ix3 n k d)) (up j) * kre ft (fun k => FIRST w (ix3 n k d)) (fun k => SECOND w (ix3 n k d)) (s (ix2 (0 : Fin 1) d)) j
    - tr ft (fun k => a (ix3 n k d)) (dn j) * kim ft (fun k => FIRST w (ix3 n k d)) (fun k => SECOND w (ix3 n k d)) (s (ix2 (0 : Fin 1) d)) j :=
  congrArg₂ (fun a b : EReal => a - b) (congrArg₂ (fun a b : EReal => a * b) (fwd_up a n j d) (kr_apply w s n j d))
    (congrArg₂ (fun a b : EReal => a * b) (fwd_dn a n j d) (ki_apply w s n j d))

theorem yi_apply : YI a w s (ix3 n j d) = tr ft (fun k => a (ix3 n k d)) (up j) * kim ft (fun k => FIRST w (ix3 n k d)) (fun k => SECOND w (ix3 n k d)) (s (ix2 (0 : Fin 1) d)) j
    + tr ft (fun k => a (ix3 n k d)) (dn j) * kre ft (fun k => FIRST w (ix3 n k d)) (fun k => SECOND w (ix3 n k d)) (s (ix2 (0 : Fin 1) d)) j :=
  congrArg₂ (fun a b : EReal => a + b) (congrArg₂ (fun a b : EReal => a * b) (fwd_up a n j d) (ki_apply w s n j d))
    (congrArg₂ (fun a b : EReal => a * b) (fwd_dn a n j d) (kr_apply w s n j d))

end

theorem ref_apply (a : IVec S64x128x2048 32) (w : IVec S64x128x4096 32) (s : FVec Ideal S1x2048 .f32) (n : Fin 64) (p : Fin 256) (d : Fin 2048) :
    REF a w s (ix3 n p d) = col ft gt (fun k => a (ix3 n k d)) (fun k => FIRST w (ix3 n k d)) (fun k => SECOND w (ix3 n k d)) (s (ix2 (0 : Fin 1) d)) p := by
  have hr := funext fun j => yr_apply a w s n j d
  have hi := funext fun j => yi_apply a w s n j d
  unfold col
  rcases up_or_dn p with ⟨j, rfl⟩ | ⟨j, rfl⟩
  · refine (ref_up a w s n j d).trans ((bwd_up _ _ n j d).trans ?_)
    rw [hr, hi]
  · refine (ref_dn a w s n j d).trans ((bwd_dn _ _ n j d).trans ?_)
    rw [hr, hi]

theorem ref_eq (a : IVec S64x128x2048 32) (w : IVec S64x128x4096 32) (s : FVec Ideal S1x2048 .f32) : REF a w s = SPECTRA a w s := by
  funext y
  obtain ⟨n, p, d, rfl⟩ : ∃ (n : Fin 64) (p : Fin 256) (d : Fin 2048), y = ix3 n p d :=
    ⟨y 0, y 1, y 2, by funext z; match z with | ⟨0, _⟩ => rfl | ⟨1, _⟩ => rfl | ⟨2, _⟩ => rfl⟩
  refine (ref_apply a w s n p d).trans ?_
  rw [funext fun k => first_apply w n k d, funext fun k => second_apply w n k d]
  rfl

end

theorem algebraic : Cert.algebraic_Kernel7Ideal_Reference7Ideal := by
  intro m g m' g' _ hargs
  refine ⟨fun c => (Cert.Kernel7Ideal.Gen.dats m 0 c).arrAt 6 Cert.Kernel7Ideal.cfg0.N, ?_, ?_⟩
  · exact Cert.Kernel7Ideal.Value.run_blocks m g
  · refine (θ_run Cert.Reference7Ideal.defs _ _).mono (fun r h c => ⟨(h c).1.trans ?_, (h c).2⟩) (Cert.Reference7Ideal.Value.run m' g')
    refine Eq.trans ?_ (Cert.Kernel7Ideal.RefValue.value m c).symm
    obtain ⟨a0, a1, a2⟩ := hargs c
    refine Eq.trans (b := REF (m' ((c.tc : Thread Cert.Reference7Ideal.nD Cert.Reference7Ideal.τ).loc Cert.Reference7Ideal.main_arg0))
      (m' ((c.tc : Thread Cert.Reference7Ideal.nD Cert.Reference7Ideal.τ).loc Cert.Reference7Ideal.main_arg1))
      (m' ((c.tc : Thread Cert.Reference7Ideal.nD Cert.Reference7Ideal.τ).loc Cert.Reference7Ideal.main_arg2))) rfl ?_
    rw [a0, a1, a2]
    exact ref_eq _ _ _

end Cert.Proof.Spectra

end
-- ==== Proof.lean ====
module

public import proofs.«01_k».proof.Defs
public import proofs.«01_k».proof.Proof.FlashClaims
public import proofs.«01_k».proof.Proof.ExpertsClaims
public import proofs.«01_k».proof.Proof.HyenaClaims
public import proofs.«01_k».proof.Proof.OutputClaims
public import proofs.«01_k».proof.Proof.QkvClaims
public import proofs.«01_k».proof.Proof.FilterClaims
public import proofs.«01_k».proof.Proof.SpectraClaims
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Pre_attention_inputs
public import proofs.«01_k».proof.Proof.Gen.Pre_expert_tables
public import proofs.«01_k».proof.Proof.Gen.Pre_finite_projection

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_attention_inputs.Gen.facts, Cert.Pre_expert_tables.Gen.facts, Cert.Pre_finite_projection.Gen.facts,
    Flash.frame_p, Flash.frame_pi, Flash.frame_pi_pre, Flash.frame_ri, Flash.frame_ri_pre,
    Experts.frame_p, Experts.frame_pi, Experts.frame_ri, Experts.frame_ri_pre,
    Hyena.frame_p, Hyena.frame_pi, Hyena.frame_ri, Output.frame_p, Output.frame_pi, Output.frame_ri,
    Qkv.frame_p, Qkv.frame_pi, Qkv.frame_pi_pre, Qkv.frame_ri, Qkv.frame_ri_pre,
    Filter.frame_p, Filter.frame_pi, Filter.frame_ri, Spectra.frame_p, Spectra.frame_pi, Spectra.frame_ri,
    trivial, Flash.algebraic, trivial, Experts.algebraic, trivial, Hyena.algebraic, trivial, Output.algebraic, trivial, Qkv.algebraic, trivial, Filter.algebraic,
    trivial, Spectra.algebraic⟩

end Cert.Proof

end
